-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_on_rows_of_tokens [hKernelIdeal : Cert.KernelIdeal.Facts] [hReferenceIdeal : Cert.ReferenceIdeal.Facts] [hOn_rows_of_tokens : Cert.On_rows_of_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![6, 3584]⟩ : Shape).Idx, (Cert.On_rows_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v3_0) i = v0 c i)
          ∧ (∀ i : (⟨2, ![6, 4096]⟩ : Shape).Idx, (Cert.On_rows_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v3_1) i = v1 c i)
          ∧ (∀ i : (⟨2, ![6, 4096]⟩ : Shape).Idx, (Cert.On_rows_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v3_2) i = v2 c i)
          ∧ (∀ i : (⟨3, ![6, 4096, 3072]⟩ : Shape).Idx, (Cert.On_rows_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.KernelIdeal.nD Cert.KernelIdeal.τ).loc Cert.KernelIdeal.main_v3_3) i = v3 c i)
          ∧ (∀ i : (⟨2, ![6, 4095]⟩ : Shape).Idx, (Cert.On_rows_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.KernelIdeal.nD Cert.KernelIdeal.τ).loc Cert.KernelIdeal.main_v3_4) i = v4 c i)
          ∧ (∀ i : (⟨3, ![6, 4096, 3584]⟩ : Shape).Idx, (Cert.On_rows_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.KernelIdeal.nD Cert.KernelIdeal.τ).loc Cert.KernelIdeal.main_v3_5) i = v5 c i)
          ∧ (∀ i : (⟨3, ![6, 4095, 28]⟩ : Shape).Idx, (Cert.On_rows_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 i = 1#1 → r.2.mem ((c.tc : Thread Cert.KernelIdeal.nD Cert.KernelIdeal.τ).loc Cert.KernelIdeal.main_v3_6) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![6, 3584]⟩ : Shape).Idx, (Cert.On_rows_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v10) i = v0 c i)
          ∧ (∀ i : (⟨2, ![6, 4096]⟩ : Shape).Idx, (Cert.On_rows_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v37) i = v1 c i)
          ∧ (∀ i : (⟨2, ![6, 4096]⟩ : Shape).Idx, (Cert.On_rows_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v28) i = v2 c i)
          ∧ (∀ i : (⟨3, ![6, 4096, 3072]⟩ : Shape).Idx, (Cert.On_rows_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.ReferenceIdeal.nD Cert.ReferenceIdeal.τ).loc Cert.ReferenceIdeal.main_v53_0) i = v3 c i)
          ∧ (∀ i : (⟨2, ![6, 4095]⟩ : Shape).Idx, (Cert.On_rows_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.ReferenceIdeal.nD Cert.ReferenceIdeal.τ).loc Cert.ReferenceIdeal.main_v53_1) i = v4 c i)
          ∧ (∀ i : (⟨3, ![6, 4096, 3584]⟩ : Shape).Idx, (Cert.On_rows_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.ReferenceIdeal.nD Cert.ReferenceIdeal.τ).loc Cert.ReferenceIdeal.main_v53_2) i = v5 c i)
          ∧ (∀ i : (⟨3, ![6, 4095, 28]⟩ : Shape).Idx, (Cert.On_rows_of_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 i = 1#1 → r.2.mem ((c.tc : Thread Cert.ReferenceIdeal.nD Cert.ReferenceIdeal.τ).loc Cert.ReferenceIdeal.main_v53_3) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hOn_rows_of_tokens : Cert.On_rows_of_tokens.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_rows_of_tokens (hKernelIdeal := hKernelIdeal) (hReferenceIdeal := hReferenceIdeal) (hOn_rows_of_tokens := hOn_rows_of_tokens)
-- ==== On_rows_of_tokens.lean ====
abbrev S6x4096x3584 : Shape := ⟨3, ![6, 4096, 3584]⟩
abbrev S6 : Shape := ⟨1, ![6]⟩
abbrev S6x4096 : Shape := ⟨2, ![6, 4096]⟩
abbrev S3584 : Shape := ⟨1, ![3584]⟩
abbrev S1 : Shape := ⟨1, ![1]⟩
abbrev S3584x3072 : Shape := ⟨2, ![3584, 3072]⟩
abbrev S3072 : Shape := ⟨1, ![3072]⟩
abbrev S4096 : Shape := ⟨1, ![4096]⟩
abbrev S1x4096x1 : Shape := ⟨3, ![1, 4096, 1]⟩
abbrev S_ : Shape := ⟨0, ![]⟩
abbrev S6x4096x1 : Shape := ⟨3, ![6, 4096, 1]⟩
abbrev S6x3584 : Shape := ⟨2, ![6, 3584]⟩
abbrev S6x4096x3072 : Shape := ⟨3, ![6, 4096, 3072]⟩
abbrev S6x4095 : Shape := ⟨2, ![6, 4095]⟩
abbrev S6x4095x28 : Shape := ⟨3, ![6, 4095, 28]⟩

class Facts : Prop where
  bcast_S4096_S1x4096x1_1 : S4096.BroadcastsInDim S1x4096x1 (![1] : Fin 1 → Fin S1x4096x1.rank)
  bcast_S_S1x4096x1 : S_.BroadcastsInDim S1x4096x1 (![] : Fin 0 → Fin S1x4096x1.rank)
  bcast_S1x4096x1_S6x4096x1_0_1_2 : S1x4096x1.BroadcastsInDim S6x4096x1 (![0, 1, 2] : Fin 3 → Fin S6x4096x1.rank)
  bcast_S_S6x3584 : S_.BroadcastsInDim S6x3584 (![] : Fin 0 → Fin S6x3584.rank)
  bcast_S_S6x4096 : S_.BroadcastsInDim S6x4096 (![] : Fin 0 → Fin S6x4096.rank)
  bcast_S6x4096x1_S6x4096x3072_0_1_2 : S6x4096x1.BroadcastsInDim S6x4096x3072 (![0, 1, 2] : Fin 3 → Fin S6x4096x3072.rank)
  bcast_S_S6x4095 : S_.BroadcastsInDim S6x4095 (![] : Fin 0 → Fin S6x4095.rank)
  bcast_S6x4096x1_S6x4096x3584_0_1_2 : S6x4096x1.BroadcastsInDim S6x4096x3584 (![0, 1, 2] : Fin 3 → Fin S6x4096x3584.rank)
  bcast_S_S6x4095x28 : S_.BroadcastsInDim S6x4095x28 (![] : Fin 0 → Fin S6x4095x28.rank)

variable [Facts]

def fn {F : FTy → Type} [FloatOps F] (main_arg0 : FVec F S6x4096x3584 .bf16) (main_arg1 : IVec S6 32) (main_arg2 : IVec S6x4096 32) (main_arg3 : FVec F S3584 .f32) (main_arg4 : FVec F S1 .f32) (main_arg5 : FVec F S3584x3072 .fp8e4m3) (main_arg6 : FVec F S3072 .f32) (main_arg7 : FVec F S3072 .f32) : IVec S6x3584 1 × IVec S6x4096 1 × IVec S6x4096 1 × IVec S6x4096x3072 1 × IVec S6x4095 1 × IVec S6x4096x3584 1 × IVec S6x4095x28 1 :=
  let main_v0 : IVec S4096 32 := iotaInDim S4096 32 0
  let main_v1 : IVec S1x4096x1 32 := broadcastInDim S1x4096x1 ![1] bcast_S4096_S1x4096x1_1 main_v0
  let main_c : IVec S_ 32 := constantI S_ 32 4095#32
  let main_v2 : IVec S1x4096x1 32 := broadcastInDim S1x4096x1 ![] bcast_S_S1x4096x1 main_c
  let main_v3 : IVec S1x4096x1 1 := cmpi .slt main_v1 main_v2
  let main_v4 : IVec S6x4096x1 1 := broadcastInDim S6x4096x1 ![0, 1, 2] bcast_S1x4096x1_S6x4096x1_0_1_2 main_v3
  let main_c_0 : IVec S_ 1 := constantI S_ 1 0#1
  let main_v5 : IVec S6x3584 1 := broadcastInDim S6x3584 ![] bcast_S_S6x3584 main_c_0
  let main_c_1 : IVec S_ 1 := constantI S_ 1 0#1
  let main_v6 : IVec S6x4096 1 := broadcastInDim S6x4096 ![] bcast_S_S6x4096 main_c_1
  let main_c_2 : IVec S_ 1 := constantI S_ 1 0#1
  let main_v7 : IVec S6x4096 1 := broadcastInDim S6x4096 ![] bcast_S_S6x4096 main_c_2
  let main_v8 : IVec S6x4096x3072 1 := broadcastInDim S6x4096x3072 ![0, 1, 2] bcast_S6x4096x1_S6x4096x3072_0_1_2 main_v4
  let main_c_3 : IVec S_ 1 := constantI S_ 1 1#1
  let main_v9 : IVec S6x4095 1 := broadcastInDim S6x4095 ![] bcast_S_S6x4095 main_c_3
  let main_v10 : IVec S6x4096x3584 1 := broadcastInDim S6x4096x3584 ![0, 1, 2] bcast_S6x4096x1_S6x4096x3584_0_1_2 main_v4
  let main_c_4 : IVec S_ 1 := constantI S_ 1 1#1
  let main_v11 : IVec S6x4095x28 1 := broadcastInDim S6x4095x28 ![] bcast_S_S6x4095x28 main_c_4
  (main_v5, main_v6, main_v7, main_v8, main_v9, main_v10, main_v11)
-- ==== Kernel.lean ====
abbrev S6x4096x3584 : Shape := ⟨3, ![6, 4096, 3584]⟩
abbrev S6 : Shape := ⟨1, ![6]⟩
abbrev S6x4096 : Shape := ⟨2, ![6, 4096]⟩
abbrev S3584 : Shape := ⟨1, ![3584]⟩
abbrev S1 : Shape := ⟨1, ![1]⟩
abbrev S3584x3072 : Shape := ⟨2, ![3584, 3072]⟩
abbrev S3072 : Shape := ⟨1, ![3072]⟩
abbrev S1x3584 : Shape := ⟨2, ![1, 3584]⟩
abbrev S1x3072 : Shape := ⟨2, ![1, 3072]⟩
abbrev S6x3584 : Shape := ⟨2, ![6, 3584]⟩
abbrev S6x4096x3072 : Shape := ⟨3, ![6, 4096, 3072]⟩
abbrev S6x4095 : Shape := ⟨2, ![6, 4095]⟩
abbrev S6x4095x28 : Shape := ⟨3, ![6, 4095, 28]⟩
abbrev S1x256x3584 : Shape := ⟨3, ![1, 256, 3584]⟩
abbrev S1x256x3072 : Shape := ⟨3, ![1, 256, 3072]⟩
abbrev S1x256x28 : Shape := ⟨3, ![1, 256, 28]⟩
abbrev S288x3584 : Shape := ⟨2, ![288, 3584]⟩
abbrev S264x128 : Shape := ⟨2, ![264, 128]⟩
abbrev S256x3584 : Shape := ⟨2, ![256, 3584]⟩
abbrev S256x3072 : Shape := ⟨2, ![256, 3072]⟩
abbrev S288x3072 : Shape := ⟨2, ![288, 3072]⟩
abbrev S256x128 : Shape := ⟨2, ![256, 128]⟩
abbrev S32x3584 : Shape := ⟨2, ![32, 3584]⟩
abbrev S8x128 : Shape := ⟨2, ![8, 128]⟩
abbrev S1x256x128 : Shape := ⟨3, ![1, 256, 128]⟩
abbrev S256 : Shape := ⟨1, ![256]⟩
abbrev S256x1 : Shape := ⟨2, ![256, 1]⟩
abbrev S256x28 : Shape := ⟨2, ![256, 28]⟩
abbrev S32x3072 : Shape := ⟨2, ![32, 3072]⟩
abbrev S1x128 : Shape := ⟨2, ![1, 128]⟩
abbrev S128x128 : Shape := ⟨2, ![128, 128]⟩
abbrev S6x128 : Shape := ⟨2, ![6, 128]⟩
abbrev S128 : Shape := ⟨1, ![128]⟩
abbrev S3584x512 : Shape := ⟨2, ![3584, 512]⟩
abbrev S256x512 : Shape := ⟨2, ![256, 512]⟩
abbrev S1x8x3584 : Shape := ⟨3, ![1, 8, 3584]⟩
abbrev S8x3584 : Shape := ⟨2, ![8, 3584]⟩
abbrev S8 : Shape := ⟨1, ![8]⟩
abbrev S8x1 : Shape := ⟨2, ![8, 1]⟩

abbrev nBuf : Space → Nat
  | .hbm => 17
  | .vmem => 23
  | .smem => 2
  | _ => 0

abbrev bufTy : (tb : Table) → Fin (tcTables nBuf tb) → BufTy
  | .hbm, ⟨0, _⟩ => ⟨S6x4096x3584, .bf16⟩
  | .hbm, ⟨1, _⟩ => ⟨S6x4096, .i32⟩
  | .hbm, ⟨2, _⟩ => ⟨S3584, .f32⟩
  | .hbm, ⟨3, _⟩ => ⟨S1, .f32⟩
  | .hbm, ⟨4, _⟩ => ⟨S3584x3072, .fp8e4m3⟩
  | .hbm, ⟨5, _⟩ => ⟨S3072, .f32⟩
  | .hbm, ⟨6, _⟩ => ⟨S3072, .f32⟩
  | .hbm, ⟨7, _⟩ => ⟨S1x3584, .f32⟩
  | .hbm, ⟨8, _⟩ => ⟨S1x3072, .f32⟩
  | .hbm, ⟨9, _⟩ => ⟨S1x3072, .f32⟩
  | .hbm, ⟨10, _⟩ => ⟨S6x3584, .f32⟩
  | .hbm, ⟨11, _⟩ => ⟨S6x4096, .f32⟩
  | .hbm, ⟨12, _⟩ => ⟨S6x4096, .f32⟩
  | .hbm, ⟨13, _⟩ => ⟨S6x4096x3072, .fp8e4m3⟩
  | .hbm, ⟨14, _⟩ => ⟨S6x4095, .f32⟩
  | .hbm, ⟨15, _⟩ => ⟨S6x4096x3584, .fp8e4m3⟩
  | .hbm, ⟨16, _⟩ => ⟨S6x4095x28, .f32⟩
  | .local _ .vmem, ⟨0, _⟩ => ⟨S1x256x3584, .bf16⟩
  | .local _ .vmem, ⟨1, _⟩ => ⟨S1x256x3584, .bf16⟩
  | .local _ .vmem, ⟨2, _⟩ => ⟨S6x4096, .i32⟩
  | .local _ .vmem, ⟨3, _⟩ => ⟨S1x3584, .f32⟩
  | .local _ .vmem, ⟨4, _⟩ => ⟨S3584x3072, .fp8e4m3⟩
  | .local _ .vmem, ⟨5, _⟩ => ⟨S1x3072, .f32⟩
  | .local _ .vmem, ⟨6, _⟩ => ⟨S1x3072, .f32⟩
  | .local _ .vmem, ⟨7, _⟩ => ⟨S6x3584, .f32⟩
  | .local _ .vmem, ⟨8, _⟩ => ⟨S6x4096, .f32⟩
  | .local _ .vmem, ⟨9, _⟩ => ⟨S6x4096, .f32⟩
  | .local _ .vmem, ⟨10, _⟩ => ⟨S1x256x3072, .fp8e4m3⟩
  | .local _ .vmem, ⟨11, _⟩ => ⟨S1x256x3072, .fp8e4m3⟩
  | .local _ .vmem, ⟨12, _⟩ => ⟨S6x4095, .f32⟩
  | .local _ .vmem, ⟨13, _⟩ => ⟨S1x256x3584, .fp8e4m3⟩
  | .local _ .vmem, ⟨14, _⟩ => ⟨S1x256x3584, .fp8e4m3⟩
  | .local _ .vmem, ⟨15, _⟩ => ⟨S1x256x28, .f32⟩
  | .local _ .vmem, ⟨16, _⟩ => ⟨S1x256x28, .f32⟩
  | .local _ .vmem, ⟨17, _⟩ => ⟨S288x3584, .fp8e4m3⟩
  | .local _ .vmem, ⟨18, _⟩ => ⟨S264x128, .f32⟩
  | .local _ .vmem, ⟨19, _⟩ => ⟨S256x3584, .bf16⟩
  | .local _ .vmem, ⟨20, _⟩ => ⟨S256x3072, .f32⟩
  | .local _ .vmem, ⟨21, _⟩ => ⟨S288x3072, .fp8e4m3⟩
  | .local _ .vmem, ⟨22, _⟩ => ⟨S6x4096, .f32⟩
  | .local _ .smem, ⟨0, _⟩ => ⟨S6, .i32⟩
  | .local _ .smem, ⟨1, _⟩ => ⟨S1, .f32⟩
  | _, _ => ⟨S6x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_v3_6 : Ref sig .tc := ⟨.hbm, 16, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_stg3_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![6, 16], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def k0_mult1 (i : grid0.Coords) : BitVec 32 :=
  let c15_i32 : BitVec 32 := 15#32
  let arg1 : BitVec 32 := BitVec.ofNat 32 (i 1).val
  let v0 : BitVec 32 := Scalar.subi c15_i32 arg1
  let c256_i32 : BitVec 32 := 256#32
  let v3 : BitVec 32 := Scalar.muli v0 c256_i32
  let c0_i32_850 : BitVec 32 := 0#32
  let v1894 : BitVec 32 := Scalar.addi v3 c0_i32_850
  v1894
def k0_off2 (i : grid0.Coords) (c0_i32_850 : BitVec 32) : Fin 2 → Nat :=
  let c0_851 : Index := 0#32
  let c15_i32 : BitVec 32 := 15#32
  let arg1 : BitVec 32 := BitVec.ofNat 32 (i 1).val
  let v0 : BitVec 32 := Scalar.subi c15_i32 arg1
  let c256_i32 : BitVec 32 := 256#32
  let v3 : BitVec 32 := Scalar.muli v0 c256_i32
  let v1894 : BitVec 32 := Scalar.addi v3 c0_i32_850
  let v1895 : BitVec 32 := v1894
  let v1898 : Index := Scalar.indexCast v1895
  ![0, v1898.toNat]
@[reducible] def k0_t1_loop : Scf.Loop 32 :=
  let c0_i32_856 : BitVec 32 := 0#32
  let c32_i32 : BitVec 32 := 32#32
  let v1921 : BitVec 32 := Scalar.addi c0_i32_856 c32_i32
  let c1_i32_857 : BitVec 32 := 1#32
  ⟨c0_i32_856, v1921, c1_i32_857⟩
def k0_mult2 (k0_t1 : Fin k0_t1_loop.trips) : BitVec 32 :=
  let c0_i32_856 : BitVec 32 := 0#32
  let c1_i32_857 : BitVec 32 := 1#32
  let arg23 : BitVec 32 := Scf.iv c0_i32_856 c1_i32_857 k0_t1
  let c128_i32_1231 : BitVec 32 := 128#32
  let v2787 : BitVec 32 := Scalar.muli arg23 c128_i32_1231
  v2787
def k0_off3 (k0_t1 : Fin k0_t1_loop.trips) : Fin 2 → Nat :=
  let c0_1234 : Index := 0#32
  let c0_i32_856 : BitVec 32 := 0#32
  let c1_i32_857 : BitVec 32 := 1#32
  let arg23 : BitVec 32 := Scf.iv c0_i32_856 c1_i32_857 k0_t1
  let c128_i32_1231 : BitVec 32 := 128#32
  let v2787 : BitVec 32 := Scalar.muli arg23 c128_i32_1231
  let v2788 : BitVec 32 := v2787
  let v2797 : Index := Scalar.indexCast v2788
  ![0, v2797.toNat]
def k0_mult3 (i : grid0.Coords) : BitVec 32 :=
  let c15_i32 : BitVec 32 := 15#32
  let arg1 : BitVec 32 := BitVec.ofNat 32 (i 1).val
  let v0 : BitVec 32 := Scalar.subi c15_i32 arg1
  let c256_i32 : BitVec 32 := 256#32
  let v3 : BitVec 32 := Scalar.muli v0 c256_i32
  let c128_i32 : BitVec 32 := 128#32
  let v1923 : BitVec 32 := Scalar.addi v3 c128_i32
  v1923
@[reducible] def k0_t2_loop : Scf.Loop 32 :=
  let c0_i32_864 : BitVec 32 := 0#32
  let c32_i32_865 : BitVec 32 := 32#32
  let v1950 : BitVec 32 := Scalar.addi c0_i32_864 c32_i32_865
  let c1_i32_866 : BitVec 32 := 1#32
  ⟨c0_i32_864, v1950, c1_i32_866⟩
def k0_mult4 (k0_t2 : Fin k0_t2_loop.trips) : BitVec 32 :=
  let c0_i32_864 : BitVec 32 := 0#32
  let c1_i32_866 : BitVec 32 := 1#32
  let arg23 : BitVec 32 := Scf.iv c0_i32_864 c1_i32_866 k0_t2
  let c128_i32_1231 : BitVec 32 := 128#32
  let v2787 : BitVec 32 := Scalar.muli arg23 c128_i32_1231
  v2787
def k0_off4 (k0_t2 : Fin k0_t2_loop.trips) : Fin 2 → Nat :=
  let c0_1234 : Index := 0#32
  let c0_i32_864 : BitVec 32 := 0#32
  let c1_i32_866 : BitVec 32 := 1#32
  let arg23 : BitVec 32 := Scf.iv c0_i32_864 c1_i32_866 k0_t2
  let c128_i32_1231 : BitVec 32 := 128#32
  let v2787 : BitVec 32 := Scalar.muli arg23 c128_i32_1231
  let v2788 : BitVec 32 := v2787
  let v2797 : Index := Scalar.indexCast v2788
  ![0, v2797.toNat]
def k0_mult5 (i : grid0.Coords) : BitVec 32 :=
  let c15_i32 : BitVec 32 := 15#32
  let arg1 : BitVec 32 := BitVec.ofNat 32 (i 1).val
  let v0 : BitVec 32 := Scalar.subi c15_i32 arg1
  let c256_i32 : BitVec 32 := 256#32
  let v3 : BitVec 32 := Scalar.muli v0 c256_i32
  let c0_i32_1081 : BitVec 32 := 0#32
  let v2441 : BitVec 32 := Scalar.addi v3 c0_i32_1081
  v2441
def k0_mult6 (i : grid0.Coords) : BitVec 32 :=
  let c15_i32 : BitVec 32 := 15#32
  let arg1 : BitVec 32 := BitVec.ofNat 32 (i 1).val
  let v0 : BitVec 32 := Scalar.subi c15_i32 arg1
  let c256_i32 : BitVec 32 := 256#32
  let v3 : BitVec 32 := Scalar.muli v0 c256_i32
  let c128_i32_1084 : BitVec 32 := 128#32
  let v2458 : BitVec 32 := Scalar.addi v3 c128_i32_1084
  v2458
def k0_cond4 (i : grid0.Coords) : BitVec 1 :=
  let c15_i32 : BitVec 32 := 15#32
  let arg1 : BitVec 32 := BitVec.ofNat 32 (i 1).val
  let v0 : BitVec 32 := Scalar.subi c15_i32 arg1
  let c0_i32_701 : BitVec 32 := 0#32
  let v1641 : BitVec 1 := Scalar.cmpi .eq v0 c0_i32_701
  let v1642 : BitVec 32 := Scalar.extui v1641
  let c0_i32_702 : BitVec 32 := 0#32
  let v1643 : BitVec 1 := Scalar.cmpi .ne v1642 c0_i32_702
  v1643

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let arg1 : BitVec 32 := BitVec.ofNat 32 (i 1).val
  let c0_i32_0 : BitVec 32 := 0#32
  let v6 : BitVec 1 := Scalar.cmpi .eq arg1 c0_i32_0
  let v7 : BitVec 1 := Scalar.andi v5 v6
  let v8 : BitVec 32 := Scalar.extui v7
  let c0_i32_1 : BitVec 32 := 0#32
  let v9 : BitVec 1 := Scalar.cmpi .ne v8 c0_i32_1
  v9

def k0_cond3 (i : grid0.Coords) (v2 : BitVec 32) : BitVec 1 :=
  let c15_i32 : BitVec 32 := 15#32
  let arg1 : BitVec 32 := BitVec.ofNat 32 (i 1).val
  let v0 : BitVec 32 := Scalar.subi c15_i32 arg1
  let c256_i32 : BitVec 32 := 256#32
  let v3 : BitVec 32 := Scalar.muli v0 c256_i32
  let v4 : BitVec 1 := Scalar.cmpi .slt v3 v2
  let v1635 : BitVec 32 := Scalar.extui v4
  let c0_i32_695 : BitVec 32 := 0#32
  let v1636 : BitVec 1 := Scalar.cmpi .ne v1635 c0_i32_695
  v1636

def k0_cond5 (i : grid0.Coords) : BitVec 1 :=
  let c15_i32 : BitVec 32 := 15#32
  let arg1 : BitVec 32 := BitVec.ofNat 32 (i 1).val
  let v0 : BitVec 32 := Scalar.subi c15_i32 arg1
  let c0_i32_703 : BitVec 32 := 0#32
  let v1644 : BitVec 1 := Scalar.cmpi .eq v0 c0_i32_703
  let arg0 : BitVec 32 := BitVec.ofNat 32 (i 0).val
  let c5_i32 : BitVec 32 := 5#32
  let v1645 : BitVec 1 := Scalar.cmpi .eq arg0 c5_i32
  let v1646 : BitVec 1 := Scalar.andi v1644 v1645
  let v1647 : BitVec 32 := Scalar.extui v1646
  let c0_i32_704 : BitVec 32 := 0#32
  let v1648 : BitVec 1 := Scalar.cmpi .ne v1647 c0_i32_704
  v1648

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

abbrev stage0_0 : Fin 2 → Memref sig .tc .vmem S1x256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S6x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3584x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S6x3584 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S6x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S6x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x3072 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S6x4095 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x3584 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x28 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S6x4096x3584 : Shape := ⟨3, ![6, 4096, 3584]⟩
abbrev S6 : Shape := ⟨1, ![6]⟩
abbrev S6x4096 : Shape := ⟨2, ![6, 4096]⟩
abbrev S3584 : Shape := ⟨1, ![3584]⟩
abbrev S1 : Shape := ⟨1, ![1]⟩
abbrev S3584x3072 : Shape := ⟨2, ![3584, 3072]⟩
abbrev S3072 : Shape := ⟨1, ![3072]⟩
abbrev S6x1x3584 : Shape := ⟨3, ![6, 1, 3584]⟩
abbrev S6x3584 : Shape := ⟨2, ![6, 3584]⟩
abbrev S_ : Shape := ⟨0, ![]⟩
abbrev S6x1 : Shape := ⟨2, ![6, 1]⟩
abbrev S4096 : Shape := ⟨1, ![4096]⟩
abbrev S1x4096 : Shape := ⟨2, ![1, 4096]⟩
abbrev S6x1x4096 : Shape := ⟨3, ![6, 1, 4096]⟩
abbrev S1x4096x1 : Shape := ⟨3, ![1, 4096, 1]⟩
abbrev S6x4096x4096 : Shape := ⟨3, ![6, 4096, 4096]⟩
abbrev S6x4095x3584 : Shape := ⟨3, ![6, 4095, 3584]⟩
abbrev S6x4096x28x128 : Shape := ⟨4, ![6, 4096, 28, 128]⟩
abbrev S6x4096x1 : Shape := ⟨3, ![6, 4096, 1]⟩
abbrev S1x3072 : Shape := ⟨2, ![1, 3072]⟩
abbrev S6x4096x3072 : Shape := ⟨3, ![6, 4096, 3072]⟩
abbrev S6x4095 : Shape := ⟨2, ![6, 4095]⟩
abbrev S6x4095x28 : Shape := ⟨3, ![6, 4095, 28]⟩
abbrev S24576x28x128 : Shape := ⟨3, ![24576, 28, 128]⟩
abbrev S24576x28 : Shape := ⟨2, ![24576, 28]⟩
abbrev S24576x28x1 : Shape := ⟨3, ![24576, 28, 1]⟩
abbrev S6x4096x28 : Shape := ⟨3, ![6, 4096, 28]⟩
abbrev S24576x3584 : Shape := ⟨2, ![24576, 3584]⟩
abbrev S24576x3072 : Shape := ⟨2, ![24576, 3072]⟩
abbrev S24576x1 : Shape := ⟨2, ![24576, 1]⟩
abbrev S24576 : Shape := ⟨1, ![24576]⟩

abbrev nBuf : Space → Nat
  | .hbm => 78
  | .vmem => 9
  | .smem => 0
  | _ => 0

abbrev bufTy : (tb : Table) → Fin (tcTables nBuf tb) → BufTy
  | .hbm, ⟨0, _⟩ => ⟨S6x4096x3584, .bf16⟩
  | .hbm, ⟨1, _⟩ => ⟨S6, .i32⟩
  | .hbm, ⟨2, _⟩ => ⟨S6x4096, .i32⟩
  | .hbm, ⟨3, _⟩ => ⟨S3584, .f32⟩
  | .hbm, ⟨4, _⟩ => ⟨S1, .f32⟩
  | .hbm, ⟨5, _⟩ => ⟨S3584x3072, .fp8e4m3⟩
  | .hbm, ⟨6, _⟩ => ⟨S3072, .f32⟩
  | .hbm, ⟨7, _⟩ => ⟨S3072, .f32⟩
  | .hbm, ⟨8, _⟩ => ⟨S6x4096x3584, .f32⟩
  | .hbm, ⟨9, _⟩ => ⟨S6x1x3584, .f32⟩
  | .hbm, ⟨10, _⟩ => ⟨S6x3584, .f32⟩
  | .hbm, ⟨11, _⟩ => ⟨S6x3584, .f32⟩
  | .hbm, ⟨12, _⟩ => ⟨S_, .f32⟩
  | .hbm, ⟨13, _⟩ => ⟨S6, .f32⟩
  | .hbm, ⟨14, _⟩ => ⟨S6x1, .f32⟩
  | .hbm, ⟨15, _⟩ => ⟨S6x1, .f32⟩
  | .hbm, ⟨16, _⟩ => ⟨S_, .f32⟩
  | .hbm, ⟨17, _⟩ => ⟨S6x1, .f32⟩
  | .hbm, ⟨18, _⟩ => ⟨S6x1, .f32⟩
  | .hbm, ⟨19, _⟩ => ⟨S6x3584, .f32⟩
  | .hbm, ⟨20, _⟩ => ⟨S6x3584, .f32⟩
  | .hbm, ⟨21, _⟩ => ⟨S4096, .i32⟩
  | .hbm, ⟨22, _⟩ => ⟨S1x4096, .i32⟩
  | .hbm, ⟨23, _⟩ => ⟨S_, .i32⟩
  | .hbm, ⟨24, _⟩ => ⟨S1x4096, .i32⟩
  | .hbm, ⟨25, _⟩ => ⟨S1x4096, .i1⟩
  | .hbm, ⟨26, _⟩ => ⟨S1x4096, .i32⟩
  | .hbm, ⟨27, _⟩ => ⟨S6x1, .i32⟩
  | .hbm, ⟨28, _⟩ => ⟨S6x4096, .i32⟩
  | .hbm, ⟨29, _⟩ => ⟨S6x4096, .i32⟩
  | .hbm, ⟨30, _⟩ => ⟨S6x4096, .i1⟩
  | .hbm, ⟨31, _⟩ => ⟨S6x4096, .i1⟩
  | .hbm, ⟨32, _⟩ => ⟨S6x4096, .i1⟩
  | .hbm, ⟨33, _⟩ => ⟨S6x4096, .f32⟩
  | .hbm, ⟨34, _⟩ => ⟨S_, .f32⟩
  | .hbm, ⟨35, _⟩ => ⟨S6x4096, .f32⟩
  | .hbm, ⟨36, _⟩ => ⟨S6x4096, .f32⟩
  | .hbm, ⟨37, _⟩ => ⟨S_, .f32⟩
  | .hbm, ⟨38, _⟩ => ⟨S6x4096, .f32⟩
  | .hbm, ⟨39, _⟩ => ⟨S6x4096, .f32⟩
  | .hbm, ⟨40, _⟩ => ⟨S_, .f32⟩
  | .hbm, ⟨41, _⟩ => ⟨S_, .f32⟩
  | .hbm, ⟨42, _⟩ => ⟨S6x4096, .f32⟩
  | .hbm, ⟨43, _⟩ => ⟨S6x4096, .f32⟩
  | .hbm, ⟨44, _⟩ => ⟨S4096, .i32⟩
  | .hbm, ⟨45, _⟩ => ⟨S6x1x4096, .i32⟩
  | .hbm, ⟨46, _⟩ => ⟨S1x4096x1, .i32⟩
  | .hbm, ⟨47, _⟩ => ⟨S6x4096x4096, .i32⟩
  | .hbm, ⟨48, _⟩ => ⟨S6x4096x4096, .i32⟩
  | .hbm, ⟨49, _⟩ => ⟨S6x4096x4096, .i1⟩
  | .hbm, ⟨50, _⟩ => ⟨S6x1x4096, .f32⟩
  | .hbm, ⟨51, _⟩ => ⟨S_, .f32⟩
  | .hbm, ⟨52, _⟩ => ⟨S_, .f32⟩
  | .hbm, ⟨53, _⟩ => ⟨S6x4096x4096, .f32⟩
  | .hbm, ⟨54, _⟩ => ⟨S6x4096x4096, .f32⟩
  | .hbm, ⟨55, _⟩ => ⟨S6x4096x4096, .f32⟩
  | .hbm, ⟨56, _⟩ => ⟨S_, .f32⟩
  | .hbm, ⟨57, _⟩ => ⟨S6x4096, .f32⟩
  | .hbm, ⟨58, _⟩ => ⟨S6x4095x3584, .bf16⟩
  | .hbm, ⟨59, _⟩ => ⟨S6x1x3584, .bf16⟩
  | .hbm, ⟨60, _⟩ => ⟨S6x4096x3584, .bf16⟩
  | .hbm, ⟨61, _⟩ => ⟨S1x4096, .i32⟩
  | .hbm, ⟨62, _⟩ => ⟨S_, .i32⟩
  | .hbm, ⟨63, _⟩ => ⟨S1x4096, .i32⟩
  | .hbm, ⟨64, _⟩ => ⟨S1x4096, .i32⟩
  | .hbm, ⟨65, _⟩ => ⟨S6x1, .i32⟩
  | .hbm, ⟨66, _⟩ => ⟨S6x4096, .i32⟩
  | .hbm, ⟨67, _⟩ => ⟨S6x4096, .i32⟩
  | .hbm, ⟨68, _⟩ => ⟨S6x4096, .i1⟩
  | .hbm, ⟨69, _⟩ => ⟨S6x4096, .i32⟩
  | .hbm, ⟨70, _⟩ => ⟨S6x4096x28x128, .bf16⟩
  | .hbm, ⟨71, _⟩ => ⟨S6x4096x1, .i32⟩
  | .hbm, ⟨72, _⟩ => ⟨S1x3072, .f32⟩
  | .hbm, ⟨73, _⟩ => ⟨S1x3072, .f32⟩
  | .hbm, ⟨74, _⟩ => ⟨S6x4096x3072, .fp8e4m3⟩
  | .hbm, ⟨75, _⟩ => ⟨S6x4095, .f32⟩
  | .hbm, ⟨76, _⟩ => ⟨S6x4096x3584, .fp8e4m3⟩
  | .hbm, ⟨77, _⟩ => ⟨S6x4095x28, .f32⟩
  | .local _ .vmem, ⟨0, _⟩ => ⟨S6x4096x28x128, .bf16⟩
  | .local _ .vmem, ⟨1, _⟩ => ⟨S6x4096x1, .i32⟩
  | .local _ .vmem, ⟨2, _⟩ => ⟨S3584x3072, .fp8e4m3⟩
  | .local _ .vmem, ⟨3, _⟩ => ⟨S1x3072, .f32⟩
  | .local _ .vmem, ⟨4, _⟩ => ⟨S1x3072, .f32⟩
  | .local _ .vmem, ⟨5, _⟩ => ⟨S6x4096x3072, .fp8e4m3⟩
  | .local _ .vmem, ⟨6, _⟩ => ⟨S6x4095, .f32⟩
  | .local _ .vmem, ⟨7, _⟩ => ⟨S6x4096x3584, .fp8e4m3⟩
  | .local _ .vmem, ⟨8, _⟩ => ⟨S6x4095x28, .f32⟩
  | _, _ => ⟨S6x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53_0 : Ref sig .tc := ⟨.hbm, 74, rfl⟩
abbrev main_v53_1 : Ref sig .tc := ⟨.hbm, 75, rfl⟩
abbrev main_v53_2 : Ref sig .tc := ⟨.hbm, 76, rfl⟩
abbrev main_v53_3 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S6x4096x28x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x4096x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x4096x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x4095 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x4096x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x4095x28 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Kit.lean ====
/- The launch side of the frame of `Cert.Kernel`: the schedule of the windows on the grid, what `@main` leaves in memory
   before the region, the prefetched table of lengths as the region reads it, each window's block at a point, and the
   frame's statement read off a run of the region. -/
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone , proved from the map and the fact about the
    axes it reads (`hreadsK_W`) or decided, and restated over the pinned window, which unfolds to them. A window whose
    map reads a table gets none here. -/

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_bge_heads (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    . -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S6 .i32 := Memref.whole main_arg1
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body , table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 1 rfl).trans ((hA c 1).trans (V_main_arg2 m c)),
      ((h c).2 main_arg3 (by decide : main_arg3 ∈ Pipeline.restRefs sig spec0)).trans (V_main_arg3 m c),
      (Pipeline.RDat.FramePost.arr_in h c 3 rfl).trans ((hA c 3).trans (V_main_arg4 m c)),
      (Pipeline.RDat.FramePost.arr_in h c 4 rfl).trans ((hA c 4).trans (V_main_arg5 m c)),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 (tbl m) 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 (tbl m) 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 (tbl m) 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 (tbl m) 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 (tbl m) 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 (tbl m) 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 (tbl m) 6 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x256x3584 .bf16 := spec0_0.stage ((cfgM m hO).slots t 0)
abbrev ms0_1 (hO : Ok m) (t : Fin (cfgM m hO).N) : Memref sig .tc .vmem S6x4096 .i32 := spec0_1.stage ((cfgM m hO).slots t 1)
abbrev ms0_2 (hO : Ok m) (t : Fin (cfgM m hO).N) : Memref sig .tc .vmem S1x3584 .f32 := spec0_2.stage ((cfgM m hO).slots t 2)
abbrev ms0_3 (hO : Ok m) (t : Fin (cfgM m hO).N) : Memref sig .tc .smem S1 .f32 := spec0_3.stage ((cfgM m hO).slots t 3)
abbrev ms0_4 (hO : Ok m) (t : Fin (cfgM m hO).N) : Memref sig .tc .vmem S3584x3072 .fp8e4m3 := spec0_4.stage ((cfgM m hO).slots t 4)
abbrev ms0_5 (hO : Ok m) (t : Fin (cfgM m hO).N) : Memref sig .tc .vmem S1x3072 .f32 := spec0_5.stage ((cfgM m hO).slots t 5)
abbrev ms0_6 (hO : Ok m) (t : Fin (cfgM m hO).N) : Memref sig .tc .vmem S1x3072 .f32 := spec0_6.stage ((cfgM m hO).slots t 6)
abbrev ms0_7 (hO : Ok m) (t : Fin (cfgM m hO).N) : Memref sig .tc .vmem S6x3584 .f32 := spec0_7.stage ((cfgM m hO).slots t 7)
abbrev ms0_8 (hO : Ok m) (t : Fin (cfgM m hO).N) : Memref sig .tc .vmem S6x4096 .f32 := spec0_8.stage ((cfgM m hO).slots t 8)
abbrev ms0_9 (hO : Ok m) (t : Fin (cfgM m hO).N) : Memref sig .tc .vmem S6x4096 .f32 := spec0_9.stage ((cfgM m hO).slots t 9)
abbrev ms0_10 (hO : Ok m) (t : Fin (cfgM m hO).N) : Memref sig .tc .vmem S1x256x3072 .fp8e4m3 := spec0_10.stage ((cfgM m hO).slots t 10)
abbrev ms0_11 (hO : Ok m) (t : Fin (cfgM m hO).N) : Memref sig .tc .vmem S6x4095 .f32 := spec0_11.stage ((cfgM m hO).slots t 11)
abbrev ms0_12 (hO : Ok m) (t : Fin (cfgM m hO).N) : Memref sig .tc .vmem S1x256x3584 .fp8e4m3 := spec0_12.stage ((cfgM m hO).slots t 12)
abbrev ms0_13 (hO : Ok m) (t : Fin (cfgM m hO).N) : Memref sig .tc .vmem S1x256x28 .f32 := spec0_13.stage ((cfgM m hO).slots t 13)
/-- The scratch operands: whole scoped buffers of the kernel's own, passed beside the windows. -/
abbrev scM0_0 : Memref sig .tc .vmem S288x3584 .fp8e4m3 := Memref.whole cc0_scratch0
abbrev scM0_1 : Memref sig .tc .vmem S264x128 .f32 := Memref.whole cc0_scratch1
abbrev scM0_2 : Memref sig .tc .vmem S256x3584 .bf16 := Memref.whole cc0_scratch2
abbrev scM0_3 : Memref sig .tc .vmem S256x3072 .f32 := Memref.whole cc0_scratch3
abbrev scM0_4 : Memref sig .tc .vmem S288x3072 .fp8e4m3 := Memref.whole cc0_scratch4
abbrev scM0_5 : Memref sig .tc .vmem S6x4096 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Hand

end
-- ==== Proof.Word.lean ====
/- The word of the prefetched table the body branches on, in `Cert.Kernel`. -/
module

public import proofs.«01_k».proof.Proof.Kit

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each piece the body is printed in is the piece its skeleton names. -/
def parts_eq {F : FTy → Type} [FloatOps F] :=
  And.intro (k0_part71_eq_skeleton (F := F)) <| And.intro (k0_part70_eq_skeleton (F := F)) <| And.intro (k0_part69_eq_skeleton (F := F)) <| And.intro (k0_part68_eq_skeleton (F := F)) <|
  And.intro (k0_part67_eq_skeleton (F := F)) <| And.intro (k0_part66_eq_skeleton (F := F)) <| And.intro (k0_part65_eq_skeleton (F := F)) <| And.intro (k0_part64_eq_skeleton (F := F)) <|
  And.intro (k0_part63_eq_skeleton (F := F)) <| And.intro (k0_part62_eq_skeleton (F := F)) <| And.intro (k0_part61_eq_skeleton (F := F)) <| And.intro (k0_part60_eq_skeleton (F := F)) <|
  And.intro (k0_part59_eq_skeleton (F := F)) <| And.intro (k0_part58_eq_skeleton (F := F)) <| And.intro (k0_part57_eq_skeleton (F := F)) <| And.intro (k0_part56_eq_skeleton (F := F)) <|
  And.intro (k0_part55_eq_skeleton (F := F)) <| And.intro (k0_part54_eq_skeleton (F := F)) <| And.intro (k0_part53_eq_skeleton (F := F)) <| And.intro (k0_part52_eq_skeleton (F := F)) <|
  And.intro (k0_part51_eq_skeleton (F := F)) <| And.intro (k0_part50_eq_skeleton (F := F)) <| And.intro (k0_part49_eq_skeleton (F := F)) <| And.intro (k0_part48_eq_skeleton (F := F)) <|
  And.intro (k0_part47_eq_skeleton (F := F)) <| And.intro (k0_part46_eq_skeleton (F := F)) <| And.intro (k0_part45_eq_skeleton (F := F)) <| And.intro (k0_part44_eq_skeleton (F := F)) <|
  And.intro (k0_part43_eq_skeleton (F := F)) <| And.intro (k0_part42_eq_skeleton (F := F)) <| And.intro (k0_part41_eq_skeleton (F := F)) <| And.intro (k0_part40_eq_skeleton (F := F)) <|
  And.intro (k0_part39_eq_skeleton (F := F)) <| And.intro (k0_part38_eq_skeleton (F := F)) <| And.intro (k0_part37_eq_skeleton (F := F)) <| And.intro (k0_part36_eq_skeleton (F := F)) <|
  And.intro (k0_part35_eq_skeleton (F := F)) <| And.intro (k0_part34_eq_skeleton (F := F)) <| And.intro (k0_part33_eq_skeleton (F := F)) <| And.intro (k0_part32_eq_skeleton (F := F)) <|
  And.intro (k0_part31_eq_skeleton (F := F)) <| And.intro (k0_part30_eq_skeleton (F := F)) <| And.intro (k0_part29_eq_skeleton (F := F)) <| And.intro (k0_part28_eq_skeleton (F := F)) <|
  And.intro (k0_part27_eq_skeleton (F := F)) <| And.intro (k0_part26_eq_skeleton (F := F)) <| And.intro (k0_part25_eq_skeleton (F := F)) <| And.intro (k0_part24_eq_skeleton (F := F)) <|
  And.intro (k0_part23_eq_skeleton (F := F)) <| And.intro (k0_part22_eq_skeleton (F := F)) <| And.intro (k0_part21_eq_skeleton (F := F)) <| And.intro (k0_part20_eq_skeleton (F := F)) <|
  And.intro (k0_part19_eq_skeleton (F := F)) <| And.intro (k0_part18_eq_skeleton (F := F)) <| And.intro (k0_part17_eq_skeleton (F := F)) <| And.intro (k0_part16_eq_skeleton (F := F)) <|
  And.intro (k0_part15_eq_skeleton (F := F)) <| And.intro (k0_part14_eq_skeleton (F := F)) <| And.intro (k0_part13_eq_skeleton (F := F)) <| And.intro (k0_part12_eq_skeleton (F := F)) <|
  And.intro (k0_part11_eq_skeleton (F := F)) <| And.intro (k0_part10_eq_skeleton (F := F)) <| And.intro (k0_part9_eq_skeleton (F := F)) <| And.intro (k0_part8_eq_skeleton (F := F)) <|
  And.intro (k0_part7_eq_skeleton (F := F)) <| And.intro (k0_part6_eq_skeleton (F := F)) <| And.intro (k0_part5_eq_skeleton (F := F)) <| And.intro (k0_part4_eq_skeleton (F := F)) <|
  And.intro (k0_part3_eq_skeleton (F := F)) <| And.intro (k0_part2_eq_skeleton (F := F)) <| k0_part1_eq_skeleton (F := F)

/-- The word of the table of lengths at the point's batch row: what the body reads before anything else. -/
def wrd (c : Dev nD) (i : grid0.Coords) (xt0 : TbBuf0 (F := F) c tbM0_0) : Elt F .i32 :=
  View.readAt (Elt F) tbM0_0.view (Rect.unit (s := S6) (k0_off1 i) S1.size (k0_off1_inb i)).toLoadRect xt0
    (Shape.Idx.first ((numel1_S1).symm ▸ Nat.one_pos))

/-- A tile under the length is not a padding tile: the body's second branch is not taken. -/
theorem pad_of_valid {i : grid0.Coords} {w : BitVec 32} (h : k0_cond3 i w = 1#1) :
    ¬ Scalar.cmpi .ne (Scalar.extui (Scalar.xori (Scalar.cmpi .slt (Scalar.muli (Scalar.subi 15#32 (BitVec.ofNat 32 (i 1).val)) 256#32) w) 1#1)) 0#32 = 1#1 := by
  simp only [k0_cond3] at h
  revert h
  generalize Scalar.cmpi .slt (Scalar.muli (Scalar.subi 15#32 (BitVec.ofNat 32 (i 1).val)) 256#32) w = b
  revert b; decide

/-- A tile not under the length is a padding tile. -/
theorem pad_of_not_valid {i : grid0.Coords} {w : BitVec 32} (h : ¬ k0_cond3 i w = 1#1) :
    Scalar.cmpi .ne (Scalar.extui (Scalar.xori (Scalar.cmpi .slt (Scalar.muli (Scalar.subi 15#32 (BitVec.ofNat 32 (i 1).val)) 256#32) w) 1#1)) 0#32 = 1#1 := by
  simp only [k0_cond3] at h
  revert h
  generalize Scalar.cmpi .slt (Scalar.muli (Scalar.subi 15#32 (BitVec.ofNat 32 (i 1).val)) 256#32) w = b
  revert b; decide

end Cert.Kernel.Hand

end
-- ==== Proof.RunA.lean ====
/- One case of the run of the kernel's body in `Cert.Kernel`: a triple by execution of the skeleton. -/
module

public import proofs.«01_k».proof.Proof.Word

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 3596000 in
/-- The kernel's body run whole at a point where the first-point branch is taken, the token-0 branch is not taken,
    the last-point branch is not taken, and the tile holds a token under the length: the pieces each buffer ends with
    are found by the run. -/
noncomputable def runA (c : Dev nD) (i : grid0.Coords) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole) (hc0 : k0_cond1 i = 1#1) (hc4 : ¬ k0_cond4 i = 1#1) (hc5 : ¬ k0_cond5 i = 1#1)
    (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0) (xo7 : Vec F S6x3584 .f32) (xo8 : Vec F S6x4096 .f32) (xo9 : Vec F S6x4096 .f32) (xs0 : Vec F S288x3584 .fp8e4m3) (xs1 : Vec F S264x128 .f32) (xs4 : Vec F S288x3072 .fp8e4m3) (xs5 : Vec F S6x4096 .f32)
    (hc3 : k0_cond3 i (wrd c i xt0) = 1#1) :
    Σ' (L8 : List (View.Piece (Elt F) S6x4096 .f32)), Σ' (L9 : List (View.Piece (Elt F) S6x4096 .f32)), Σ' (L10 : List (View.Piece (Elt F) S1x256x3072 .fp8e4m3)), Σ' (L12 : List (View.Piece (Elt F) S1x256x3584 .fp8e4m3)), Σ' (L13 : List (View.Piece (Elt F) S1x256x28 .f32)), Σ' (LS0 : List (View.Piece (Elt F) S288x3584 .fp8e4m3)), Σ' (LS1 : List (View.Piece (Elt F) S264x128 .f32)), Σ' (LS4 : List (View.Piece (Elt F) S288x3072 .fp8e4m3)), { LS5 : List (View.Piece (Elt F) S6x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ d, owns (c : Thread nD τ) arg14 fullShare d) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f LS4) ∗ (∃ f, arg22.view.loc (c : Thread nD τ) ↦[arg22.view.set]{fullShare} arg22.view.writes (Elt F) f LS5) ∗ tbPt0 c tbM0_0 xt0) -∗ K ⟨⟩))
          ⊢ wp frame (wpE (defs₀ (F := F)) Variants.none c none) E (cc0_bge_heads i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, fun E K => ?run⟩
  case run =>
    have hpad := pad_of_valid hc3
    unfold wrd at hc3 hpad
    simp only [cc0_bge_heads_eq_skeleton]; unfold cc0_bge_heads_skel
    simp only [parts_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%ds2, %fs2, -, HS2⟩, ⟨%ds3, %fs3, -, HS3⟩, ⟨%fs4, %hfs4, HS4⟩, ⟨%fs5, %hfs5, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg17.eq_unread hfs0; obtain rfl := harg18.eq_unread hfs1; obtain rfl := harg21.eq_unread hfs4; obtain rfl := harg22.eq_unread hfs5
    sl_exec (disch := first | sl_exact hc0 | sl_exact hc4 | sl_exact hc5 | sl_exact hc3 | sl_exact hpad)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; iexact H8
    isplitl [H9]
    · iexists _; iexact H9
    isplitl [H10]
    · iexists _; iexact H10
    isplitl [H11]
    · iexists _, _; isplitr; swap; · iexact H11
      ipureintro; rfl
    isplitl [H12]
    · iexists _; iexact H12
    isplitl [H13]
    · iexists _; iexact H13
    isplitl [HS0]
    · iexists _; iexact HS0
    isplitl [HS1]
    · iexists _; iexact HS1
    isplitl [HS2]
    · iexists _, _; isplitr; swap; · iexact HS2
      ipureintro; rfl
    isplitl [HS3]
    · iexists _, _; isplitr; swap; · iexact HS3
      ipureintro; rfl
    isplitl [HS4]
    · iexists _; iexact HS4
    isplitl [HS5]
    · iexists _; iexact HS5
    iexact HT0

end Cert.Kernel.Hand

end
-- ==== Proof.RunB.lean ====
/- One case of the run of the kernel's body in `Cert.Kernel`: a triple by execution of the skeleton. -/
module

public import proofs.«01_k».proof.Proof.Word

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 3596000 in
/-- The kernel's body run whole at a point where the first-point branch is taken, the token-0 branch is not taken,
    the last-point branch is not taken, and the tile lies past the length: the pieces each buffer ends with
    are found by the run. -/
noncomputable def runB (c : Dev nD) (i : grid0.Coords) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole) (hc0 : k0_cond1 i = 1#1) (hc4 : ¬ k0_cond4 i = 1#1) (hc5 : ¬ k0_cond5 i = 1#1)
    (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0) (xo7 : Vec F S6x3584 .f32) (xo8 : Vec F S6x4096 .f32) (xo9 : Vec F S6x4096 .f32) (xs0 : Vec F S288x3584 .fp8e4m3) (xs1 : Vec F S264x128 .f32) (xs4 : Vec F S288x3072 .fp8e4m3) (xs5 : Vec F S6x4096 .f32)
    (hc3 : ¬ k0_cond3 i (wrd c i xt0) = 1#1) :
    Σ' (L8 : List (View.Piece (Elt F) S6x4096 .f32)), Σ' (L9 : List (View.Piece (Elt F) S6x4096 .f32)), Σ' (L10 : List (View.Piece (Elt F) S1x256x3072 .fp8e4m3)), Σ' (L12 : List (View.Piece (Elt F) S1x256x3584 .fp8e4m3)), Σ' (L13 : List (View.Piece (Elt F) S1x256x28 .f32)), Σ' (LS0 : List (View.Piece (Elt F) S288x3584 .fp8e4m3)), Σ' (LS1 : List (View.Piece (Elt F) S264x128 .f32)), Σ' (LS4 : List (View.Piece (Elt F) S288x3072 .fp8e4m3)), { LS5 : List (View.Piece (Elt F) S6x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ d, owns (c : Thread nD τ) arg14 fullShare d) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f LS4) ∗ (∃ f, arg22.view.loc (c : Thread nD τ) ↦[arg22.view.set]{fullShare} arg22.view.writes (Elt F) f LS5) ∗ tbPt0 c tbM0_0 xt0) -∗ K ⟨⟩))
          ⊢ wp frame (wpE (defs₀ (F := F)) Variants.none c none) E (cc0_bge_heads i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, fun E K => ?run⟩
  case run =>
    have hpad := pad_of_not_valid hc3
    unfold wrd at hc3 hpad
    simp only [cc0_bge_heads_eq_skeleton]; unfold cc0_bge_heads_skel
    simp only [parts_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%ds2, %fs2, -, HS2⟩, ⟨%ds3, %fs3, -, HS3⟩, ⟨%fs4, %hfs4, HS4⟩, ⟨%fs5, %hfs5, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg17.eq_unread hfs0; obtain rfl := harg18.eq_unread hfs1; obtain rfl := harg21.eq_unread hfs4; obtain rfl := harg22.eq_unread hfs5
    sl_exec (disch := first | sl_exact hc0 | sl_exact hc4 | sl_exact hc5 | sl_exact hc3 | sl_exact hpad)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; iexact H8
    isplitl [H9]
    · iexists _; iexact H9
    isplitl [H10]
    · iexists _; iexact H10
    isplitl [H11]
    · iexists _, _; isplitr; swap; · iexact H11
      ipureintro; rfl
    isplitl [H12]
    · iexists _; iexact H12
    isplitl [H13]
    · iexists _; iexact H13
    isplitl [HS0]
    · iexists _; iexact HS0
    isplitl [HS1]
    · iexists _; iexact HS1
    isplitl [HS2]
    · iexists _, _; isplitr; swap; · iexact HS2
      ipureintro; rfl
    isplitl [HS3]
    · iexists _, _; isplitr; swap; · iexact HS3
      ipureintro; rfl
    isplitl [HS4]
    · iexists _; iexact HS4
    isplitl [HS5]
    · iexists _; iexact HS5
    iexact HT0

end Cert.Kernel.Hand

end
-- ==== Proof.RunC.lean ====
/- One case of the run of the kernel's body in `Cert.Kernel`: a triple by execution of the skeleton. -/
module

public import proofs.«01_k».proof.Proof.Word

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 3596000 in
/-- The kernel's body run whole at a point where the first-point branch is not taken, the token-0 branch is not taken,
    the last-point branch is not taken, and the tile holds a token under the length: the pieces each buffer ends with
    are found by the run. -/
noncomputable def runC (c : Dev nD) (i : grid0.Coords) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole) (hc0 : ¬ k0_cond1 i = 1#1) (hc4 : ¬ k0_cond4 i = 1#1) (hc5 : ¬ k0_cond5 i = 1#1)
    (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0) (xo7 : Vec F S6x3584 .f32) (xo8 : Vec F S6x4096 .f32) (xo9 : Vec F S6x4096 .f32) (xs0 : Vec F S288x3584 .fp8e4m3) (xs1 : Vec F S264x128 .f32) (xs4 : Vec F S288x3072 .fp8e4m3) (xs5 : Vec F S6x4096 .f32)
    (hc3 : k0_cond3 i (wrd c i xt0) = 1#1) :
    Σ' (L8 : List (View.Piece (Elt F) S6x4096 .f32)), Σ' (L9 : List (View.Piece (Elt F) S6x4096 .f32)), Σ' (L10 : List (View.Piece (Elt F) S1x256x3072 .fp8e4m3)), Σ' (L12 : List (View.Piece (Elt F) S1x256x3584 .fp8e4m3)), Σ' (L13 : List (View.Piece (Elt F) S1x256x28 .f32)), Σ' (LS0 : List (View.Piece (Elt F) S288x3584 .fp8e4m3)), Σ' (LS1 : List (View.Piece (Elt F) S264x128 .f32)), Σ' (LS4 : List (View.Piece (Elt F) S288x3072 .fp8e4m3)), { LS5 : List (View.Piece (Elt F) S6x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ (arg11.view.loc (c : Thread nD τ) ↦[arg11.view.set]{fullShare} arg11.view.writes (Elt F) (harg11.unread xo8) L8) ∗ (arg12.view.loc (c : Thread nD τ) ↦[arg12.view.set]{fullShare} arg12.view.writes (Elt F) (harg12.unread xo9) L9) ∗ (∃ f, arg13.view.loc (c : Thread nD τ) ↦[arg13.view.set]{fullShare} arg13.view.writes (Elt F) f L10) ∗ (∃ d, owns (c : Thread nD τ) arg14 fullShare d) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f LS4) ∗ (arg22.view.loc (c : Thread nD τ) ↦[arg22.view.set]{fullShare} arg22.view.writes (Elt F) (harg22.unread xs5) LS5) ∗ tbPt0 c tbM0_0 xt0) -∗ K ⟨⟩))
          ⊢ wp frame (wpE (defs₀ (F := F)) Variants.none c none) E (cc0_bge_heads i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, fun E K => ?run⟩
  case run =>
    have hpad := pad_of_valid hc3
    unfold wrd at hc3 hpad
    simp only [cc0_bge_heads_eq_skeleton]; unfold cc0_bge_heads_skel
    simp only [parts_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%ds2, %fs2, -, HS2⟩, ⟨%ds3, %fs3, -, HS3⟩, ⟨%fs4, %hfs4, HS4⟩, ⟨%fs5, %hfs5, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg17.eq_unread hfs0; obtain rfl := harg18.eq_unread hfs1; obtain rfl := harg21.eq_unread hfs4; obtain rfl := harg22.eq_unread hfs5
    sl_exec (disch := first | sl_exact hc0 | sl_exact hc4 | sl_exact hc5 | sl_exact hc3 | sl_exact hpad)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexact H8
    isplitl [H9]
    · iexact H9
    isplitl [H10]
    · iexists _; iexact H10
    isplitl [H11]
    · iexists _, _; isplitr; swap; · iexact H11
      ipureintro; rfl
    isplitl [H12]
    · iexists _; iexact H12
    isplitl [H13]
    · iexists _; iexact H13
    isplitl [HS0]
    · iexists _; iexact HS0
    isplitl [HS1]
    · iexists _; iexact HS1
    isplitl [HS2]
    · iexists _, _; isplitr; swap; · iexact HS2
      ipureintro; rfl
    isplitl [HS3]
    · iexists _, _; isplitr; swap; · iexact HS3
      ipureintro; rfl
    isplitl [HS4]
    · iexists _; iexact HS4
    isplitl [HS5]
    · iexact HS5
    iexact HT0

end Cert.Kernel.Hand

end
-- ==== Proof.RunD.lean ====
/- One case of the run of the kernel's body in `Cert.Kernel`: a triple by execution of the skeleton. -/
module

public import proofs.«01_k».proof.Proof.Word

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 3596000 in
/-- The kernel's body run whole at a point where the first-point branch is not taken, the token-0 branch is not taken,
    the last-point branch is not taken, and the tile lies past the length: the pieces each buffer ends with
    are found by the run. -/
noncomputable def runD (c : Dev nD) (i : grid0.Coords) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole) (hc0 : ¬ k0_cond1 i = 1#1) (hc4 : ¬ k0_cond4 i = 1#1) (hc5 : ¬ k0_cond5 i = 1#1)
    (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0) (xo7 : Vec F S6x3584 .f32) (xo8 : Vec F S6x4096 .f32) (xo9 : Vec F S6x4096 .f32) (xs0 : Vec F S288x3584 .fp8e4m3) (xs1 : Vec F S264x128 .f32) (xs4 : Vec F S288x3072 .fp8e4m3) (xs5 : Vec F S6x4096 .f32)
    (hc3 : ¬ k0_cond3 i (wrd c i xt0) = 1#1) :
    Σ' (L10 : List (View.Piece (Elt F) S1x256x3072 .fp8e4m3)), Σ' (L12 : List (View.Piece (Elt F) S1x256x3584 .fp8e4m3)), Σ' (L13 : List (View.Piece (Elt F) S1x256x28 .f32)), Σ' (LS0 : List (View.Piece (Elt F) S288x3584 .fp8e4m3)), Σ' (LS1 : List (View.Piece (Elt F) S264x128 .f32)), { LS4 : List (View.Piece (Elt F) S288x3072 .fp8e4m3) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ (∃ f, arg13.view.loc (c : Thread nD τ) ↦[arg13.view.set]{fullShare} arg13.view.writes (Elt F) f L10) ∗ (∃ d, owns (c : Thread nD τ) arg14 fullShare d) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f LS4) ∗ owns (c : Thread nD τ) arg22 fullShare xs5 ∗ tbPt0 c tbM0_0 xt0) -∗ K ⟨⟩))
          ⊢ wp frame (wpE (defs₀ (F := F)) Variants.none c none) E (cc0_bge_heads i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, fun E K => ?run⟩
  case run =>
    have hpad := pad_of_not_valid hc3
    unfold wrd at hc3 hpad
    simp only [cc0_bge_heads_eq_skeleton]; unfold cc0_bge_heads_skel
    simp only [parts_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%ds2, %fs2, -, HS2⟩, ⟨%ds3, %fs3, -, HS3⟩, ⟨%fs4, %hfs4, HS4⟩, ⟨%fs5, %hfs5, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg17.eq_unread hfs0; obtain rfl := harg18.eq_unread hfs1; obtain rfl := harg21.eq_unread hfs4; obtain rfl := harg22.eq_unread hfs5
    sl_exec (disch := first | sl_exact hc0 | sl_exact hc4 | sl_exact hc5 | sl_exact hc3 | sl_exact hpad)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; iexact H10
    isplitl [H11]
    · iexists _, _; isplitr; swap; · iexact H11
      ipureintro; rfl
    isplitl [H12]
    · iexists _; iexact H12
    isplitl [H13]
    · iexists _; iexact H13
    isplitl [HS0]
    · iexists _; iexact HS0
    isplitl [HS1]
    · iexists _; iexact HS1
    isplitl [HS2]
    · iexists _, _; isplitr; swap; · iexact HS2
      ipureintro; rfl
    isplitl [HS3]
    · iexists _, _; isplitr; swap; · iexact HS3
      ipureintro; rfl
    isplitl [HS4]
    · iexists _; iexact HS4
    isplitl [HS5]
    · iexists _; isplitr; · ipureintro; exact harg22.read_unread _
      iexact HS5
    iexact HT0

end Cert.Kernel.Hand

end
-- ==== Proof.RunE.lean ====
/- One case of the run of the kernel's body in `Cert.Kernel`: a triple by execution of the skeleton. -/
module

public import proofs.«01_k».proof.Proof.Word

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 3596000 in
/-- The kernel's body run whole at a point where the first-point branch is not taken, the token-0 branch is taken,
    the last-point branch is not taken, and the tile holds a token under the length: the pieces each buffer ends with
    are found by the run. -/
noncomputable def runE (c : Dev nD) (i : grid0.Coords) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole) (hc0 : ¬ k0_cond1 i = 1#1) (hc4 : k0_cond4 i = 1#1) (hc5 : ¬ k0_cond5 i = 1#1)
    (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0) (xo7 : Vec F S6x3584 .f32) (xo8 : Vec F S6x4096 .f32) (xo9 : Vec F S6x4096 .f32) (xs0 : Vec F S288x3584 .fp8e4m3) (xs1 : Vec F S264x128 .f32) (xs4 : Vec F S288x3072 .fp8e4m3) (xs5 : Vec F S6x4096 .f32)
    (hc3 : k0_cond3 i (wrd c i xt0) = 1#1) :
    Σ' (L7 : List (View.Piece (Elt F) S6x3584 .f32)), Σ' (L8 : List (View.Piece (Elt F) S6x4096 .f32)), Σ' (L9 : List (View.Piece (Elt F) S6x4096 .f32)), Σ' (L10 : List (View.Piece (Elt F) S1x256x3072 .fp8e4m3)), Σ' (L12 : List (View.Piece (Elt F) S1x256x3584 .fp8e4m3)), Σ' (L13 : List (View.Piece (Elt F) S1x256x28 .f32)), Σ' (LS0 : List (View.Piece (Elt F) S288x3584 .fp8e4m3)), Σ' (LS1 : List (View.Piece (Elt F) S264x128 .f32)), Σ' (LS4 : List (View.Piece (Elt F) S288x3072 .fp8e4m3)), { LS5 : List (View.Piece (Elt F) S6x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} arg10.view.writes (Elt F) (harg10.unread xo7) L7) ∗ (arg11.view.loc (c : Thread nD τ) ↦[arg11.view.set]{fullShare} arg11.view.writes (Elt F) (harg11.unread xo8) L8) ∗ (arg12.view.loc (c : Thread nD τ) ↦[arg12.view.set]{fullShare} arg12.view.writes (Elt F) (harg12.unread xo9) L9) ∗ (∃ f, arg13.view.loc (c : Thread nD τ) ↦[arg13.view.set]{fullShare} arg13.view.writes (Elt F) f L10) ∗ (∃ d, owns (c : Thread nD τ) arg14 fullShare d) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f LS4) ∗ (arg22.view.loc (c : Thread nD τ) ↦[arg22.view.set]{fullShare} arg22.view.writes (Elt F) (harg22.unread xs5) LS5) ∗ tbPt0 c tbM0_0 xt0) -∗ K ⟨⟩))
          ⊢ wp frame (wpE (defs₀ (F := F)) Variants.none c none) E (cc0_bge_heads i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, fun E K => ?run⟩
  case run =>
    have hpad := pad_of_valid hc3
    unfold wrd at hc3 hpad
    simp only [cc0_bge_heads_eq_skeleton]; unfold cc0_bge_heads_skel
    simp only [parts_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%ds2, %fs2, -, HS2⟩, ⟨%ds3, %fs3, -, HS3⟩, ⟨%fs4, %hfs4, HS4⟩, ⟨%fs5, %hfs5, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg17.eq_unread hfs0; obtain rfl := harg18.eq_unread hfs1; obtain rfl := harg21.eq_unread hfs4; obtain rfl := harg22.eq_unread hfs5
    sl_exec (disch := first | sl_exact hc0 | sl_exact hc4 | sl_exact hc5 | sl_exact hc3 | sl_exact hpad)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexact H7
    isplitl [H8]
    · iexact H8
    isplitl [H9]
    · iexact H9
    isplitl [H10]
    · iexists _; iexact H10
    isplitl [H11]
    · iexists _, _; isplitr; swap; · iexact H11
      ipureintro; rfl
    isplitl [H12]
    · iexists _; iexact H12
    isplitl [H13]
    · iexists _; iexact H13
    isplitl [HS0]
    · iexists _; iexact HS0
    isplitl [HS1]
    · iexists _; iexact HS1
    isplitl [HS2]
    · iexists _, _; isplitr; swap; · iexact HS2
      ipureintro; rfl
    isplitl [HS3]
    · iexists _, _; isplitr; swap; · iexact HS3
      ipureintro; rfl
    isplitl [HS4]
    · iexists _; iexact HS4
    isplitl [HS5]
    · iexact HS5
    iexact HT0

end Cert.Kernel.Hand

end
-- ==== Proof.RunG.lean ====
/- One case of the run of the kernel's body in `Cert.Kernel`: a triple by execution of the skeleton. -/
module

public import proofs.«01_k».proof.Proof.Word

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 3596000 in
/-- The kernel's body run whole at a point where the first-point branch is not taken, the token-0 branch is taken,
    the last-point branch is not taken, and the tile lies past the length: the pieces each buffer ends with
    are found by the run. -/
noncomputable def runG (c : Dev nD) (i : grid0.Coords) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole) (hc0 : ¬ k0_cond1 i = 1#1) (hc4 : k0_cond4 i = 1#1) (hc5 : ¬ k0_cond5 i = 1#1)
    (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0) (xo7 : Vec F S6x3584 .f32) (xo8 : Vec F S6x4096 .f32) (xo9 : Vec F S6x4096 .f32) (xs0 : Vec F S288x3584 .fp8e4m3) (xs1 : Vec F S264x128 .f32) (xs4 : Vec F S288x3072 .fp8e4m3) (xs5 : Vec F S6x4096 .f32)
    (hc3 : ¬ k0_cond3 i (wrd c i xt0) = 1#1) :
    Σ' (L7 : List (View.Piece (Elt F) S6x3584 .f32)), Σ' (L10 : List (View.Piece (Elt F) S1x256x3072 .fp8e4m3)), Σ' (L12 : List (View.Piece (Elt F) S1x256x3584 .fp8e4m3)), Σ' (L13 : List (View.Piece (Elt F) S1x256x28 .f32)), Σ' (LS0 : List (View.Piece (Elt F) S288x3584 .fp8e4m3)), Σ' (LS1 : List (View.Piece (Elt F) S264x128 .f32)), { LS4 : List (View.Piece (Elt F) S288x3072 .fp8e4m3) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} arg10.view.writes (Elt F) (harg10.unread xo7) L7) ∗ owns (c : Thread nD τ) arg11 fullShare xo8 ∗ owns (c : Thread nD τ) arg12 fullShare xo9 ∗ (∃ f, arg13.view.loc (c : Thread nD τ) ↦[arg13.view.set]{fullShare} arg13.view.writes (Elt F) f L10) ∗ (∃ d, owns (c : Thread nD τ) arg14 fullShare d) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f LS4) ∗ owns (c : Thread nD τ) arg22 fullShare xs5 ∗ tbPt0 c tbM0_0 xt0) -∗ K ⟨⟩))
          ⊢ wp frame (wpE (defs₀ (F := F)) Variants.none c none) E (cc0_bge_heads i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, fun E K => ?run⟩
  case run =>
    have hpad := pad_of_not_valid hc3
    unfold wrd at hc3 hpad
    simp only [cc0_bge_heads_eq_skeleton]; unfold cc0_bge_heads_skel
    simp only [parts_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%ds2, %fs2, -, HS2⟩, ⟨%ds3, %fs3, -, HS3⟩, ⟨%fs4, %hfs4, HS4⟩, ⟨%fs5, %hfs5, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg17.eq_unread hfs0; obtain rfl := harg18.eq_unread hfs1; obtain rfl := harg21.eq_unread hfs4; obtain rfl := harg22.eq_unread hfs5
    sl_exec (disch := first | sl_exact hc0 | sl_exact hc4 | sl_exact hc5 | sl_exact hc3 | sl_exact hpad)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexact H7
    isplitl [H8]
    · iexists _; isplitr; · ipureintro; exact harg11.read_unread _
      iexact H8
    isplitl [H9]
    · iexists _; isplitr; · ipureintro; exact harg12.read_unread _
      iexact H9
    isplitl [H10]
    · iexists _; iexact H10
    isplitl [H11]
    · iexists _, _; isplitr; swap; · iexact H11
      ipureintro; rfl
    isplitl [H12]
    · iexists _; iexact H12
    isplitl [H13]
    · iexists _; iexact H13
    isplitl [HS0]
    · iexists _; iexact HS0
    isplitl [HS1]
    · iexists _; iexact HS1
    isplitl [HS2]
    · iexists _, _; isplitr; swap; · iexact HS2
      ipureintro; rfl
    isplitl [HS3]
    · iexists _, _; isplitr; swap; · iexact HS3
      ipureintro; rfl
    isplitl [HS4]
    · iexists _; iexact HS4
    isplitl [HS5]
    · iexists _; isplitr; · ipureintro; exact harg22.read_unread _
      iexact HS5
    iexact HT0

end Cert.Kernel.Hand

end
-- ==== Proof.RunH.lean ====
/- One case of the run of the kernel's body in `Cert.Kernel`: a triple by execution of the skeleton. -/
module

public import proofs.«01_k».proof.Proof.Word

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 3596000 in
/-- The kernel's body run whole at a point where the first-point branch is not taken, the token-0 branch is taken,
    the last-point branch is taken, and the tile holds a token under the length: the pieces each buffer ends with
    are found by the run. -/
noncomputable def runH (c : Dev nD) (i : grid0.Coords) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole) (hc0 : ¬ k0_cond1 i = 1#1) (hc4 : k0_cond4 i = 1#1) (hc5 : k0_cond5 i = 1#1)
    (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0) (xo7 : Vec F S6x3584 .f32) (xo8 : Vec F S6x4096 .f32) (xo9 : Vec F S6x4096 .f32) (xs0 : Vec F S288x3584 .fp8e4m3) (xs1 : Vec F S264x128 .f32) (xs4 : Vec F S288x3072 .fp8e4m3) (xs5 : Vec F S6x4096 .f32)
    (hc3 : k0_cond3 i (wrd c i xt0) = 1#1) :
    Σ' (L7 : List (View.Piece (Elt F) S6x3584 .f32)), Σ' (L8 : List (View.Piece (Elt F) S6x4096 .f32)), Σ' (L9 : List (View.Piece (Elt F) S6x4096 .f32)), Σ' (L10 : List (View.Piece (Elt F) S1x256x3072 .fp8e4m3)), Σ' (L11 : List (View.Piece (Elt F) S6x4095 .f32)), Σ' (L12 : List (View.Piece (Elt F) S1x256x3584 .fp8e4m3)), Σ' (L13 : List (View.Piece (Elt F) S1x256x28 .f32)), Σ' (LS0 : List (View.Piece (Elt F) S288x3584 .fp8e4m3)), Σ' (LS1 : List (View.Piece (Elt F) S264x128 .f32)), Σ' (LS4 : List (View.Piece (Elt F) S288x3072 .fp8e4m3)), { LS5 : List (View.Piece (Elt F) S6x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} arg10.view.writes (Elt F) (harg10.unread xo7) L7) ∗ (arg11.view.loc (c : Thread nD τ) ↦[arg11.view.set]{fullShare} arg11.view.writes (Elt F) (harg11.unread xo8) L8) ∗ (arg12.view.loc (c : Thread nD τ) ↦[arg12.view.set]{fullShare} arg12.view.writes (Elt F) (harg12.unread xo9) L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f LS4) ∗ (arg22.view.loc (c : Thread nD τ) ↦[arg22.view.set]{fullShare} arg22.view.writes (Elt F) (harg22.unread xs5) LS5) ∗ tbPt0 c tbM0_0 xt0) -∗ K ⟨⟩))
          ⊢ wp frame (wpE (defs₀ (F := F)) Variants.none c none) E (cc0_bge_heads i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, fun E K => ?run⟩
  case run =>
    have hpad := pad_of_valid hc3
    unfold wrd at hc3 hpad
    simp only [cc0_bge_heads_eq_skeleton]; unfold cc0_bge_heads_skel
    simp only [parts_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%ds2, %fs2, -, HS2⟩, ⟨%ds3, %fs3, -, HS3⟩, ⟨%fs4, %hfs4, HS4⟩, ⟨%fs5, %hfs5, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg17.eq_unread hfs0; obtain rfl := harg18.eq_unread hfs1; obtain rfl := harg21.eq_unread hfs4; obtain rfl := harg22.eq_unread hfs5
    sl_exec (disch := first | sl_exact hc0 | sl_exact hc4 | sl_exact hc5 | sl_exact hc3 | sl_exact hpad)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexact H7
    isplitl [H8]
    · iexact H8
    isplitl [H9]
    · iexact H9
    isplitl [H10]
    · iexists _; iexact H10
    isplitl [H11]
    · iexists _; iexact H11
    isplitl [H12]
    · iexists _; iexact H12
    isplitl [H13]
    · iexists _; iexact H13
    isplitl [HS0]
    · iexists _; iexact HS0
    isplitl [HS1]
    · iexists _; iexact HS1
    isplitl [HS2]
    · iexists _, _; isplitr; swap; · iexact HS2
      ipureintro; rfl
    isplitl [HS3]
    · iexists _, _; isplitr; swap; · iexact HS3
      ipureintro; rfl
    isplitl [HS4]
    · iexists _; iexact HS4
    isplitl [HS5]
    · iexact HS5
    iexact HT0

end Cert.Kernel.Hand

end
-- ==== Proof.RunI.lean ====
/- One case of the run of the kernel's body in `Cert.Kernel`: a triple by execution of the skeleton. -/
module

public import proofs.«01_k».proof.Proof.Word

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 3596000 in
/-- The kernel's body run whole at a point where the first-point branch is not taken, the token-0 branch is taken,
    the last-point branch is taken, and the tile lies past the length: the pieces each buffer ends with
    are found by the run. -/
noncomputable def runI (c : Dev nD) (i : grid0.Coords) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole) (hc0 : ¬ k0_cond1 i = 1#1) (hc4 : k0_cond4 i = 1#1) (hc5 : k0_cond5 i = 1#1)
    (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0) (xo7 : Vec F S6x3584 .f32) (xo8 : Vec F S6x4096 .f32) (xo9 : Vec F S6x4096 .f32) (xs0 : Vec F S288x3584 .fp8e4m3) (xs1 : Vec F S264x128 .f32) (xs4 : Vec F S288x3072 .fp8e4m3) (xs5 : Vec F S6x4096 .f32)
    (hc3 : ¬ k0_cond3 i (wrd c i xt0) = 1#1) :
    Σ' (L7 : List (View.Piece (Elt F) S6x3584 .f32)), Σ' (L10 : List (View.Piece (Elt F) S1x256x3072 .fp8e4m3)), Σ' (L11 : List (View.Piece (Elt F) S6x4095 .f32)), Σ' (L12 : List (View.Piece (Elt F) S1x256x3584 .fp8e4m3)), Σ' (L13 : List (View.Piece (Elt F) S1x256x28 .f32)), Σ' (LS0 : List (View.Piece (Elt F) S288x3584 .fp8e4m3)), Σ' (LS1 : List (View.Piece (Elt F) S264x128 .f32)), { LS4 : List (View.Piece (Elt F) S288x3072 .fp8e4m3) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} arg10.view.writes (Elt F) (harg10.unread xo7) L7) ∗ owns (c : Thread nD τ) arg11 fullShare xo8 ∗ owns (c : Thread nD τ) arg12 fullShare xo9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f LS4) ∗ owns (c : Thread nD τ) arg22 fullShare xs5 ∗ tbPt0 c tbM0_0 xt0) -∗ K ⟨⟩))
          ⊢ wp frame (wpE (defs₀ (F := F)) Variants.none c none) E (cc0_bge_heads i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun E K => ?run⟩
  case run =>
    have hpad := pad_of_not_valid hc3
    unfold wrd at hc3 hpad
    simp only [cc0_bge_heads_eq_skeleton]; unfold cc0_bge_heads_skel
    simp only [parts_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%ds2, %fs2, -, HS2⟩, ⟨%ds3, %fs3, -, HS3⟩, ⟨%fs4, %hfs4, HS4⟩, ⟨%fs5, %hfs5, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg17.eq_unread hfs0; obtain rfl := harg18.eq_unread hfs1; obtain rfl := harg21.eq_unread hfs4; obtain rfl := harg22.eq_unread hfs5
    sl_exec (disch := first | sl_exact hc0 | sl_exact hc4 | sl_exact hc5 | sl_exact hc3 | sl_exact hpad)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexact H7
    isplitl [H8]
    · iexists _; isplitr; · ipureintro; exact harg11.read_unread _
      iexact H8
    isplitl [H9]
    · iexists _; isplitr; · ipureintro; exact harg12.read_unread _
      iexact H9
    isplitl [H10]
    · iexists _; iexact H10
    isplitl [H11]
    · iexists _; iexact H11
    isplitl [H12]
    · iexists _; iexact H12
    isplitl [H13]
    · iexists _; iexact H13
    isplitl [HS0]
    · iexists _; iexact HS0
    isplitl [HS1]
    · iexists _; iexact HS1
    isplitl [HS2]
    · iexists _, _; isplitr; swap; · iexact HS2
      ipureintro; rfl
    isplitl [HS3]
    · iexists _, _; isplitr; swap; · iexact HS3
      ipureintro; rfl
    isplitl [HS4]
    · iexists _; iexact HS4
    isplitl [HS5]
    · iexists _; isplitr; · ipureintro; exact harg22.read_unread _
      iexact HS5
    iexact HT0

end Cert.Kernel.Hand

end
-- ==== Proof.Body.lean ====
/- The kernel's body at any point, in `Cert.Kernel`: its eight cases as one triple that names the inputs alone. -/
module

public import proofs.«01_k».proof.Proof.RunA
public import proofs.«01_k».proof.Proof.RunB
public import proofs.«01_k».proof.Proof.RunC
public import proofs.«01_k».proof.Proof.RunD
public import proofs.«01_k».proof.Proof.RunE
public import proofs.«01_k».proof.Proof.RunG
public import proofs.«01_k».proof.Proof.RunH
public import proofs.«01_k».proof.Proof.RunI

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point of the grid is neither a token-0 point nor the last. -/
theorem first_only (t : Fin 96) : k0_cond1 (grid0.coords t) = 1#1 → ¬ k0_cond4 (grid0.coords t) = 1#1 ∧ ¬ k0_cond5 (grid0.coords t) = 1#1 := by
  revert t; decide +kernel

/-- The last point of the grid is a token-0 point. -/
theorem last_cls (t : Fin 96) : k0_cond5 (grid0.coords t) = 1#1 → k0_cond4 (grid0.coords t) = 1#1 := by
  revert t; decide +kernel

/-- A buffer with stores written into it is a buffer at some contents. -/
theorem loose_writes {S : Shape} {e : EltTy} {sp : Space} (c : Dev nD) (M : Memref sig .tc sp S e) (L : List (View.Piece (Elt F) S e)) :
    (iprop(∃ f, M.view.loc (c : Thread nD τ) ↦[M.view.set]{fullShare} M.view.writes (Elt F) f L) : sProp 𝕄) ⊢ iprop(∃ d, owns (c : Thread nD τ) M fullShare d) := by
  unfold owns
  iintro ⟨%f, H⟩
  iexists _, _; isplitr; swap; · iexact H
  ipureintro; rfl

theorem loose_writes' {S : Shape} {e : EltTy} {sp : Space} (c : Dev nD) (M : Memref sig .tc sp S e) (f) (L : List (View.Piece (Elt F) S e)) :
    (iprop(M.view.loc (c : Thread nD τ) ↦[M.view.set]{fullShare} M.view.writes (Elt F) f L) : sProp 𝕄) ⊢ iprop(∃ d, owns (c : Thread nD τ) M fullShare d) := by
  unfold owns
  iintro H
  iexists _, _; isplitr; swap; · iexact H
  ipureintro; rfl

section

variable (c : Dev nD) (i : grid0.Coords) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole)
variable (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0)

/-- The triple of the body that names its inputs alone: every other buffer is handed and left at some contents. -/
def Loose : Prop :=
  ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ tbPt0 c tbM0_0 xt0) -∗ K ⟨⟩))
          ⊢ wp frame (wpE (defs₀ (F := F)) Variants.none c none) E (cc0_bge_heads i tbM0_0 htbM0_0 _ harg3 _ harg4 _ harg5 _ harg6 _ harg7 _ harg8 _ harg9 _ harg10 _ harg11 _ harg12 _ harg13 _ harg14 _ harg15 _ harg16 _ harg17 _ harg18 _ harg19 _ harg20 _ harg21 _ harg22) K

/-- Case A of the body, naming the inputs alone. -/
theorem looseA (hc0 : k0_cond1 i = 1#1) (hc4 : ¬ k0_cond4 i = 1#1) (hc5 : ¬ k0_cond5 i = 1#1) (hc3 : k0_cond3 i (wrd c i xt0) = 1#1) :
    Loose c i _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 := by
  intro E K
  iintro ⟨H0, H1, H2, H3, H4, H5, H6, ⟨%dH7, H7⟩, ⟨%dH8, H8⟩, ⟨%dH9, H9⟩, H10, H11, H12, H13, ⟨%dHS0, HS0⟩, ⟨%dHS1, HS1⟩, HS2, HS3, ⟨%dHS4, HS4⟩, ⟨%dHS5, HS5⟩, HT, Hk⟩
  iapply ((runA c i _ _ _ _ _ _ _ _ _ _ _ _ _ _ _ _ _ _ _ _ _ _ _ _ _ _ _ _ _ _ _ _ _ _ _ _ _ _ _ _ hc0 hc4 hc5 x0 x1 x2 x3 x4 x5 x6 xt0 dH7 dH8 dH9 dHS0 dHS1 dHS4 dHS5 hc3).2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, H9, H10, H11, H12, H13, HS0, HS1, HS2, HS3, HS4, HS5, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iapply (loose_writes c _ _); iexact H8
  isplitl [H9]; · iapply (loose_writes c _ _); iexact H9
  isplitl [H10]; · iapply (loose_writes c _ _); iexact H10
  isplitl [H11]; · iexact H11
  isplitl [H12]; · iapply (loose_writes c _ _); iexact H12
  isplitl [H13]; · iapply (loose_writes c _ _); iexact H13
  isplitl [HS0]; · iapply (loose_writes c _ _); iexact HS0
  isplitl [HS1]; · iapply (loose_writes c _ _); iexact HS1
  isplitl [HS2]; · iexact HS2
  isplitl [HS3]; · iexact HS3
  isplitl [HS4]; · iapply (loose_writes c _ _); iexact HS4
  isplitl [HS5]; · iapply (loose_writes c _ _); iexact HS5
  iexact HT

/-- Case B of the body, naming the inputs alone. -/
theorem looseB (hc0 : k0_cond1 i = 1#1) (hc4 : ¬ k0_cond4 i = 1#1) (hc5 : ¬ k0_cond5 i = 1#1) (hc3 : ¬ k0_cond3 i (wrd c i xt0) = 1#1) :
    Loose c i _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 := by
  intro E K
  iintro ⟨H0, H1, H2, H3, H4, H5, H6, ⟨%dH7, H7⟩, ⟨%dH8, H8⟩, ⟨%dH9, H9⟩, H10, H11, H12, H13, ⟨%dHS0, HS0⟩, ⟨%dHS1, HS1⟩, HS2, HS3, ⟨%dHS4, HS4⟩, ⟨%dHS5, HS5⟩, HT, Hk⟩
  iapply ((runB c i _ _ _ _ _ _ _ _ _ _ _ _ _ _ _ _ _ _ _ _ _ _ _ _ _ _ _ _ _ _ _ _ _ _ _ _ _ _ _ _ hc0 hc4 hc5 x0 x1 x2 x3 x4 x5 x6 xt0 dH7 dH8 dH9 dHS0 dHS1 dHS4 dHS5 hc3).2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, H9, H10, H11, H12, H13, HS0, HS1, HS2, HS3, HS4, HS5, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iapply (loose_writes c _ _); iexact H8
  isplitl [H9]; · iapply (loose_writes c _ _); iexact H9
  isplitl [H10]; · iapply (loose_writes c _ _); iexact H10
  isplitl [H11]; · iexact H11
  isplitl [H12]; · iapply (loose_writes c _ _); iexact H12
  isplitl [H13]; · iapply (loose_writes c _ _); iexact H13
  isplitl [HS0]; · iapply (loose_writes c _ _); iexact HS0
  isplitl [HS1]; · iapply (loose_writes c _ _); iexact HS1
  isplitl [HS2]; · iexact HS2
  isplitl [HS3]; · iexact HS3
  isplitl [HS4]; · iapply (loose_writes c _ _); iexact HS4
  isplitl [HS5]; · iapply (loose_writes c _ _); iexact HS5
  iexact HT

/-- Case C of the body, naming the inputs alone. -/
theorem looseC (hc0 : ¬ k0_cond1 i = 1#1) (hc4 : ¬ k0_cond4 i = 1#1) (hc5 : ¬ k0_cond5 i = 1#1) (hc3 : k0_cond3 i (wrd c i xt0) = 1#1) :
    Loose c i _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 := by
  intro E K
  iintro ⟨H0, H1, H2, H3, H4, H5, H6, ⟨%dH7, H7⟩, ⟨%dH8, H8⟩, ⟨%dH9, H9⟩, H10, H11, H12, H13, ⟨%dHS0, HS0⟩, ⟨%dHS1, HS1⟩, HS2, HS3, ⟨%dHS4, HS4⟩, ⟨%dHS5, HS5⟩, HT, Hk⟩
  iapply ((runC c i _ _ _ _ _ _ _ _ _ _ _ _ _ _ _ _ _ _ _ _ _ _ _ _ _ _ _ _ _ _ _ _ _ _ _ _ _ _ _ _ hc0 hc4 hc5 x0 x1 x2 x3 x4 x5 x6 xt0 dH7 dH8 dH9 dHS0 dHS1 dHS4 dHS5 hc3).2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, H9, H10, H11, H12, H13, HS0, HS1, HS2, HS3, HS4, HS5, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iapply (loose_writes' c _ _ _); iexact H8
  isplitl [H9]; · iapply (loose_writes' c _ _ _); iexact H9
  isplitl [H10]; · iapply (loose_writes c _ _); iexact H10
  isplitl [H11]; · iexact H11
  isplitl [H12]; · iapply (loose_writes c _ _); iexact H12
  isplitl [H13]; · iapply (loose_writes c _ _); iexact H13
  isplitl [HS0]; · iapply (loose_writes c _ _); iexact HS0
  isplitl [HS1]; · iapply (loose_writes c _ _); iexact HS1
  isplitl [HS2]; · iexact HS2
  isplitl [HS3]; · iexact HS3
  isplitl [HS4]; · iapply (loose_writes c _ _); iexact HS4
  isplitl [HS5]; · iapply (loose_writes' c _ _ _); iexact HS5
  iexact HT

/-- Case D of the body, naming the inputs alone. -/
theorem looseD (hc0 : ¬ k0_cond1 i = 1#1) (hc4 : ¬ k0_cond4 i = 1#1) (hc5 : ¬ k0_cond5 i = 1#1) (hc3 : ¬ k0_cond3 i (wrd c i xt0) = 1#1) :
    Loose c i _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 := by
  intro E K
  iintro ⟨H0, H1, H2, H3, H4, H5, H6, ⟨%dH7, H7⟩, ⟨%dH8, H8⟩, ⟨%dH9, H9⟩, H10, H11, H12, H13, ⟨%dHS0, HS0⟩, ⟨%dHS1, HS1⟩, HS2, HS3, ⟨%dHS4, HS4⟩, ⟨%dHS5, HS5⟩, HT, Hk⟩
  iapply ((runD c i _ _ _ _ _ _ _ _ _ _ _ _ _ _ _ _ _ _ _ _ _ _ _ _ _ _ _ _ _ _ _ _ _ _ _ _ _ _ _ _ hc0 hc4 hc5 x0 x1 x2 x3 x4 x5 x6 xt0 dH7 dH8 dH9 dHS0 dHS1 dHS4 dHS5 hc3).2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, H9, H10, H11, H12, H13, HS0, HS1, HS2, HS3, HS4, HS5, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iapply (loose_writes c _ _); iexact H10
  isplitl [H11]; · iexact H11
  isplitl [H12]; · iapply (loose_writes c _ _); iexact H12
  isplitl [H13]; · iapply (loose_writes c _ _); iexact H13
  isplitl [HS0]; · iapply (loose_writes c _ _); iexact HS0
  isplitl [HS1]; · iapply (loose_writes c _ _); iexact HS1
  isplitl [HS2]; · iexact HS2
  isplitl [HS3]; · iexact HS3
  isplitl [HS4]; · iapply (loose_writes c _ _); iexact HS4
  isplitl [HS5]; · iexists _; iexact HS5
  iexact HT

/-- Case E of the body, naming the inputs alone. -/
theorem looseE (hc0 : ¬ k0_cond1 i = 1#1) (hc4 : k0_cond4 i = 1#1) (hc5 : ¬ k0_cond5 i = 1#1) (hc3 : k0_cond3 i (wrd c i xt0) = 1#1) :
    Loose c i _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 := by
  intro E K
  iintro ⟨H0, H1, H2, H3, H4, H5, H6, ⟨%dH7, H7⟩, ⟨%dH8, H8⟩, ⟨%dH9, H9⟩, H10, H11, H12, H13, ⟨%dHS0, HS0⟩, ⟨%dHS1, HS1⟩, HS2, HS3, ⟨%dHS4, HS4⟩, ⟨%dHS5, HS5⟩, HT, Hk⟩
  iapply ((runE c i _ _ _ _ _ _ _ _ _ _ _ _ _ _ _ _ _ _ _ _ _ _ _ _ _ _ _ _ _ _ _ _ _ _ _ _ _ _ _ _ hc0 hc4 hc5 x0 x1 x2 x3 x4 x5 x6 xt0 dH7 dH8 dH9 dHS0 dHS1 dHS4 dHS5 hc3).2.2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, H9, H10, H11, H12, H13, HS0, HS1, HS2, HS3, HS4, HS5, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (loose_writes' c _ _ _); iexact H7
  isplitl [H8]; · iapply (loose_writes' c _ _ _); iexact H8
  isplitl [H9]; · iapply (loose_writes' c _ _ _); iexact H9
  isplitl [H10]; · iapply (loose_writes c _ _); iexact H10
  isplitl [H11]; · iexact H11
  isplitl [H12]; · iapply (loose_writes c _ _); iexact H12
  isplitl [H13]; · iapply (loose_writes c _ _); iexact H13
  isplitl [HS0]; · iapply (loose_writes c _ _); iexact HS0
  isplitl [HS1]; · iapply (loose_writes c _ _); iexact HS1
  isplitl [HS2]; · iexact HS2
  isplitl [HS3]; · iexact HS3
  isplitl [HS4]; · iapply (loose_writes c _ _); iexact HS4
  isplitl [HS5]; · iapply (loose_writes' c _ _ _); iexact HS5
  iexact HT

/-- Case G of the body, naming the inputs alone. -/
theorem looseG (hc0 : ¬ k0_cond1 i = 1#1) (hc4 : k0_cond4 i = 1#1) (hc5 : ¬ k0_cond5 i = 1#1) (hc3 : ¬ k0_cond3 i (wrd c i xt0) = 1#1) :
    Loose c i _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 := by
  intro E K
  iintro ⟨H0, H1, H2, H3, H4, H5, H6, ⟨%dH7, H7⟩, ⟨%dH8, H8⟩, ⟨%dH9, H9⟩, H10, H11, H12, H13, ⟨%dHS0, HS0⟩, ⟨%dHS1, HS1⟩, HS2, HS3, ⟨%dHS4, HS4⟩, ⟨%dHS5, HS5⟩, HT, Hk⟩
  iapply ((runG c i _ _ _ _ _ _ _ _ _ _ _ _ _ _ _ _ _ _ _ _ _ _ _ _ _ _ _ _ _ _ _ _ _ _ _ _ _ _ _ _ hc0 hc4 hc5 x0 x1 x2 x3 x4 x5 x6 xt0 dH7 dH8 dH9 dHS0 dHS1 dHS4 dHS5 hc3).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, H9, H10, H11, H12, H13, HS0, HS1, HS2, HS3, HS4, HS5, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (loose_writes' c _ _ _); iexact H7
  isplitl [H8]; · iexists _; iexact H8
  isplitl [H9]; · iexists _; iexact H9
  isplitl [H10]; · iapply (loose_writes c _ _); iexact H10
  isplitl [H11]; · iexact H11
  isplitl [H12]; · iapply (loose_writes c _ _); iexact H12
  isplitl [H13]; · iapply (loose_writes c _ _); iexact H13
  isplitl [HS0]; · iapply (loose_writes c _ _); iexact HS0
  isplitl [HS1]; · iapply (loose_writes c _ _); iexact HS1
  isplitl [HS2]; · iexact HS2
  isplitl [HS3]; · iexact HS3
  isplitl [HS4]; · iapply (loose_writes c _ _); iexact HS4
  isplitl [HS5]; · iexists _; iexact HS5
  iexact HT

/-- Case H of the body, naming the inputs alone. -/
theorem looseH (hc0 : ¬ k0_cond1 i = 1#1) (hc4 : k0_cond4 i = 1#1) (hc5 : k0_cond5 i = 1#1) (hc3 : k0_cond3 i (wrd c i xt0) = 1#1) :
    Loose c i _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 := by
  intro E K
  iintro ⟨H0, H1, H2, H3, H4, H5, H6, ⟨%dH7, H7⟩, ⟨%dH8, H8⟩, ⟨%dH9, H9⟩, H10, H11, H12, H13, ⟨%dHS0, HS0⟩, ⟨%dHS1, HS1⟩, HS2, HS3, ⟨%dHS4, HS4⟩, ⟨%dHS5, HS5⟩, HT, Hk⟩
  iapply ((runH c i _ _ _ _ _ _ _ _ _ _ _ _ _ _ _ _ _ _ _ _ _ _ _ _ _ _ _ _ _ _ _ _ _ _ _ _ _ _ _ _ hc0 hc4 hc5 x0 x1 x2 x3 x4 x5 x6 xt0 dH7 dH8 dH9 dHS0 dHS1 dHS4 dHS5 hc3).2.2.2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, H9, H10, H11, H12, H13, HS0, HS1, HS2, HS3, HS4, HS5, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (loose_writes' c _ _ _); iexact H7
  isplitl [H8]; · iapply (loose_writes' c _ _ _); iexact H8
  isplitl [H9]; · iapply (loose_writes' c _ _ _); iexact H9
  isplitl [H10]; · iapply (loose_writes c _ _); iexact H10
  isplitl [H11]; · iapply (loose_writes c _ _); iexact H11
  isplitl [H12]; · iapply (loose_writes c _ _); iexact H12
  isplitl [H13]; · iapply (loose_writes c _ _); iexact H13
  isplitl [HS0]; · iapply (loose_writes c _ _); iexact HS0
  isplitl [HS1]; · iapply (loose_writes c _ _); iexact HS1
  isplitl [HS2]; · iexact HS2
  isplitl [HS3]; · iexact HS3
  isplitl [HS4]; · iapply (loose_writes c _ _); iexact HS4
  isplitl [HS5]; · iapply (loose_writes' c _ _ _); iexact HS5
  iexact HT

/-- Case I of the body, naming the inputs alone. -/
theorem looseI (hc0 : ¬ k0_cond1 i = 1#1) (hc4 : k0_cond4 i = 1#1) (hc5 : k0_cond5 i = 1#1) (hc3 : ¬ k0_cond3 i (wrd c i xt0) = 1#1) :
    Loose c i _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 := by
  intro E K
  iintro ⟨H0, H1, H2, H3, H4, H5, H6, ⟨%dH7, H7⟩, ⟨%dH8, H8⟩, ⟨%dH9, H9⟩, H10, H11, H12, H13, ⟨%dHS0, HS0⟩, ⟨%dHS1, HS1⟩, HS2, HS3, ⟨%dHS4, HS4⟩, ⟨%dHS5, HS5⟩, HT, Hk⟩
  iapply ((runI c i _ _ _ _ _ _ _ _ _ _ _ _ _ _ _ _ _ _ _ _ _ _ _ _ _ _ _ _ _ _ _ _ _ _ _ _ _ _ _ _ hc0 hc4 hc5 x0 x1 x2 x3 x4 x5 x6 xt0 dH7 dH8 dH9 dHS0 dHS1 dHS4 dHS5 hc3).2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, H9, H10, H11, H12, H13, HS0, HS1, HS2, HS3, HS4, HS5, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (loose_writes' c _ _ _); iexact H7
  isplitl [H8]; · iexists _; iexact H8
  isplitl [H9]; · iexists _; iexact H9
  isplitl [H10]; · iapply (loose_writes c _ _); iexact H10
  isplitl [H11]; · iapply (loose_writes c _ _); iexact H11
  isplitl [H12]; · iapply (loose_writes c _ _); iexact H12
  isplitl [H13]; · iapply (loose_writes c _ _); iexact H13
  isplitl [HS0]; · iapply (loose_writes c _ _); iexact HS0
  isplitl [HS1]; · iapply (loose_writes c _ _); iexact HS1
  isplitl [HS2]; · iexact HS2
  isplitl [HS3]; · iexact HS3
  isplitl [HS4]; · iapply (loose_writes c _ _); iexact HS4
  isplitl [HS5]; · iexists _; iexact HS5
  iexact HT

end

/-- The body at a point of the grid. -/
theorem loose (c : Dev nD) (t : Fin 96) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole) (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ tbPt0 c tbM0_0 xt0) -∗ K ⟨⟩))
          ⊢ wp frame (wpE (defs₀ (F := F)) Variants.none c none) E (cc0_bge_heads (grid0.coords t) tbM0_0 htbM0_0 _ harg3 _ harg4 _ harg5 _ harg6 _ harg7 _ harg8 _ harg9 _ harg10 _ harg11 _ harg12 _ harg13 _ harg14 _ harg15 _ harg16 _ harg17 _ harg18 _ harg19 _ harg20 _ harg21 _ harg22) K := by
  by_cases h3 : k0_cond3 (grid0.coords t) (wrd c (grid0.coords t) xt0) = 1#1 <;> by_cases h0 : k0_cond1 (grid0.coords t) = 1#1
  · exact looseA c (grid0.coords t) _ _ _ _ _ _ _ _ _ _ _ _ _ _ _ _ _ _ _ _ _ _ _ _ _ _ _ _ _ _ _ _ _ _ _ _ _ _ _ _ x0 x1 x2 x3 x4 x5 x6 xt0 h0 (first_only t h0).1 (first_only t h0).2 h3 E K
  · by_cases h4 : k0_cond4 (grid0.coords t) = 1#1
    · by_cases h5 : k0_cond5 (grid0.coords t) = 1#1
      · exact looseH c (grid0.coords t) _ _ _ _ _ _ _ _ _ _ _ _ _ _ _ _ _ _ _ _ _ _ _ _ _ _ _ _ _ _ _ _ _ _ _ _ _ _ _ _ x0 x1 x2 x3 x4 x5 x6 xt0 h0 h4 h5 h3 E K
      · exact looseE c (grid0.coords t) _ _ _ _ _ _ _ _ _ _ _ _ _ _ _ _ _ _ _ _ _ _ _ _ _ _ _ _ _ _ _ _ _ _ _ _ _ _ _ _ x0 x1 x2 x3 x4 x5 x6 xt0 h0 h4 h5 h3 E K
    · exact looseC c (grid0.coords t) _ _ _ _ _ _ _ _ _ _ _ _ _ _ _ _ _ _ _ _ _ _ _ _ _ _ _ _ _ _ _ _ _ _ _ _ _ _ _ _ x0 x1 x2 x3 x4 x5 x6 xt0 h0 h4 (fun h => h4 (last_cls t h)) h3 E K
  · exact looseB c (grid0.coords t) _ _ _ _ _ _ _ _ _ _ _ _ _ _ _ _ _ _ _ _ _ _ _ _ _ _ _ _ _ _ _ _ _ _ _ _ _ _ _ _ x0 x1 x2 x3 x4 x5 x6 xt0 h0 (first_only t h0).1 (first_only t h0).2 h3 E K
  · by_cases h4 : k0_cond4 (grid0.coords t) = 1#1
    · by_cases h5 : k0_cond5 (grid0.coords t) = 1#1
      · exact looseI c (grid0.coords t) _ _ _ _ _ _ _ _ _ _ _ _ _ _ _ _ _ _ _ _ _ _ _ _ _ _ _ _ _ _ _ _ _ _ _ _ _ _ _ _ x0 x1 x2 x3 x4 x5 x6 xt0 h0 h4 h5 h3 E K
      · exact looseG c (grid0.coords t) _ _ _ _ _ _ _ _ _ _ _ _ _ _ _ _ _ _ _ _ _ _ _ _ _ _ _ _ _ _ _ _ _ _ _ _ _ _ _ _ x0 x1 x2 x3 x4 x5 x6 xt0 h0 h4 h5 h3 E K
    · exact looseD c (grid0.coords t) _ _ _ _ _ _ _ _ _ _ _ _ _ _ _ _ _ _ _ _ _ _ _ _ _ _ _ _ _ _ _ _ _ _ _ _ _ _ _ _ x0 x1 x2 x3 x4 x5 x6 xt0 h0 h4 (fun h => h4 (last_cls t h)) h3 E K

end Cert.Kernel.Hand

end
-- ==== Proof.FrameHand.lean ====
/- The frame of `Cert.Kernel`: the proof data, the body obligation and the launch. What the outputs hold is not named here. -/
module

public import proofs.«01_k».proof.Proof.Body
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows this certificate FORGETS (7, 8, 9, 10, 11, 12, 13): nothing reads what the kernel leaves in them, so nothing
    of it is named. -/
def forgets0 : Fin 14 → Bool := fun w => w.val == 7 || w.val == 8 || w.val == 9 || w.val == 10 || w.val == 11 || w.val == 12 || w.val == 13

/-- The proof data of the one pipeline on core `c`: the arrays as the region finds them (`V`); after the body at
    point `t` each input's buffer at its block and the outputs, FORGOTTEN, at `Dat.unnamed`; the invariant the class's and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
    | ⟨12, h⟩ => Pipeline.Dat.unnamed (cfg := (cfgM m hO)) ⟨12, h⟩ t
    | ⟨13, h⟩ => Pipeline.Dat.unnamed (cfg := (cfgM m hO)) ⟨13, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d))

set_option maxHeartbeats 4000000 in
/-- The body at any point: the inputs' memrefs hold their blocks, everything else is at some contents, and the body hands
    them all back so. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  iintro ⟨⟨⟨⟨HS0, HS1, HS2, HS3, HS4, HS5⟩, Hg⟩, HT⟩, Ho, ⟨%d0, H0⟩, ⟨%d1, H1⟩, ⟨%d2, H2⟩, ⟨%d3, H3⟩, ⟨%d4, H4⟩, ⟨%d5, H5⟩, ⟨%d6, H6⟩, H7, H8, H9, H10, H11, H12, H13⟩
  iapply (loose c t _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, H9, H10, H11, H12, H13, HS0, HS1, HS2, HS3, HS4, HS5, HT⟩
  isplitl [HS0 HS1 HS2 HS3 HS4 HS5 Hg HT]
  · isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 :=
  Idealize.SL.BI.Entails.refl _

/-- After the last point the invariant gives the scoped rest back. -/
theorem hout (hO : Ok m) (c : Dev nD) : (dats m hO 0 c).Φ (Fin.last (cfgM m hO).N) ⊢ Pipeline.ΦA spec0 c := by
  rw [show (dats m hO 0 c).Φ (Fin.last (cfgM m hO).N) = iprop(Pipeline.ΦA spec0 c ∗ Pipeline.ΦT pre0 (tbl m) c) from rfl]
  iintro ⟨H, -⟩
  iexact H

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- At the compiled mesh, for any values, from any memory with zero counters: every weakly fair execution of @main on the
    TensorCores terminates, and every final state has every INPUT array of the pipeline unchanged, nothing stated of the
    FORGOTTEN outputs (windows 7, 8, 9, 10, 11, 12, 13), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (fun c => (dats m hO 0 c).toRForget forgets0) (A_eq m hO) (run_main m ρ hO)

/-- The frame: every execution terminates, faults nowhere, leaves the argument arrays and every semaphore counter as they were. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

/-- No index map of the program reads the table, so the pipeline's side condition of it is trivially true. -/
theorem ok (m : (ℓ : Loc nD τ sig) → Buf (Elt F) ℓ) : Ok m := by
  unfold Ok; trivial

end Cert.Kernel.Hand

end
-- ==== Proof.KitIdeal.lean ====
/- The launch side of the frame of `Cert.KernelIdeal`: the schedule of the windows on the grid, what `@main` leaves in memory
   before the region, the prefetched table of lengths as the region reads it, each window's block at a point, and the
   frame's statement read off a run of the region. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone , proved from the map and the fact about the
    axes it reads (`hreadsK_W`) or decided, and restated over the pinned window, which unfolds to them. A window whose
    map reads a table gets none here. -/

/-- Window 10 (result 3 (%3#3)) is written back at every point, at any contents of the tables (its index map reads none). -/
theorem flush0_10 (a : (pcfg0 (F := F)).Adm) : ∀ t : Fin (cfg0 a).N, ((cfg0 a).win 10).flush t = true :=
  (by decide +kernel : ∀ t : Fin grid0.N, Pipeline.Window.flushOf grid0 true cc0_transform_10 t = true)
/-- Window 11 (result 4 (%3#4)) is written back at the last point only, at any contents of the tables (its index map reads none). -/
theorem flush0_11 (a : (pcfg0 (F := F)).Adm) : ∀ t : Fin (cfg0 a).N, ((cfg0 a).win 11).flush t = true ↔ t.val % 96 = 95 :=
  (fun t => Pipeline.Window.flushOf_const cc0_transform_11 (fun _ _ => rfl) (n := 96) (by decide) rfl t : ∀ t : Fin grid0.N, Pipeline.Window.flushOf grid0 true cc0_transform_11 t = true ↔ t.val % 96 = 95)
/-- Window 12 (result 5 (%3#5)) is written back at every point, at any contents of the tables (its index map reads none). -/
theorem flush0_12 (a : (pcfg0 (F := F)).Adm) : ∀ t : Fin (cfg0 a).N, ((cfg0 a).win 12).flush t = true :=
  (by decide +kernel : ∀ t : Fin grid0.N, Pipeline.Window.flushOf grid0 true cc0_transform_12 t = true)
/-- Window 13 (result 6 (%3#6)) is written back at every point, at any contents of the tables (its index map reads none). -/
theorem flush0_13 (a : (pcfg0 (F := F)).Adm) : ∀ t : Fin (cfg0 a).N, ((cfg0 a).win 13).flush t = true :=
  (by decide +kernel : ∀ t : Fin grid0.N, Pipeline.Window.flushOf grid0 true cc0_transform_13 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_bge_heads (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    . -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S6 .i32 := Memref.whole main_arg1
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body , table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      (Pipeline.RDat.FramePost.arr_in h c 1 rfl).trans ((hA c 1).trans (V_main_arg2 m c)),
      ((h c).2 main_arg3 (by decide : main_arg3 ∈ Pipeline.restRefs sig spec0)).trans (V_main_arg3 m c),
      (Pipeline.RDat.FramePost.arr_in h c 3 rfl).trans ((hA c 3).trans (V_main_arg4 m c)),
      (Pipeline.RDat.FramePost.arr_in h c 4 rfl).trans ((hA c 4).trans (V_main_arg5 m c)),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 (tbl m) 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 (tbl m) 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 (tbl m) 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 (tbl m) 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 (tbl m) 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 (tbl m) 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 (tbl m) 6 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x256x3584 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S6x4096 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x3584 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .smem S1 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S3584x3072 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x3072 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x3072 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S6x3584 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S6x4096 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S6x4096 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x256x3072 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S6x4095 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x256x3584 .fp8e4m3 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x256x28 .f32 := spec0_13.stage ((cfgM m hO).slots t 13)
abbrev hs0_13 (hO : Ok m) (t : Fin (cfgM m hO).N) : (ms0_13 m hO t).IsWhole := hstage0_13 (((cfgM m hO).slots t 13).cast nbuf0_13)
/-- The scratch operands: whole scoped buffers of the kernel's own, passed beside the windows. -/
abbrev scM0_0 : Memref sig .tc .vmem S288x3584 .fp8e4m3 := Memref.whole cc0_scratch0
abbrev scM0_1 : Memref sig .tc .vmem S264x128 .f32 := Memref.whole cc0_scratch1
abbrev scM0_2 : Memref sig .tc .vmem S256x3584 .bf16 := Memref.whole cc0_scratch2
abbrev scM0_3 : Memref sig .tc .vmem S256x3072 .f32 := Memref.whole cc0_scratch3
abbrev scM0_4 : Memref sig .tc .vmem S288x3072 .fp8e4m3 := Memref.whole cc0_scratch4
abbrev scM0_5 : Memref sig .tc .vmem S6x4096 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Hand

end
-- ==== Proof.WordIdeal.lean ====
/- The word of the prefetched table the body branches on, in `Cert.KernelIdeal`. -/
module

public import proofs.«01_k».proof.Proof.KitIdeal

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each piece the body is printed in is the piece its skeleton names. -/
def parts_eq {F : FTy → Type} [FloatOps F] :=
  And.intro (k0_part71_eq_skeleton (F := F)) <| And.intro (k0_part70_eq_skeleton (F := F)) <| And.intro (k0_part69_eq_skeleton (F := F)) <| And.intro (k0_part68_eq_skeleton (F := F)) <|
  And.intro (k0_part67_eq_skeleton (F := F)) <| And.intro (k0_part66_eq_skeleton (F := F)) <| And.intro (k0_part65_eq_skeleton (F := F)) <| And.intro (k0_part64_eq_skeleton (F := F)) <|
  And.intro (k0_part63_eq_skeleton (F := F)) <| And.intro (k0_part62_eq_skeleton (F := F)) <| And.intro (k0_part61_eq_skeleton (F := F)) <| And.intro (k0_part60_eq_skeleton (F := F)) <|
  And.intro (k0_part59_eq_skeleton (F := F)) <| And.intro (k0_part58_eq_skeleton (F := F)) <| And.intro (k0_part57_eq_skeleton (F := F)) <| And.intro (k0_part56_eq_skeleton (F := F)) <|
  And.intro (k0_part55_eq_skeleton (F := F)) <| And.intro (k0_part54_eq_skeleton (F := F)) <| And.intro (k0_part53_eq_skeleton (F := F)) <| And.intro (k0_part52_eq_skeleton (F := F)) <|
  And.intro (k0_part51_eq_skeleton (F := F)) <| And.intro (k0_part50_eq_skeleton (F := F)) <| And.intro (k0_part49_eq_skeleton (F := F)) <| And.intro (k0_part48_eq_skeleton (F := F)) <|
  And.intro (k0_part47_eq_skeleton (F := F)) <| And.intro (k0_part46_eq_skeleton (F := F)) <| And.intro (k0_part45_eq_skeleton (F := F)) <| And.intro (k0_part44_eq_skeleton (F := F)) <|
  And.intro (k0_part43_eq_skeleton (F := F)) <| And.intro (k0_part42_eq_skeleton (F := F)) <| And.intro (k0_part41_eq_skeleton (F := F)) <| And.intro (k0_part40_eq_skeleton (F := F)) <|
  And.intro (k0_part39_eq_skeleton (F := F)) <| And.intro (k0_part38_eq_skeleton (F := F)) <| And.intro (k0_part37_eq_skeleton (F := F)) <| And.intro (k0_part36_eq_skeleton (F := F)) <|
  And.intro (k0_part35_eq_skeleton (F := F)) <| And.intro (k0_part34_eq_skeleton (F := F)) <| And.intro (k0_part33_eq_skeleton (F := F)) <| And.intro (k0_part32_eq_skeleton (F := F)) <|
  And.intro (k0_part31_eq_skeleton (F := F)) <| And.intro (k0_part30_eq_skeleton (F := F)) <| And.intro (k0_part29_eq_skeleton (F := F)) <| And.intro (k0_part28_eq_skeleton (F := F)) <|
  And.intro (k0_part27_eq_skeleton (F := F)) <| And.intro (k0_part26_eq_skeleton (F := F)) <| And.intro (k0_part25_eq_skeleton (F := F)) <| And.intro (k0_part24_eq_skeleton (F := F)) <|
  And.intro (k0_part23_eq_skeleton (F := F)) <| And.intro (k0_part22_eq_skeleton (F := F)) <| And.intro (k0_part21_eq_skeleton (F := F)) <| And.intro (k0_part20_eq_skeleton (F := F)) <|
  And.intro (k0_part19_eq_skeleton (F := F)) <| And.intro (k0_part18_eq_skeleton (F := F)) <| And.intro (k0_part17_eq_skeleton (F := F)) <| And.intro (k0_part16_eq_skeleton (F := F)) <|
  And.intro (k0_part15_eq_skeleton (F := F)) <| And.intro (k0_part14_eq_skeleton (F := F)) <| And.intro (k0_part13_eq_skeleton (F := F)) <| And.intro (k0_part12_eq_skeleton (F := F)) <|
  And.intro (k0_part11_eq_skeleton (F := F)) <| And.intro (k0_part10_eq_skeleton (F := F)) <| And.intro (k0_part9_eq_skeleton (F := F)) <| And.intro (k0_part8_eq_skeleton (F := F)) <|
  And.intro (k0_part7_eq_skeleton (F := F)) <| And.intro (k0_part6_eq_skeleton (F := F)) <| And.intro (k0_part5_eq_skeleton (F := F)) <| And.intro (k0_part4_eq_skeleton (F := F)) <|
  And.intro (k0_part3_eq_skeleton (F := F)) <| And.intro (k0_part2_eq_skeleton (F := F)) <| k0_part1_eq_skeleton (F := F)

/-- The word of the table of lengths at the point's batch row: what the body reads before anything else. -/
def wrd (c : Dev nD) (i : grid0.Coords) (xt0 : TbBuf0 (F := F) c tbM0_0) : Elt F .i32 :=
  View.readAt (Elt F) tbM0_0.view (Rect.unit (s := S6) (k0_off1 i) S1.size (k0_off1_inb i)).toLoadRect xt0
    (Shape.Idx.first ((numel1_S1).symm ▸ Nat.one_pos))

/-- A tile under the length is not a padding tile: the body's second branch is not taken. -/
theorem pad_of_valid {i : grid0.Coords} {w : BitVec 32} (h : k0_cond3 i w = 1#1) :
    ¬ Scalar.cmpi .ne (Scalar.extui (Scalar.xori (Scalar.cmpi .slt (Scalar.muli (Scalar.subi 15#32 (BitVec.ofNat 32 (i 1).val)) 256#32) w) 1#1)) 0#32 = 1#1 := by
  simp only [k0_cond3] at h
  revert h
  generalize Scalar.cmpi .slt (Scalar.muli (Scalar.subi 15#32 (BitVec.ofNat 32 (i 1).val)) 256#32) w = b
  revert b; decide

/-- A tile not under the length is a padding tile. -/
theorem pad_of_not_valid {i : grid0.Coords} {w : BitVec 32} (h : ¬ k0_cond3 i w = 1#1) :
    Scalar.cmpi .ne (Scalar.extui (Scalar.xori (Scalar.cmpi .slt (Scalar.muli (Scalar.subi 15#32 (BitVec.ofNat 32 (i 1).val)) 256#32) w) 1#1)) 0#32 = 1#1 := by
  simp only [k0_cond3] at h
  revert h
  generalize Scalar.cmpi .slt (Scalar.muli (Scalar.subi 15#32 (BitVec.ofNat 32 (i 1).val)) 256#32) w = b
  revert b; decide

end Cert.KernelIdeal.Hand

end
-- ==== Proof.Closed.lean ====
/- What the kernel's body computes at one grid point, said once for all its column chunks: the stores of a chunk as a
   function of the chunk's number. The runs' own lists of stores are these, spelled out. -/
module

public import proofs.«01_k».proof.Proof.WordIdeal

@[expose] public section

set_option maxRecDepth 16384

noncomputable section

namespace Cert.KernelIdeal.Hand

open Cert.KernelIdeal.Gen
open Idealize.ShloMosaic Idealize.ShloMosaic.TcCoe

variable {F : FTy → Type} [FloatOps F]

/-! ## The boxes -/

theorem inb2 {s t : Shape} (hs : s.rank = 2) {a b : ℕ} {sz : Fin 2 → ℕ} {u : Fin 2 → ℕ} (h0 : a + sz 0 ≤ u 0) (h1 : b + sz 1 ≤ u 1) :
    ∀ k, (![a, b] : Fin 2 → ℕ) k + sz k ≤ u k := by
  intro k; match k with
  | 0 => exact h0
  | 1 => exact h1

theorem inbCw (n : ℕ) (h : n + 1 ≤ 28) : ∀ a, (![0, 128 * n] : Fin 2 → ℕ) a + S256x128.size a ≤ S288x3584.size a :=
  inb2 (s := S256x128) (t := S288x3584) rfl (show 0 + 256 ≤ 288 by omega) (show 128 * n + 128 ≤ 3584 by omega)
theorem inbCw1 (n : ℕ) (h : n + 1 ≤ 28) : ∀ a, (![1, 128 * n] : Fin 2 → ℕ) a + S256x128.size a ≤ S288x3584.size a :=
  inb2 (s := S256x128) (t := S288x3584) rfl (show 1 + 256 ≤ 288 by omega) (show 128 * n + 128 ≤ 3584 by omega)
theorem inbXb (n : ℕ) (h : n + 1 ≤ 28) : ∀ a, (![0, 128 * n] : Fin 2 → ℕ) a + S256x128.size a ≤ S256x3584.size a :=
  inb2 (s := S256x128) (t := S256x3584) rfl (show 0 + 256 ≤ 256 by omega) (show 128 * n + 128 ≤ 3584 by omega)
theorem inbX (n : ℕ) (h : n + 1 ≤ 28) : ∀ a, (![0, 0, 128 * n] : Fin 3 → ℕ) a + S1x256x128.size a ≤ S1x256x3584.size a := by
  intro k; match k with
  | 0 => exact (show 0 + 1 ≤ 1 by omega)
  | 1 => exact (show 0 + 256 ≤ 256 by omega)
  | 2 => exact (show 128 * n + 128 ≤ 3584 by omega)
theorem inbY (n : ℕ) (h : n + 1 ≤ 24) : ∀ a, (![0, 128 * n] : Fin 2 → ℕ) a + S256x128.size a ≤ S256x3072.size a :=
  inb2 (s := S256x128) (t := S256x3072) rfl (show 0 + 256 ≤ 256 by omega) (show 128 * n + 128 ≤ 3072 by omega)
theorem inbMw (n : ℕ) (h : n + 1 ≤ 24) : ∀ a, (![0, 128 * n] : Fin 2 → ℕ) a + S256x128.size a ≤ S288x3072.size a :=
  inb2 (s := S256x128) (t := S288x3072) rfl (show 0 + 256 ≤ 288 by omega) (show 128 * n + 128 ≤ 3072 by omega)
theorem inbWc (n : ℕ) (h : n + 1 ≤ 24) : ∀ a, (![0, 512 * (n / 4)] : Fin 2 → ℕ) a + S3584x512.size a ≤ S3584x3072.size a :=
  inb2 (s := S3584x512) (t := S3584x3072) rfl (show 0 + 3584 ≤ 3584 by omega) (show 512 * (n / 4) + 512 ≤ 3072 by omega)
theorem inbRow (n : ℕ) (h : n + 1 ≤ 24) : ∀ a, (![0, 128 * n] : Fin 2 → ℕ) a + S1x128.size a ≤ S1x3072.size a :=
  inb2 (s := S1x128) (t := S1x3072) rfl (show 0 + 1 ≤ 1 by omega) (show 128 * n + 128 ≤ 3072 by omega)
theorem slQ (n : ℕ) : S256x512.Slices ![0, 128 * (n % 4)] S256x128 :=
  ⟨rfl, inb2 (s := S256x128) (t := S256x512) rfl (show 0 + 256 ≤ 256 by omega) (show 128 * (n % 4) + 128 ≤ 512 by omega)⟩

/-! ## The quantised tile -/

/-- The codes of one 128-wide chunk. -/
def codeP (v : Vec F S1x256x128 .bf16) : FVec F S256x128 .fp8e4m3 := k0_pay158 (k0_pay150 v) (k0_pay151 v) k0_pay152
/-- The scale of one chunk, along its lanes. -/
def scaleP (v : Vec F S1x256x128 .bf16) : FVec F S256x128 .bf16 := k0_pay154 (k0_pay151 v) k0_pay152
/-- The chunk read back from codes and scale. -/
def xbP (v : Vec F S1x256x128 .bf16) : FVec F S256x128 .bf16 := k0_pay156 (k0_pay150 v) (k0_pay151 v) k0_pay152

/-- The chunk numbers as bfloat16 bits. -/
def kbits (n : ℕ) : BitVec 16 :=
  ([0x0000#16, 0x3F80#16, 0x4000#16, 0x4040#16, 0x4080#16, 0x40A0#16, 0x40C0#16, 0x40E0#16, 0x4100#16, 0x4110#16, 0x4120#16, 0x4130#16,
    0x4140#16, 0x4150#16, 0x4160#16, 0x4170#16, 0x4180#16, 0x4188#16, 0x4190#16, 0x4198#16, 0x41A0#16, 0x41A8#16, 0x41B0#16, 0x41B8#16,
    0x41C0#16, 0x41C8#16, 0x41D0#16, 0x41D8#16] : List (BitVec 16)).getD n 0#16

/-- The scales of the first `n` chunks, chunk `k`'s in lane `k`. -/
def scP (xc : (n : ℕ) → n + 1 ≤ 28 → Vec F S1x256x128 .bf16) : (n : ℕ) → n ≤ 28 → FVec F S256x128 .bf16
  | 0, _ => k0_pay149
  | n + 1, h => select (cmpf .oeq (k0_pay146 (F := F)) (broadcast S256x128 (Scalar.ofBits (F := F) .bf16 (kbits n)))) (scaleP (F := F) (xc n h)) (scP xc n (Nat.le_of_succ_le h))

def scBlock (xc : (n : ℕ) → n + 1 ≤ 28 → Vec F S1x256x128 .bf16) : FVec F S256x128 .f32 :=
  shapeCast S256x128 (extf .f32 (scP xc 28 (Nat.le_refl _)) bitsLt_bf16_f32) shapeCasts_S256x128_S256x128

/-- The stores of the first `n` chunks' codes, over what was stored before. -/
def cwPieces (xc : (n : ℕ) → n + 1 ≤ 28 → Vec F S1x256x128 .bf16) (tail : List (View.Piece (Elt F) S288x3584 .fp8e4m3)) :
    (n : ℕ) → n ≤ 28 → List (View.Piece (Elt F) S288x3584 .fp8e4m3)
  | 0, _ => tail
  | n + 1, h => ⟨Rect.unit (s := S288x3584) ![0, 128 * n] S256x128.size (inbCw n h), codeP (F := F) (xc n h)⟩ :: cwPieces xc tail n (Nat.le_of_succ_le h)

def xbPieces (xc : (n : ℕ) → n + 1 ≤ 28 → Vec F S1x256x128 .bf16) : (n : ℕ) → n ≤ 28 → List (View.Piece (Elt F) S256x3584 .bf16)
  | 0, _ => []
  | n + 1, h => ⟨Rect.unit (s := S256x3584) ![0, 128 * n] S256x128.size (inbXb n h), xbP (F := F) (xc n h)⟩ :: xbPieces xc n (Nat.le_of_succ_le h)

/-- The stores of the codes' tile, each chunk read one row down from the codes' buffer as it then is. -/
def xcPieces (xc : (n : ℕ) → n + 1 ≤ 28 → Vec F S1x256x128 .bf16) (tail : List (View.Piece (Elt F) S288x3584 .fp8e4m3))
    (arg17 : Memref sig .tc .vmem S288x3584 .fp8e4m3) : (n : ℕ) → n ≤ 28 → List (View.Piece (Elt F) S1x256x3584 .fp8e4m3)
  | 0, _ => []
  | n + 1, h => ⟨Rect.unit (s := S1x256x3584) ![0, 0, 128 * n] S1x256x128.size (inbX n h),
      k0_pay159 (arg17.view.readCov (cwPieces xc tail (n + 1) h) (Rect.unit (s := S288x3584) ![1, 128 * n] S256x128.size (inbCw1 n h)).toLoadRect)⟩
      :: xcPieces xc tail arg17 n (Nat.le_of_succ_le h)

/-- Chunk `n` of the tile in a window's buffer. -/
abbrev xchunk (arg3 : Memref sig .tc .vmem S1x256x3584 .bf16) (f : arg3.view.ty.Contents (Elt F)) (n : ℕ) (h : n + 1 ≤ 28) : Vec F S1x256x128 .bf16 :=
  View.readAt (Elt F) arg3.view (Rect.unit (s := S1x256x3584) ![0, 0, 128 * n] S1x256x128.size (inbX n h)).toLoadRect f

/-! ## The product -/

section product

variable (live : IVec S256x128 1) (xb : Vec F S256x3584 .bf16) (wc : (n : ℕ) → n + 1 ≤ 24 → Vec F S3584x512 .fp8e4m3)
  (ws bc : (n : ℕ) → n + 1 ≤ 24 → Vec F S1x128 .f32)

/-- The product's chunk `n`, scaled and shifted, zero off the live rows. -/
def yP (n : ℕ) (h : n + 1 ≤ 24) : FVec F S256x128 .f32 :=
  k0_pay32 live (extractStridedSlice S256x128 ![0, 128 * (n % 4)] (k0_pay24 xb (wc n h)) (slQ n)) (ws n h) (bc n h)

/-- Lane by lane, the sum of squares of the first `n` chunks, -/
def ssP : (n : ℕ) → n ≤ 24 → FVec F S256x128 .f32
  | 0, _ => k0_pay22
  | n + 1, h => addf (ssP n (Nat.le_of_succ_le h)) (mulf (yP live xb wc ws bc n h) (yP live xb wc ws bc n h))

/-- and the greatest magnitude. -/
def ymP : (n : ℕ) → n ≤ 24 → FVec F S256x128 .f32
  | 0, _ => k0_pay23
  | n + 1, h => maximumf (ymP n (Nat.le_of_succ_le h)) (absf (yP live xb wc ws bc n h))

def yPieces : (n : ℕ) → n ≤ 24 → List (View.Piece (Elt F) S256x3072 .f32)
  | 0, _ => []
  | n + 1, h => ⟨Rect.unit (s := S256x3072) ![0, 128 * n] S256x128.size (inbY n h), k0_pay109 (yP live xb wc ws bc n h)⟩ :: yPieces n (Nat.le_of_succ_le h)

def rnP : FVec F S256x1 .f32 := k0_pay110 (ssP live xb wc ws bc 23 (by omega)) (yP live xb wc ws bc 23 (by omega))
def invP : FVec F S256x1 .f32 :=
  k0_pay112 (ssP live xb wc ws bc 23 (by omega)) (ymP live xb wc ws bc 23 (by omega)) (yP live xb wc ws bc 23 (by omega))
def msP : FVec F S256x128 .f32 :=
  k0_pay113 (ssP live xb wc ws bc 23 (by omega)) (ymP live xb wc ws bc 23 (by omega)) (yP live xb wc ws bc 23 (by omega))

def mwPieces (arg20 : Memref sig .tc .vmem S256x3072 .f32) (tail : List (View.Piece (Elt F) S288x3072 .fp8e4m3)) :
    (n : ℕ) → n ≤ 24 → List (View.Piece (Elt F) S288x3072 .fp8e4m3)
  | 0, _ => tail
  | n + 1, h => ⟨Rect.unit (s := S288x3072) ![0, 128 * n] S256x128.size (inbMw n h),
      k0_pay116 (rnP live xb wc ws bc) (invP live xb wc ws bc)
        (arg20.view.readCov (yPieces live xb wc ws bc 24 (Nat.le_refl _)) (Rect.unit (s := S256x3072) ![0, 128 * n] S256x128.size (inbY n h)).toLoadRect)⟩
      :: mwPieces arg20 tail n (Nat.le_of_succ_le h)

end product

/-! ## What is stored before the chunks, and the rest of a point's stores -/

section rest

/-- The rows carried over from the tile after this one: its first 32 rows move under the tile's own. -/
def cwTail (arg17 : Memref sig .tc .vmem S288x3584 .fp8e4m3) (f : arg17.view.ty.Contents (Elt F)) : List (View.Piece (Elt F) S288x3584 .fp8e4m3) :=
  [⟨Rect.unit (s := S288x3584) ![256, 0] S32x3584.size inb_S288x3584_S32x3584_256_0,
    k0_pay147 (View.readAt (Elt F) arg17.view (Rect.unit (s := S288x3584) ![0, 0] S32x3584.size inb_S288x3584_S32x3584_0_0).toLoadRect f)⟩]
/-- At the grid's first point the codes' buffer is cleared before. -/
def cwTail0 (arg17 : Memref sig .tc .vmem S288x3584 .fp8e4m3) : List (View.Piece (Elt F) S288x3584 .fp8e4m3) :=
  [⟨Rect.unit (s := S288x3584) ![256, 0] S32x3584.size inb_S288x3584_S32x3584_256_0,
    k0_pay147 (arg17.view.readCov [⟨Rect.unit (s := S288x3584) ![0, 0] S288x3584.size inb_S288x3584_S288x3584_0_0, k0_pay143⟩]
      (Rect.unit (s := S288x3584) ![0, 0] S32x3584.size inb_S288x3584_S32x3584_0_0).toLoadRect)⟩,
   ⟨Rect.unit (s := S288x3584) ![0, 0] S288x3584.size inb_S288x3584_S288x3584_0_0, k0_pay143⟩]

def scTail (arg18 : Memref sig .tc .vmem S264x128 .f32) (f : arg18.view.ty.Contents (Elt F)) : List (View.Piece (Elt F) S264x128 .f32) :=
  [⟨Rect.unit (s := S264x128) ![256, 0] S8x128.size inb_S264x128_S8x128_256_0,
    k0_pay148 (View.readAt (Elt F) arg18.view (Rect.unit (s := S264x128) ![0, 0] S8x128.size inb_S264x128_S8x128_0_0).toLoadRect f)⟩]
def scTail0 (arg18 : Memref sig .tc .vmem S264x128 .f32) : List (View.Piece (Elt F) S264x128 .f32) :=
  [⟨Rect.unit (s := S264x128) ![256, 0] S8x128.size inb_S264x128_S8x128_256_0,
    k0_pay148 (arg18.view.readCov [⟨Rect.unit (s := S264x128) ![0, 0] S264x128.size inb_S264x128_S264x128_0_0, k0_pay144⟩]
      (Rect.unit (s := S264x128) ![0, 0] S8x128.size inb_S264x128_S8x128_0_0).toLoadRect)⟩,
   ⟨Rect.unit (s := S264x128) ![0, 0] S264x128.size inb_S264x128_S264x128_0_0, k0_pay144⟩]

def scPieces (xc : (n : ℕ) → n + 1 ≤ 28 → Vec F S1x256x128 .bf16) (tail : List (View.Piece (Elt F) S264x128 .f32)) :
    List (View.Piece (Elt F) S264x128 .f32) :=
  ⟨Rect.unit (s := S264x128) ![0, 0] S256x128.size inb_S264x128_S256x128_0_0, scBlock xc⟩ :: tail
def xsPieces (xc : (n : ℕ) → n + 1 ≤ 28 → Vec F S1x256x128 .bf16) (tail : List (View.Piece (Elt F) S264x128 .f32))
    (arg18 : Memref sig .tc .vmem S264x128 .f32) : List (View.Piece (Elt F) S1x256x28 .f32) :=
  [⟨Rect.unit (s := S1x256x28) ![0, 0, 0] S1x256x28.size inb_S1x256x28_S1x256x28_0_0_0,
    k0_pay423 (arg18.view.readCov (scPieces xc tail) (Rect.unit (s := S264x128) ![1, 0] S256x28.size inb_S264x128_S256x28_1_0).toLoadRect)⟩]

/-- The tile's number on the device. -/
abbrev tileW (i : grid0.Coords) : BitVec 32 := Scalar.subi 15#32 (BitVec.ofNat 32 (i 1).val)

def mwTail (i : grid0.Coords) (arg21 : Memref sig .tc .vmem S288x3072 .fp8e4m3) (f : arg21.view.ty.Contents (Elt F)) :
    List (View.Piece (Elt F) S288x3072 .fp8e4m3) :=
  [⟨Rect.unit (s := S288x3072) ![256, 0] S32x3072.size inb_S288x3072_S32x3072_256_0,
    k0_pay424 (tileW i) (View.readAt (Elt F) arg21.view (Rect.unit (s := S288x3072) ![0, 0] S32x3072.size inb_S288x3072_S32x3072_0_0).toLoadRect f)⟩]
def mwTail0 (i : grid0.Coords) (arg21 : Memref sig .tc .vmem S288x3072 .fp8e4m3) : List (View.Piece (Elt F) S288x3072 .fp8e4m3) :=
  [⟨Rect.unit (s := S288x3072) ![256, 0] S32x3072.size inb_S288x3072_S32x3072_256_0,
    k0_pay424 (tileW i) (arg21.view.readCov [⟨Rect.unit (s := S288x3072) ![0, 0] S288x3072.size inb_S288x3072_S288x3072_0_0, k0_pay145⟩]
      (Rect.unit (s := S288x3072) ![0, 0] S32x3072.size inb_S288x3072_S32x3072_0_0).toLoadRect)⟩,
   ⟨Rect.unit (s := S288x3072) ![0, 0] S288x3072.size inb_S288x3072_S288x3072_0_0, k0_pay145⟩]
/-- A tile at or past the length: zero codes. -/
def padPiece : View.Piece (Elt F) S288x3072 .fp8e4m3 := ⟨Rect.unit (s := S288x3072) ![0, 0] S256x3072.size inb_S288x3072_S256x3072_0_0, k0_pay425⟩

def mvPieces (arg21 : Memref sig .tc .vmem S288x3072 .fp8e4m3) (l : List (View.Piece (Elt F) S288x3072 .fp8e4m3)) :
    List (View.Piece (Elt F) S1x256x3072 .fp8e4m3) :=
  [⟨Rect.unit (s := S1x256x3072) ![0, 0, 0] S1x256x3072.size inb_S1x256x3072_S1x256x3072_0_0_0,
    shapeCast S1x256x3072 (arg21.view.readCov l (Rect.unit (s := S288x3072) ![1, 0] S256x3072.size inb_S288x3072_S256x3072_1_0).toLoadRect : Vec F S256x3072 .fp8e4m3)
      shapeCasts_S256x3072_S1x256x3072⟩]

def mssPiece0 : View.Piece (Elt F) S6x4096 .f32 := ⟨Rect.unit (s := S6x4096) ![0, 0] S6x4096.size inb_S6x4096_S6x4096_0_0, k0_pay142⟩
def mssA (i : grid0.Coords) (ms : FVec F S256x128 .f32) (arg22 : Memref sig .tc .vmem S6x4096 .f32)
    (tail : List (View.Piece (Elt F) S6x4096 .f32)) (f : arg22.view.ty.Contents (Elt F)) : List (View.Piece (Elt F) S6x4096 .f32) :=
  ⟨Rect.unit (s := S6x4096) (k0_off2 i 0#32) S6x128.size (k0_off2_inb i 0),
    k0_pay114 (BitVec.ofNat 32 (i 0).val) ms (View.readAt (Elt F) arg22.view (Rect.unit (s := S6x4096) (k0_off2 i 0#32) S6x128.size (k0_off2_inb i 0)).toLoadRect
      (arg22.view.writes (Elt F) f tail))⟩ :: tail
def mssPieces (i : grid0.Coords) (ms : FVec F S256x128 .f32) (arg22 : Memref sig .tc .vmem S6x4096 .f32)
    (tail : List (View.Piece (Elt F) S6x4096 .f32)) (f : arg22.view.ty.Contents (Elt F)) : List (View.Piece (Elt F) S6x4096 .f32) :=
  ⟨Rect.unit (s := S6x4096) (k0_off2 i 128#32) S6x128.size (k0_off2_inb i 1),
    k0_pay115 (BitVec.ofNat 32 (i 0).val) ms (View.readAt (Elt F) arg22.view (Rect.unit (s := S6x4096) (k0_off2 i 128#32) S6x128.size (k0_off2_inb i 1)).toLoadRect
      (arg22.view.writes (Elt F) f (mssA i ms arg22 tail f)))⟩ :: mssA i ms arg22 tail f

/-- The tile read back from its codes, as the product reads it. -/
def xbAll (xc : (n : ℕ) → n + 1 ≤ 28 → Vec F S1x256x128 .bf16) (arg19 : Memref sig .tc .vmem S256x3584 .bf16) : Vec F S256x3584 .bf16 :=
  arg19.view.readCov (xbPieces xc 28 (Nat.le_refl _)) (Rect.unit (s := S256x3584) ![0, 0] S256x3584.size inb_S256x3584_S256x3584_0_0).toLoadRect
abbrev wchunk (arg7 : Memref sig .tc .vmem S3584x3072 .fp8e4m3) (f : arg7.view.ty.Contents (Elt F)) (n : ℕ) (h : n + 1 ≤ 24) : Vec F S3584x512 .fp8e4m3 :=
  View.readAt (Elt F) arg7.view (Rect.unit (s := S3584x3072) ![0, 512 * (n / 4)] S3584x512.size (inbWc n h)).toLoadRect f
abbrev rowchunk (arg8 : Memref sig .tc .vmem S1x3072 .f32) (f : arg8.view.ty.Contents (Elt F)) (n : ℕ) (h : n + 1 ≤ 24) : Vec F S1x128 .f32 :=
  View.readAt (Elt F) arg8.view (Rect.unit (s := S1x3072) ![0, 128 * n] S1x128.size (inbRow n h)).toLoadRect f

end rest

end Cert.KernelIdeal.Hand

end
-- ==== Proof.Spec.lean ====
/- The quantiser over the extended reals, row by row: the scale of a group from its greatest magnitude, the codes by that
   scale, and the colbert vector of a token. Both programs are shown to compute these. -/
module

public import Idealize.ShloMosaic.Lib.Pointwise

@[expose] public section

noncomputable section

namespace Cert.Spec

open Idealize.ShloMosaic

/-! ## The constants -/

/-- 1/448 as a 32-bit float. -/
def cInv : EReal := Ideal.ofBits .f32 0x3B124925#32
/-- The magnitude under which a group of an input row counts as zero: 448 times the least normal float. -/
def cTiny : EReal := Ideal.ofBits .f32 0x04E00000#32
/-- The least normal float. -/
def cMin : EReal := Ideal.ofBits .f32 0x00800000#32
/-- The floor of a row's norm. -/
def cEps : EReal := Ideal.ofBits .f32 0x2B8CBCCC#32

theorem two : Ideal.ofBits .f32 0x40000000#32 = ((2 : ℝ) : EReal) := by
  simp [Ideal.ofBits, Ideal.ieee, -EReal.coe_mul]; norm_num
theorem half : Ideal.ofBits .f32 0x3F000000#32 = ((1/2 : ℝ) : EReal) := by
  simp [Ideal.ofBits, Ideal.ieee, -EReal.coe_mul]; norm_num
theorem one : Ideal.ofBits .f32 0x3F800000#32 = ((1 : ℝ) : EReal) := by
  simp [Ideal.ofBits, Ideal.ieee, -EReal.coe_mul]; norm_num
theorem c256 : Ideal.ofBits .bf16 0x4380#16 = ((256 : ℝ) : EReal) := by
  simp [Ideal.ofBits, Ideal.ieee, -EReal.coe_mul]; norm_num
theorem c448 : Ideal.ofBits .f32 0x43E00000#32 = ((448 : ℝ) : EReal) := by
  simp [Ideal.ofBits, Ideal.ieee, -EReal.coe_mul]; norm_num
theorem c448b : Ideal.ofBits .bf16 0x43E0#16 = ((448 : ℝ) : EReal) := by
  simp [Ideal.ofBits, Ideal.ieee, -EReal.coe_mul]; norm_num
theorem cm448 : Ideal.ofBits .f32 0xC3E00000#32 = ((-448 : ℝ) : EReal) := by
  simp [Ideal.ofBits, Ideal.ieee, -EReal.coe_mul]; norm_num
theorem cm448b : Ideal.ofBits .bf16 0xC3E0#16 = ((-448 : ℝ) : EReal) := by
  simp [Ideal.ofBits, Ideal.ieee, -EReal.coe_mul]; norm_num
theorem tinyb : Ideal.ofBits .bf16 0x04E0#16 = cTiny := by
  unfold cTiny
  simp [Ideal.ofBits, Ideal.ieee, -EReal.coe_mul]; norm_num
theorem botb : Ideal.ofBits .bf16 0xFF80#16 = ⊥ := by
  simp [Ideal.ofBits, Ideal.ieee]
theorem bot32 : Ideal.ofBits .f32 0xFF800000#32 = ⊥ := by
  simp [Ideal.ofBits, Ideal.ieee]
theorem cInv_eq : cInv = ((9586981 / 4294967296 : ℝ) : EReal) := by
  unfold cInv
  simp [Ideal.ofBits, Ideal.ieee, -EReal.coe_mul]; norm_num
theorem cTiny_pos : 0 < cTiny := by
  have : cTiny = ((7 * 2 ^ 6 * (2:ℝ)⁻¹ ^ 126 : ℝ) : EReal) := by
    unfold cTiny
    simp [Ideal.ofBits, Ideal.ieee, -EReal.coe_mul]; norm_num
  rw [this]; exact_mod_cast (by positivity)
theorem cMin_pos : 0 < cMin := by
  have : cMin = (((2:ℝ)⁻¹ ^ 126 : ℝ) : EReal) := by
    unfold cMin
    simp [Ideal.ofBits, Ideal.ieee, -EReal.coe_mul]; norm_num
  rw [this]; exact_mod_cast (by positivity)
theorem cEps_pos : ∃ e : ℝ, 0 < e ∧ cEps = (e : EReal) := by
  refine ⟨_, ?_, by unfold cEps; simp [Ideal.ofBits, Ideal.ieee, -EReal.coe_mul]; rfl⟩
  norm_num

/-! ## The power of two under a value -/

/-- The exponent of the power of two under `v`, plus one. -/
def expo (v : EReal) : EReal :=
  Ideal.liftRound Int.floor (Ideal.div (Ideal.log v) (Ideal.log ((2 : ℝ) : EReal))) + ((1 : ℝ) : EReal)

/-- The power of two under `v` as the kernel takes it: an estimate, halved if above, doubled if too low. -/
def pow2 (v : EReal) : EReal :=
  let p := Ideal.exp2 (Ideal.liftRound Int.floor (Ideal.div (Ideal.log v) (Ideal.log ((2 : ℝ) : EReal))))
  let q := if v < p then p * ((1/2 : ℝ) : EReal) else p
  if q * ((2 : ℝ) : EReal) ≤ v then q * ((2 : ℝ) : EReal) else q

/-- The logarithm to base two. -/
def lb (r : ℝ) : ℝ := Real.log r / Real.log 2

theorem two_rpow_lb (r : ℝ) (h : 0 < r) : (2:ℝ) ^ lb r = r := by
  have h2 : Real.log 2 ≠ 0 := (Real.log_pos (by norm_num)).ne'
  rw [Real.rpow_def_of_pos (by norm_num), lb, mul_div_cancel₀ _ h2, Real.exp_log h]

theorem log2_div (r : ℝ) (h : 0 < r) : Ideal.div (Ideal.log (r : EReal)) (Ideal.log ((2 : ℝ) : EReal)) = ((lb r : ℝ) : EReal) := by
  have h2 : Real.log 2 ≠ 0 := (Real.log_pos (by norm_num)).ne'
  have e2 : Ideal.log ((2 : ℝ) : EReal) = ((Real.log 2 : ℝ) : EReal) := by
    show (if (2:ℝ) ≤ 0 then (⊥ : EReal) else _) = _
    rw [if_neg (by norm_num)]
  have er : Ideal.log (r : EReal) = ((Real.log r : ℝ) : EReal) := by
    show (if r ≤ 0 then (⊥ : EReal) else _) = _
    rw [if_neg (by linarith)]
  rw [e2, er, Ideal.div_coe h2, ← EReal.coe_mul]
  congr 1; rw [lb]; ring

/-- Over the reals the estimate needs no correction. -/
theorem pow2_coe (r : ℝ) (h : 0 < r) : pow2 (r : EReal) = (((2:ℝ) ^ (⌊lb r⌋ : ℝ) : ℝ) : EReal) := by
  have hp : Ideal.exp2 (Ideal.liftRound Int.floor (Ideal.div (Ideal.log (r : EReal)) (Ideal.log ((2 : ℝ) : EReal))))
      = (((2:ℝ) ^ (⌊lb r⌋ : ℝ) : ℝ) : EReal) := by rw [log2_div r h]; rfl
  have hr : r = (2:ℝ) ^ (lb r) := (two_rpow_lb r h).symm
  have hle : (2:ℝ) ^ (⌊lb r⌋ : ℝ) ≤ r := by
    conv_rhs => rw [hr]
    exact Real.rpow_le_rpow_of_exponent_le (by norm_num) (Int.floor_le _)
  have hlt : r < (2:ℝ) ^ (⌊lb r⌋ : ℝ) * 2 := by
    conv_lhs => rw [hr]
    have : (2:ℝ) ^ (⌊lb r⌋ : ℝ) * 2 = (2:ℝ) ^ ((⌊lb r⌋ : ℝ) + 1) := by
      rw [Real.rpow_add (by norm_num), Real.rpow_one]
    rw [this]
    exact Real.rpow_lt_rpow_of_exponent_lt (by norm_num) (Int.lt_floor_add_one _)
  unfold pow2
  simp only [hp]
  have h1 : ¬ ((r : EReal) < (((2:ℝ) ^ (⌊lb r⌋ : ℝ) : ℝ) : EReal)) := by
    rw [EReal.coe_lt_coe_iff]; exact not_lt.mpr hle
  have h2 : ¬ ((((2:ℝ) ^ (⌊lb r⌋ : ℝ) : ℝ) : EReal) * ((2 : ℝ) : EReal) ≤ (r : EReal)) := by
    rw [← EReal.coe_mul, EReal.coe_le_coe_iff]; exact not_le.mpr hlt
  rw [if_neg h1, if_neg h2]

theorem expo_coe (r : ℝ) (h : 0 < r) : expo (r : EReal) = (((⌊lb r⌋ : ℝ) + 1 : ℝ) : EReal) := by
  unfold expo; rw [log2_div r h, Ideal.liftRound_coe, ← EReal.coe_add]

theorem log2_top : Ideal.div (Ideal.log (⊤ : EReal)) (Ideal.log ((2 : ℝ) : EReal)) = ⊤ := by
  have h2 : 0 < Real.log 2 := Real.log_pos (by norm_num)
  have e2 : Ideal.log ((2 : ℝ) : EReal) = ((Real.log 2 : ℝ) : EReal) := by
    show (if (2:ℝ) ≤ 0 then (⊥ : EReal) else _) = _
    rw [if_neg (by norm_num)]
  rw [e2, Ideal.div_coe h2.ne']
  show (⊤ : EReal) * _ = ⊤
  exact EReal.top_mul_of_pos (by exact_mod_cast (by positivity))

/-- The kernel's scale is the power of two of the reference's exponent. -/
theorem scale_eq (v : EReal) (h : 0 < v) : pow2 v * ((2 : ℝ) : EReal) = Ideal.exp2 (expo v) := by
  induction v with
  | bot => simp at h
  | top =>
    have e : expo ⊤ = ⊤ := by unfold expo; rw [log2_top, Ideal.liftRound_top, EReal.top_add_coe]
    have p : pow2 ⊤ = ⊤ := by
      unfold pow2; rw [log2_top]
      have h2 : (⊤ : EReal) * ((2 : ℝ) : EReal) = ⊤ := EReal.top_mul_of_pos (by exact_mod_cast (by norm_num : (0:ℝ) < 2))
      have he : Ideal.exp2 (⊤ : EReal) = ⊤ := rfl
      simp [h2, he]
    rw [e, p]; exact EReal.top_mul_of_pos (by exact_mod_cast (by norm_num : (0:ℝ) < 2))
  | coe r =>
    have hr : 0 < r := by exact_mod_cast h
    rw [pow2_coe r hr, expo_coe r hr, ← EReal.coe_mul]
    show _ = (((2:ℝ) ^ ((⌊lb r⌋ : ℝ) + 1) : ℝ) : EReal)
    rw [Real.rpow_add (by norm_num), Real.rpow_one]

/-- The kernel's reciprocal of the scale is the power of two of the exponent negated. -/
theorem inv_eq (v : EReal) (h : 0 < v) :
    Ideal.div ((1/2 : ℝ) : EReal) (pow2 v) = Ideal.exp2 (0 - expo v) := by
  induction v with
  | bot => simp at h
  | top =>
    have e : expo ⊤ = ⊤ := by unfold expo; rw [log2_top, Ideal.liftRound_top, EReal.top_add_coe]
    have p : pow2 ⊤ = ⊤ := by
      unfold pow2; rw [log2_top]
      have h2 : (⊤ : EReal) * ((2 : ℝ) : EReal) = ⊤ := EReal.top_mul_of_pos (by exact_mod_cast (by norm_num : (0:ℝ) < 2))
      have he : Ideal.exp2 (⊤ : EReal) = ⊤ := rfl
      simp [h2, he]
    rw [e, p]
    have : (0 : EReal) - ⊤ = ⊥ := by simp
    rw [this]
    show (if (⊤ : EReal) = 0 then _ else _) = (0 : EReal)
    rw [if_neg (by simp)]; simp
  | coe r =>
    have hr : 0 < r := by exact_mod_cast h
    have hp : (0:ℝ) < (2:ℝ) ^ (⌊lb r⌋ : ℝ) := Real.rpow_pos_of_pos (by norm_num) _
    rw [pow2_coe r hr, expo_coe r hr, Ideal.div_coe hp.ne', ← EReal.coe_mul]
    have : (0 : EReal) - (((⌊lb r⌋ : ℝ) + 1 : ℝ) : EReal) = ((-((⌊lb r⌋ : ℝ) + 1) : ℝ) : EReal) := by
      rw [zero_sub, ← EReal.coe_neg]
    rw [this]
    show _ = (((2:ℝ) ^ (-((⌊lb r⌋ : ℝ) + 1)) : ℝ) : EReal)
    rw [Real.rpow_neg (by norm_num), Real.rpow_add (by norm_num), Real.rpow_one]
    congr 1; field_simp

/-- The value 1/2, which the kernel puts for a tiny magnitude, has scale one. -/
theorem pow2_near (r : ℝ) (h1 : 1/2 ≤ r) (h2 : r < 1) : pow2 (r : EReal) = ((1/2 : ℝ) : EReal) := by
  have hr : 0 < r := by linarith
  rw [pow2_coe r hr]
  have : ⌊lb r⌋ = -1 := by
    rw [Int.floor_eq_iff]
    constructor
    · have hl : -Real.log 2 ≤ Real.log r := by
        rw [← Real.log_inv]; exact Real.log_le_log (by norm_num) (by linarith)
      rw [lb, le_div_iff₀ (Real.log_pos (by norm_num))]; push_cast; linarith
    · have hl : Real.log r < 0 := Real.log_neg hr h2
      have := div_neg_of_neg_of_pos hl (Real.log_pos (x := 2) (by norm_num))
      rw [lb]; push_cast; linarith
  rw [this]; congr 1; norm_num

/-! ## The quantiser of a group of an input row -/

/-- The exponent of a group's scale from the group's greatest magnitude. -/
def xExp (a : EReal) : EReal := if a < cTiny then 0 else expo (a * cInv)
/-- Its scale, -/
def xScale (a : EReal) : EReal := Ideal.exp2 (xExp a)
/-- and the factor its values are multiplied with. -/
def xInv (a : EReal) : EReal := Ideal.exp2 (0 - xExp a)
/-- Clipped to what an 8-bit float holds. -/
def clip (x : EReal) : EReal := min ((448 : ℝ) : EReal) (max ((-448 : ℝ) : EReal) x)

/-- What the kernel puts for the magnitude before it takes the power of two. -/
def xFed (a : EReal) : EReal := (if a < cTiny then ((256 : ℝ) : EReal) else a) * cInv

theorem exp2_zero : Ideal.exp2 0 = ((1 : ℝ) : EReal) := by
  show (((2:ℝ) ^ (0:ℝ) : ℝ) : EReal) = _; simp

theorem xFed_scale (a : EReal) : pow2 (xFed a) * ((2 : ℝ) : EReal) = xScale a := by
  unfold xFed xScale xExp
  by_cases h : a < cTiny
  · rw [if_pos h, if_pos h, exp2_zero, cInv_eq, ← EReal.coe_mul, pow2_near _ (by norm_num) (by norm_num), ← EReal.coe_mul]
    norm_num
  · rw [if_neg h, if_neg h]
    exact scale_eq _ (EReal.mul_pos (lt_of_lt_of_le cTiny_pos (not_lt.mp h)) (by rw [cInv_eq]; exact_mod_cast (by norm_num)))

theorem xFed_inv (a : EReal) : Ideal.div ((1/2 : ℝ) : EReal) (pow2 (xFed a)) = xInv a := by
  unfold xFed xInv xExp
  by_cases h : a < cTiny
  · rw [if_pos h, if_pos h, sub_zero, exp2_zero, cInv_eq, ← EReal.coe_mul, pow2_near _ (by norm_num) (by norm_num),
      Ideal.div_coe (by norm_num), ← EReal.coe_mul]
    norm_num
  · rw [if_neg h, if_neg h]
    exact inv_eq _ (EReal.mul_pos (lt_of_lt_of_le cTiny_pos (not_lt.mp h)) (by rw [cInv_eq]; exact_mod_cast (by norm_num)))

/-! ## The quantiser of a colbert row -/

def mExp (a : EReal) : EReal := if a * cInv < cMin then 0 else expo (a * cInv)
def mScale (a : EReal) : EReal := Ideal.exp2 (mExp a)
def mInv (a : EReal) : EReal := Ideal.exp2 (0 - mExp a)
def mFed (a : EReal) : EReal := if a * cInv < cMin then ((1/2 : ℝ) : EReal) else a * cInv

theorem mFed_scale (a : EReal) : pow2 (mFed a) * ((2 : ℝ) : EReal) = mScale a := by
  unfold mFed mScale mExp
  by_cases h : a * cInv < cMin
  · rw [if_pos h, if_pos h, exp2_zero, pow2_near _ (by norm_num) (by norm_num), ← EReal.coe_mul]
    norm_num
  · rw [if_neg h, if_neg h]
    exact scale_eq _ (lt_of_lt_of_le cMin_pos (not_lt.mp h))

theorem mFed_inv (a : EReal) : Ideal.div ((1/2 : ℝ) : EReal) (pow2 (mFed a)) = mInv a := by
  unfold mFed mInv mExp
  by_cases h : a * cInv < cMin
  · rw [if_pos h, if_pos h, sub_zero, exp2_zero, pow2_near _ (by norm_num) (by norm_num),
      Ideal.div_coe (by norm_num), ← EReal.coe_mul]
    norm_num
  · rw [if_neg h, if_neg h]
    exact inv_eq _ (lt_of_lt_of_le cMin_pos (not_lt.mp h))

/-- The magnitude, and the greatest magnitude of a family. -/
def mag (x : EReal) : EReal := max x (-x)
def amax {n : ℕ} (x : Fin n → EReal) : EReal := (Finset.univ : Finset (Fin n)).fold max ⊥ fun k => mag (x k)

theorem amax_eq_sup {n : ℕ} (x : Fin n → EReal) : amax x = Finset.univ.sup fun k => mag (x k) := rfl

theorem mag_nonneg (x : EReal) : 0 ≤ mag x := by
  unfold mag
  rcases le_total 0 x with h | h
  · exact le_max_of_le_left h
  · exact le_max_of_le_right (by simpa using h)

/-- A row's norm, floored. -/
def nrm (ss : EReal) : EReal := max (Ideal.sqrt ss) cEps

/-- Dividing by the floored norm is multiplying with its reciprocal, -/
theorem div_nrm (y ss : EReal) : Ideal.div y (nrm ss) = y * Ideal.div ((1 : ℝ) : EReal) (nrm ss) := by
  obtain ⟨e, he, hE⟩ := cEps_pos
  have hpos : 0 < nrm ss := lt_of_lt_of_le (by rw [hE]; exact_mod_cast he) (le_max_right _ _)
  unfold Ideal.div
  rw [if_neg hpos.ne', if_neg hpos.ne', EReal.coe_one, one_mul]

theorem rn_nonneg (ss : EReal) : 0 ≤ Ideal.div ((1 : ℝ) : EReal) (nrm ss) ∧ Ideal.div ((1 : ℝ) : EReal) (nrm ss) ≠ ⊤ := by
  obtain ⟨e, he, hE⟩ := cEps_pos
  have hpos : (e : EReal) ≤ nrm ss := by rw [← hE]; exact le_max_right _ _
  have h0 : 0 < nrm ss := lt_of_lt_of_le (by exact_mod_cast he) hpos
  have : Ideal.div ((1 : ℝ) : EReal) (nrm ss) = (nrm ss)⁻¹ := by
    unfold Ideal.div
    rw [if_neg h0.ne', EReal.coe_one, one_mul]
  rw [this]
  generalize nrm ss = n at *
  induction n with
  | bot => simp at h0
  | top => simp
  | coe r =>
    have hr : 0 < r := by exact_mod_cast h0
    rw [← EReal.coe_inv]
    exact ⟨by exact_mod_cast (inv_pos.mpr hr).le, EReal.coe_ne_top _⟩

/-- so the greatest magnitude of a row divided by it is the row's greatest magnitude times the reciprocal. -/
theorem mag_mul (y r : EReal) (h : 0 ≤ r) : mag (y * r) = mag y * r := by
  unfold mag
  rw [EReal.mul_comm y r, ← mul_neg, EReal.mul_comm (max y (-y)) r]
  rcases le_total y (-y) with hy | hy
  · rw [max_eq_right hy, max_eq_right (by exact mul_le_mul_of_nonneg_left hy h)]
  · rw [max_eq_left hy, max_eq_left (by exact mul_le_mul_of_nonneg_left hy h)]

theorem amax_mul {n : ℕ} (hn : 0 < n) (y : Fin n → EReal) (r : EReal) (h : 0 ≤ r) : amax (fun k => y k * r) = amax y * r := by
  haveI : Nonempty (Fin n) := ⟨⟨0, hn⟩⟩
  rw [amax_eq_sup, amax_eq_sup]
  obtain ⟨i, -, hi⟩ := Finset.exists_mem_eq_sup (Finset.univ : Finset (Fin n)) Finset.univ_nonempty fun k => mag (y k)
  apply le_antisymm
  · refine Finset.sup_le fun k _ => ?_
    rw [mag_mul _ _ h]
    exact mul_le_mul_of_nonneg_right (Finset.le_sup (f := fun k => mag (y k)) (Finset.mem_univ k)) h
  · rw [hi, ← mag_mul _ _ h]
    exact Finset.le_sup (f := fun k => mag (y k * r)) (Finset.mem_univ i)

/-! ## One token -/

/-- Lane `k` of group `g` of an input row, and a lane's group. -/
def lane (g : Fin 28) (k : Fin 128) : Fin 3584 := ⟨128 * g.val + k.val, by omega⟩
def grp (d : Fin 3584) : Fin 28 := ⟨d.val / 128, by omega⟩

variable (x : Fin 3584 → EReal)

def rowMax (g : Fin 28) : EReal := amax fun k : Fin 128 => x (lane g k)
/-- An input row's codes, scales, and the row read back from them. -/
def rowCode (d : Fin 3584) : EReal := clip (x d * xInv (rowMax x (grp d)))
def rowScale (g : Fin 28) : EReal := xScale (rowMax x g)
def rowBack (d : Fin 3584) : EReal := rowCode x d * rowScale x (grp d)

/-- The token's product row, zero off the live tokens, -/
def rowY (live : Prop) [Decidable live] (W : Fin 3584 → Fin 3072 → EReal) (ws bc : Fin 3072 → EReal) (d : Fin 3072) : EReal :=
  if live then (∑ k : Fin 3584, rowBack x k * W k d) * ws d + bc d else 0

/-- a row by its norm, the norm floored, -/
def unit (y : Fin 3072 → EReal) (d : Fin 3072) : EReal := Ideal.div (y d) (nrm (∑ k : Fin 3072, y k * y k))
/-- and that row's codes and scale. -/
def unitCode (y : Fin 3072 → EReal) (d : Fin 3072) : EReal := clip (unit y d * mInv (amax (unit y)))
def unitScale (y : Fin 3072 → EReal) : EReal := mScale (amax (unit y))

end Cert.Spec

end
-- ==== Proof.Reads.lean ====
/- The quantised tile, read element by element at the extended reals. -/
module

public import proofs.«01_k».proof.Proof.Closed
public import proofs.«01_k».proof.Proof.Spec
public import Idealize.ShloMosaic.Lib.Pointwise
public import Idealize.ShloMosaic.Lib.WritesUnit

@[expose] public section

set_option maxRecDepth 16384

noncomputable section

namespace Cert.KernelIdeal.Hand

open Cert.KernelIdeal.Gen
open Idealize.ShloMosaic Idealize.ShloMosaic.TcCoe

/-! ## The payloads of a chunk -/

theorem pay153_at (v w : FVec Ideal S256x128 .f32) (j : S256x128.Idx) : k0_pay153 v w j = Spec.pow2 (v j * w j) := by
  pointwise [k0_pay153]
  rw [Spec.two, Spec.half]
  rfl

theorem pay151_at (v : Vec Ideal S1x256x128 .bf16) (r : Fin 256) (l : Fin 128) :
    k0_pay151 v (ix2 r l) = (if (Spec.amax fun k : Fin 128 => v (ix3 0 r k)) < Spec.cTiny then ((256 : ℝ) : EReal)
      else Spec.amax fun k : Fin 128 => v (ix3 0 r k)) := by
  pointwise [k0_pay151, k0_pay150]
  rw [Spec.botb, Spec.tinyb, Spec.c256]
  rfl

theorem fed_at (v : Vec Ideal S1x256x128 .bf16) (r : Fin 256) (l : Fin 128) :
    k0_pay151 v (ix2 r l) * (k0_pay152 (F := Ideal)) (ix2 r l) = Spec.xFed (Spec.amax fun k : Fin 128 => v (ix3 0 r k)) := by
  rw [pay151_at]; rfl

theorem scaleP_at (v : Vec Ideal S1x256x128 .bf16) (r : Fin 256) (l : Fin 128) :
    scaleP (F := Ideal) v (ix2 r l) = Spec.xScale (Spec.amax fun k : Fin 128 => v (ix3 0 r k)) := by
  rw [← Spec.xFed_scale, ← fed_at v r l, ← pay153_at, ← Spec.two]
  rfl

theorem pay155_at (v : Vec Ideal S1x256x128 .bf16) (r : Fin 256) (l : Fin 128) :
    k0_pay155 (F := Ideal) (k0_pay150 v) (k0_pay151 v) k0_pay152 (ix2 r l)
      = Spec.clip (v (ix3 0 r l) * Spec.xInv (Spec.amax fun k : Fin 128 => v (ix3 0 r k))) := by
  rw [← Spec.xFed_inv, ← fed_at v r l, ← pay153_at]
  pointwise [k0_pay155, k0_pay150]
  rw [Spec.c448b, Spec.cm448b, Spec.half]
  rfl

theorem codeP_at (v : Vec Ideal S1x256x128 .bf16) (r : Fin 256) (l : Fin 128) :
    codeP (F := Ideal) v (ix2 r l) = Spec.clip (v (ix3 0 r l) * Spec.xInv (Spec.amax fun k : Fin 128 => v (ix3 0 r k))) := by
  rw [← pay155_at]
  pointwise [codeP, k0_pay158]

theorem xbP_at (v : Vec Ideal S1x256x128 .bf16) (r : Fin 256) (l : Fin 128) :
    xbP (F := Ideal) v (ix2 r l) = Spec.clip (v (ix3 0 r l) * Spec.xInv (Spec.amax fun k : Fin 128 => v (ix3 0 r k)))
      * Spec.xScale (Spec.amax fun k : Fin 128 => v (ix3 0 r k)) := by
  rw [← pay155_at, ← scaleP_at v r l]
  pointwise [xbP, k0_pay156]
  rfl

/-! ## A chunk of a window's tile -/

/-- Row `r` of a tile. -/
abbrev trow (x0 : Vec Ideal S1x256x3584 .bf16) (r : Fin 256) : Fin 3584 → EReal := fun d => x0 (ix3 0 r d)

theorem xchunk_at (arg3 : Memref sig .tc .vmem S1x256x3584 .bf16) (harg3 : arg3.IsWhole) (x0 : Vec Ideal S1x256x3584 .bf16)
    (n : ℕ) (h : n + 1 ≤ 28) (r : Fin 256) (l : Fin 128) :
    xchunk (F := Ideal) arg3 (harg3.unread x0) n h (ix3 0 r l) = trow x0 r (Spec.lane ⟨n, by omega⟩ l) := by
  unfold xchunk trow
  rw [View.readAt_apply, harg3.read_unread]
  congr 1
  funext a
  apply Fin.ext
  match a with
  | 0 => rfl
  | 1 => show 0 + 1 * r.val = r.val; omega
  | 2 => show 128 * n + 1 * l.val = 128 * n + l.val; omega

/-- A chunk number's codes. -/
abbrev xcOf (arg3 : Memref sig .tc .vmem S1x256x3584 .bf16) (harg3 : arg3.IsWhole) (x0 : Vec Ideal S1x256x3584 .bf16) :=
  xchunk (F := Ideal) arg3 (harg3.unread x0)

variable (arg3 : Memref sig .tc .vmem S1x256x3584 .bf16) (harg3 : arg3.IsWhole) (x0 : Vec Ideal S1x256x3584 .bf16)

theorem xcOf_at (n : ℕ) (h : n + 1 ≤ 28) (r : Fin 256) (l : Fin 128) :
    xcOf arg3 harg3 x0 n h (ix3 0 r l) = trow x0 r (Spec.lane ⟨n, by omega⟩ l) := xchunk_at arg3 harg3 x0 n h r l

theorem amax_chunk (n : ℕ) (h : n + 1 ≤ 28) (r : Fin 256) :
    (Spec.amax fun k : Fin 128 => xcOf arg3 harg3 x0 n h (ix3 0 r k)) = Spec.rowMax (trow x0 r) ⟨n, by omega⟩ := by
  unfold Spec.rowMax; congr 1; funext k; exact xchunk_at arg3 harg3 x0 n h r k

theorem lane_grp (d : Fin 3584) : Spec.lane (Spec.grp d) ⟨d.val % 128, by omega⟩ = d := by
  apply Fin.ext; show 128 * (d.val / 128) + d.val % 128 = d.val; omega

theorem codeP_chunk (r : Fin 256) (d : Fin 3584) :
    codeP (F := Ideal) (xcOf arg3 harg3 x0 (d.val / 128) (by omega)) (ix2 r ⟨d.val % 128, by omega⟩) = Spec.rowCode (trow x0 r) d := by
  rw [codeP_at, amax_chunk, xcOf_at]
  show Spec.clip (trow x0 r (Spec.lane (Spec.grp d) _) * _) = _
  rw [lane_grp]; rfl

theorem xbP_chunk (r : Fin 256) (d : Fin 3584) :
    xbP (F := Ideal) (xcOf arg3 harg3 x0 (d.val / 128) (by omega)) (ix2 r ⟨d.val % 128, by omega⟩) = Spec.rowBack (trow x0 r) d := by
  rw [xbP_at, amax_chunk, xcOf_at]
  show Spec.clip (trow x0 r (Spec.lane (Spec.grp d) _) * _) * _ = _
  rw [lane_grp]; rfl

theorem scaleP_chunk (n : ℕ) (h : n + 1 ≤ 28) (r : Fin 256) (l : Fin 128) :
    scaleP (F := Ideal) (xcOf arg3 harg3 x0 n h) (ix2 r l) = Spec.rowScale (trow x0 r) ⟨n, by omega⟩ := by
  rw [scaleP_at, amax_chunk]; rfl

/-! ## The codes' buffer -/

section cw
variable {Val : EltTy → Type} [∀ e, Nonempty (Val e)]

theorem cw_hit (v : View sig .tc .vmem S288x3584 .fp8e4m3) (f : v.ty.Contents (Elt Ideal)) (xc) (tail) (n : ℕ) (h : n ≤ 28) (r : Fin 256) (d : Fin 3584)
    (hd : d.val < 128 * n) :
    v.read (Elt Ideal) (v.writes (Elt Ideal) f (cwPieces (F := Ideal) xc tail n h)) (ix2 (⟨r.val, by omega⟩ : Fin 288) d)
      = codeP (F := Ideal) (xc (d.val / 128) (by omega)) (ix2 r ⟨d.val % 128, by omega⟩) := by
  induction n with
  | zero => omega
  | succ n ih =>
    by_cases hn : d.val < 128 * n
    · rw [cwPieces, View.read_writes_cons_unit_of_not_mem v f (inbCw n h) _ _ _ rfl 1 (Or.inl (by show d.val < 128 * n; omega))]
      exact ih _ hn
    · have e : d.val / 128 = n := by omega
      rw [cwPieces, View.read_writes_cons_unit_of_mem v f (inbCw n h) _ _ _ (ix2 r ⟨d.val % 128, by omega⟩) rfl]
      · subst e; rfl
      · intro a
        match a with
        | 0 => show r.val = 0 + r.val; omega
        | 1 => show d.val = 128 * n + d.val % 128; omega

theorem cw_miss (v : View sig .tc .vmem S288x3584 .fp8e4m3) (f : v.ty.Contents (Elt Ideal)) (xc) (tail) (n : ℕ) (h : n ≤ 28) (r : Fin 288) (d : Fin 3584)
    (hd : 256 ≤ r.val ∨ 128 * n ≤ d.val) :
    v.read (Elt Ideal) (v.writes (Elt Ideal) f (cwPieces (F := Ideal) xc tail n h)) (ix2 r d)
      = v.read (Elt Ideal) (v.writes (Elt Ideal) f tail) (ix2 r d) := by
  induction n with
  | zero => rfl
  | succ n ih =>
    rw [cwPieces]
    rcases hd with hd | hd
    · rw [View.read_writes_cons_unit_of_not_mem v f (inbCw n h) _ _ _ rfl 0 (Or.inr (by show 0 + 256 ≤ r.val; omega))]
      exact ih _ (Or.inl hd)
    · rw [View.read_writes_cons_unit_of_not_mem v f (inbCw n h) _ _ _ rfl 1 (Or.inr (by show 128 * n + 128 ≤ d.val; omega))]
      exact ih _ (Or.inr (by omega))

theorem xc_hit (w : View sig .tc .vmem S1x256x3584 .fp8e4m3) (g : w.ty.Contents (Elt Ideal)) (arg17 : Memref sig .tc .vmem S288x3584 .fp8e4m3)
    (xc) (tail) (n : ℕ) (h : n ≤ 28) (r : Fin 256) (d : Fin 3584) (hd : d.val < 128 * n) :
    w.read (Elt Ideal) (w.writes (Elt Ideal) g (xcPieces (F := Ideal) xc tail arg17 n h)) (ix3 0 r d)
      = arg17.view.read (Elt Ideal) (arg17.view.writes (Elt Ideal) arg17.view.junk (cwPieces (F := Ideal) xc tail (d.val / 128 + 1) (by omega)))
          (ix2 (⟨r.val + 1, by omega⟩ : Fin 288) d) := by
  induction n with
  | zero => omega
  | succ n ih =>
    by_cases hn : d.val < 128 * n
    · rw [xcPieces, View.read_writes_cons_unit_of_not_mem w g (inbX n h) _ _ _ rfl 2 (Or.inl (by show d.val < 128 * n; omega))]
      exact ih _ hn
    · have e : d.val / 128 = n := by omega
      rw [xcPieces, View.read_writes_cons_unit_of_mem w g (inbX n h) _ _ _ (ix3 0 r ⟨d.val % 128, by omega⟩) rfl]
      · subst e
        pointwise [k0_pay159]
        unfold View.readCov
        rw [View.readAt_apply]
        congr 1
        funext a
        apply Fin.ext
        match a with
        | 0 => show 1 + 1 * r.val = r.val + 1; omega
        | 1 => show 128 * (d.val / 128) + 1 * (d.val % 128) = d.val; omega
      · intro a
        match a with
        | 0 => show (0 : ℕ) = 0 + 0; omega
        | 1 => show r.val = 0 + r.val; omega
        | 2 => show d.val = 128 * n + d.val % 128; omega
end cw

/-- Row 256 after the carried rows have been moved is row 0 before. -/
theorem cwTail_at (v : View sig .tc .vmem S288x3584 .fp8e4m3) (g : v.ty.Contents (Elt Ideal)) (arg17 : Memref sig .tc .vmem S288x3584 .fp8e4m3)
    (f : arg17.view.ty.Contents (Elt Ideal)) (d : Fin 3584) :
    v.read (Elt Ideal) (v.writes (Elt Ideal) g (cwTail (F := Ideal) arg17 f)) (ix2 (⟨256, by omega⟩ : Fin 288) d)
      = arg17.view.read (Elt Ideal) f (ix2 (⟨0, by omega⟩ : Fin 288) d) := by
  unfold cwTail
  rw [View.read_writes_cons_unit_of_mem v g inb_S288x3584_S32x3584_256_0 _ _ _ (ix2 (⟨0, by omega⟩ : Fin 32) d) rfl]
  · pointwise [k0_pay147]
    rw [View.readAt_apply]
    congr 1
    funext a
    apply Fin.ext
    match a with
    | 0 => rfl
    | 1 => show 0 + 1 * d.val = d.val; omega
  · intro a
    match a with
    | 0 => rfl
    | 1 => show d.val = 0 + d.val; omega

/-! ## The scales' buffer -/

theorem kbits_val : ∀ n : ℕ, n < 28 → Ideal.ofBits .bf16 (kbits n) = ((n : ℝ) : EReal) := by
  intro n hn
  interval_cases n <;> simp [kbits, Ideal.ofBits, Ideal.ieee, -EReal.coe_mul] <;> norm_num

theorem scP_at (n : ℕ) (h : n ≤ 28) (r : Fin 256) (l : Fin 128) (hl : l.val < n) :
    scP (F := Ideal) (xcOf arg3 harg3 x0) n h (ix2 r l) = Spec.rowScale (trow x0 r) ⟨l.val, by omega⟩ := by
  induction n with
  | zero => omega
  | succ n ih =>
    have hc : (cmpf .oeq (k0_pay146 (F := Ideal)) (broadcast S256x128 (Scalar.ofBits (F := Ideal) .bf16 (kbits n)))) (ix2 r l)
        = BitVec.ofBool (decide (l.val = n)) := by
      pointwise [k0_pay146]
      rw [kbits_val n (by omega)]
      have e : FloatOps.sitofp (F := Ideal) FTy.bf16 (BitVec.ofNat 32 l.val) = ((l.val : ℝ) : EReal) := by
        show (((BitVec.ofNat 32 l.val).toInt : ℝ) : EReal) = _
        have : ∀ l : Fin 128, (BitVec.ofNat 32 l.val).toInt = (l.val : ℤ) := by decide
        rw [this l]; norm_cast
      rw [e]
      congr 2
      rw [EReal.coe_eq_coe_iff]
      exact propext Nat.cast_inj
    show (select (cmpf .oeq (k0_pay146 (F := Ideal)) (broadcast S256x128 (Scalar.ofBits (F := Ideal) .bf16 (kbits n)))) (scaleP (F := Ideal) (xcOf arg3 harg3 x0 n h)) (scP (F := Ideal) (xcOf arg3 harg3 x0) n (Nat.le_of_succ_le h))) (ix2 r l) = _
    show Scalar.select _ _ _ = _
    rw [hc, Scalar.select]
    by_cases hn : l.val = n
    · subst hn
      rw [if_pos (by simp)]
      exact scaleP_chunk arg3 harg3 x0 l.val h r l
    · rw [if_neg (by simp [hn])]
      exact ih _ (by omega)

theorem scBlock_at (r : Fin 256) (g : Fin 28) :
    scBlock (F := Ideal) (xcOf arg3 harg3 x0) (ix2 r (⟨g.val, by omega⟩ : Fin 128)) = Spec.rowScale (trow x0 r) g := by
  rw [← scP_at arg3 harg3 x0 28 (Nat.le_refl _) r ⟨g.val, by omega⟩ g.isLt]
  pointwise [scBlock]

theorem sc_hit (v : View sig .tc .vmem S264x128 .f32) (f : v.ty.Contents (Elt Ideal)) (xc) (tail) (r : Fin 256) (l : Fin 128) :
    v.read (Elt Ideal) (v.writes (Elt Ideal) f (scPieces (F := Ideal) xc tail)) (ix2 (⟨r.val, by omega⟩ : Fin 264) l) = scBlock (F := Ideal) xc (ix2 r l) := by
  unfold scPieces
  rw [View.read_writes_cons_unit_of_mem v f inb_S264x128_S256x128_0_0 _ _ _ (ix2 r l) rfl]
  intro a
  match a with
  | 0 => show r.val = 0 + r.val; omega
  | 1 => show l.val = 0 + l.val; omega

theorem sc_miss (v : View sig .tc .vmem S264x128 .f32) (f : v.ty.Contents (Elt Ideal)) (xc) (tail) (r : Fin 264) (l : Fin 128) (hr : 256 ≤ r.val) :
    v.read (Elt Ideal) (v.writes (Elt Ideal) f (scPieces (F := Ideal) xc tail)) (ix2 r l) = v.read (Elt Ideal) (v.writes (Elt Ideal) f tail) (ix2 r l) := by
  unfold scPieces
  rw [View.read_writes_cons_unit_of_not_mem v f inb_S264x128_S256x128_0_0 _ _ _ rfl 0 (Or.inr (by show 0 + 256 ≤ r.val; omega))]

theorem scTail_at (v : View sig .tc .vmem S264x128 .f32) (g : v.ty.Contents (Elt Ideal)) (arg18 : Memref sig .tc .vmem S264x128 .f32)
    (f : arg18.view.ty.Contents (Elt Ideal)) (l : Fin 128) :
    v.read (Elt Ideal) (v.writes (Elt Ideal) g (scTail (F := Ideal) arg18 f)) (ix2 (⟨256, by omega⟩ : Fin 264) l)
      = arg18.view.read (Elt Ideal) f (ix2 (⟨0, by omega⟩ : Fin 264) l) := by
  unfold scTail
  rw [View.read_writes_cons_unit_of_mem v g inb_S264x128_S8x128_256_0 _ _ _ (ix2 (⟨0, by omega⟩ : Fin 8) l) rfl]
  · pointwise [k0_pay148]
    rw [View.readAt_apply]
    congr 1
    funext a
    apply Fin.ext
    match a with
    | 0 => rfl
    | 1 => show 0 + 1 * l.val = l.val; omega
  · intro a
    match a with
    | 0 => rfl
    | 1 => show l.val = 0 + l.val; omega

theorem xs_hit (w : View sig .tc .vmem S1x256x28 .f32) (g : w.ty.Contents (Elt Ideal)) (arg18 : Memref sig .tc .vmem S264x128 .f32)
    (xc) (tail) (r : Fin 256) (l : Fin 28) :
    w.read (Elt Ideal) (w.writes (Elt Ideal) g (xsPieces (F := Ideal) xc tail arg18)) (ix3 0 r l)
      = arg18.view.read (Elt Ideal) (arg18.view.writes (Elt Ideal) arg18.view.junk (scPieces (F := Ideal) xc tail))
          (ix2 (⟨r.val + 1, by omega⟩ : Fin 264) (⟨l.val, by omega⟩ : Fin 128)) := by
  unfold xsPieces
  rw [View.read_writes_cons_unit_of_mem w g inb_S1x256x28_S1x256x28_0_0_0 _ _ _ (ix3 0 r l) rfl]
  · pointwise [k0_pay423]
    unfold View.readCov
    rw [View.readAt_apply]
    congr 1
    funext a
    apply Fin.ext
    match a with
    | 0 => show 1 + 1 * r.val = r.val + 1; omega
    | 1 => show 0 + 1 * l.val = l.val; omega
  · intro a
    match a with
    | 0 => rfl
    | 1 => show r.val = 0 + r.val; omega
    | 2 => show l.val = 0 + l.val; omega

/-! ## What a point leaves of the quantised tile -/

/-- The codes' tile: row `r` is row `r + 1` of the input tile quantised, -/
theorem xc_row (w : View sig .tc .vmem S1x256x3584 .fp8e4m3) (g : w.ty.Contents (Elt Ideal)) (arg17 : Memref sig .tc .vmem S288x3584 .fp8e4m3)
    (tail) (r : Fin 256) (r' : Fin 256) (hr : r'.val = r.val + 1) (d : Fin 3584) :
    w.read (Elt Ideal) (w.writes (Elt Ideal) g (xcPieces (F := Ideal) (xcOf arg3 harg3 x0) tail arg17 28 (Nat.le_refl _))) (ix3 0 r d)
      = Spec.rowCode (trow x0 r') d := by
  rw [xc_hit w g arg17 _ tail 28 _ r d (by omega)]
  have := cw_hit arg17.view arg17.view.junk (xcOf arg3 harg3 x0) tail (d.val / 128 + 1) (by omega) r' d (by omega)
  rw [codeP_chunk] at this
  rw [← this]
  congr 3
  exact hr.symm

/-- and its last row is the row carried over. -/
theorem xc_last (w : View sig .tc .vmem S1x256x3584 .fp8e4m3) (g : w.ty.Contents (Elt Ideal)) (arg17 : Memref sig .tc .vmem S288x3584 .fp8e4m3)
    (xc) (f : arg17.view.ty.Contents (Elt Ideal)) (d : Fin 3584) :
    w.read (Elt Ideal) (w.writes (Elt Ideal) g (xcPieces (F := Ideal) xc (cwTail (F := Ideal) arg17 f) arg17 28 (Nat.le_refl _))) (ix3 0 (⟨255, by omega⟩ : Fin 256) d)
      = arg17.view.read (Elt Ideal) f (ix2 (⟨0, by omega⟩ : Fin 288) d) := by
  rw [xc_hit w g arg17 _ _ 28 _ _ d (by omega)]
  rw [cw_miss _ _ _ _ _ _ _ _ (Or.inl (by show 256 ≤ 255 + 1; omega))]
  exact cwTail_at _ _ _ _ _

theorem cw_row (v : View sig .tc .vmem S288x3584 .fp8e4m3) (f : v.ty.Contents (Elt Ideal)) (tail) (r : Fin 256) (d : Fin 3584) :
    v.read (Elt Ideal) (v.writes (Elt Ideal) f (cwPieces (F := Ideal) (xcOf arg3 harg3 x0) tail 28 (Nat.le_refl _))) (ix2 (⟨r.val, by omega⟩ : Fin 288) d)
      = Spec.rowCode (trow x0 r) d := by
  rw [cw_hit v f _ tail 28 _ r d (by omega), codeP_chunk]

theorem xs_row (w : View sig .tc .vmem S1x256x28 .f32) (g : w.ty.Contents (Elt Ideal)) (arg18 : Memref sig .tc .vmem S264x128 .f32)
    (tail) (r : Fin 256) (r' : Fin 256) (hr : r'.val = r.val + 1) (l : Fin 28) :
    w.read (Elt Ideal) (w.writes (Elt Ideal) g (xsPieces (F := Ideal) (xcOf arg3 harg3 x0) tail arg18)) (ix3 0 r l) = Spec.rowScale (trow x0 r') l := by
  rw [xs_hit]
  have := sc_hit arg18.view arg18.view.junk (xcOf arg3 harg3 x0) tail r' ⟨l.val, by omega⟩
  rw [scBlock_at] at this
  rw [← this]
  congr 3
  exact hr.symm

theorem xs_last (w : View sig .tc .vmem S1x256x28 .f32) (g : w.ty.Contents (Elt Ideal)) (arg18 : Memref sig .tc .vmem S264x128 .f32)
    (xc) (f : arg18.view.ty.Contents (Elt Ideal)) (l : Fin 28) :
    w.read (Elt Ideal) (w.writes (Elt Ideal) g (xsPieces (F := Ideal) xc (scTail (F := Ideal) arg18 f) arg18)) (ix3 0 (⟨255, by omega⟩ : Fin 256) l)
      = arg18.view.read (Elt Ideal) f (ix2 (⟨0, by omega⟩ : Fin 264) (⟨l.val, by omega⟩ : Fin 128)) := by
  rw [xs_hit, sc_miss _ _ _ _ _ _ (by show 256 ≤ 255 + 1; omega)]
  exact scTail_at _ _ _ _ _

theorem sc_row (v : View sig .tc .vmem S264x128 .f32) (f : v.ty.Contents (Elt Ideal)) (tail) (r : Fin 256) (g : Fin 28) :
    v.read (Elt Ideal) (v.writes (Elt Ideal) f (scPieces (F := Ideal) (xcOf arg3 harg3 x0) tail)) (ix2 (⟨r.val, by omega⟩ : Fin 264) (⟨g.val, by omega⟩ : Fin 128))
      = Spec.rowScale (trow x0 r) g := by
  rw [sc_hit, scBlock_at]

end Cert.KernelIdeal.Hand

end
-- ==== Proof.ReadsProd.lean ====
/- The product, its rows' norms and their quantisation, read element by element at the extended reals. -/
module

public import proofs.«01_k».proof.Proof.Reads

@[expose] public section

set_option maxRecDepth 16384

noncomputable section

namespace Cert.KernelIdeal.Hand

open Cert.KernelIdeal.Gen
open Idealize.ShloMosaic Idealize.ShloMosaic.TcCoe

/-! ## The tile read back -/

theorem xb_hit (v : View sig .tc .vmem S256x3584 .bf16) (f : v.ty.Contents (Elt Ideal)) (xc) (n : ℕ) (h : n ≤ 28) (r : Fin 256) (d : Fin 3584)
    (hd : d.val < 128 * n) :
    v.read (Elt Ideal) (v.writes (Elt Ideal) f (xbPieces (F := Ideal) xc n h)) (ix2 r d)
      = xbP (F := Ideal) (xc (d.val / 128) (by omega)) (ix2 r ⟨d.val % 128, by omega⟩) := by
  induction n with
  | zero => omega
  | succ n ih =>
    by_cases hn : d.val < 128 * n
    · rw [xbPieces, View.read_writes_cons_unit_of_not_mem v f (inbXb n h) _ _ _ rfl 1 (Or.inl (by show d.val < 128 * n; omega))]
      exact ih _ hn
    · have e : d.val / 128 = n := by omega
      rw [xbPieces, View.read_writes_cons_unit_of_mem v f (inbXb n h) _ _ _ (ix2 r ⟨d.val % 128, by omega⟩) rfl]
      · subst e; rfl
      · intro a
        match a with
        | 0 => show r.val = 0 + r.val; omega
        | 1 => show d.val = 128 * n + d.val % 128; omega

theorem xbAll_at (arg3 : Memref sig .tc .vmem S1x256x3584 .bf16) (harg3 : arg3.IsWhole) (x0 : Vec Ideal S1x256x3584 .bf16)
    (arg19 : Memref sig .tc .vmem S256x3584 .bf16) (r : Fin 256) (d : Fin 3584) :
    xbAll (F := Ideal) (xcOf arg3 harg3 x0) arg19 (ix2 r d) = Spec.rowBack (trow x0 r) d := by
  rw [← xbP_chunk arg3 harg3, ← xb_hit arg19.view arg19.view.junk (xcOf arg3 harg3 x0) 28 (Nat.le_refl _) r d (by omega)]
  unfold xbAll View.readCov
  rw [View.readAt_apply]
  congr 1
  funext a
  apply Fin.ext
  match a with
  | 0 => show 0 + 1 * r.val = r.val; omega
  | 1 => show 0 + 1 * d.val = d.val; omega

theorem wchunk_at (arg7 : Memref sig .tc .vmem S3584x3072 .fp8e4m3) (harg7 : arg7.IsWhole) (x4 : Vec Ideal S3584x3072 .fp8e4m3)
    (n : ℕ) (h : n + 1 ≤ 24) (k : Fin 3584) (l : Fin 512) :
    wchunk (F := Ideal) arg7 (harg7.unread x4) n h (ix2 k l) = x4 (ix2 k (⟨512 * (n / 4) + l.val, by omega⟩ : Fin 3072)) := by
  unfold wchunk
  rw [View.readAt_apply, harg7.read_unread]
  congr 1
  funext a
  apply Fin.ext
  match a with
  | 0 => show 0 + 1 * k.val = k.val; omega
  | 1 => show 512 * (n / 4) + 1 * l.val = 512 * (n / 4) + l.val; omega

theorem rowchunk_at (arg8 : Memref sig .tc .vmem S1x3072 .f32) (harg8 : arg8.IsWhole) (x5 : Vec Ideal S1x3072 .f32)
    (n : ℕ) (h : n + 1 ≤ 24) (l : Fin 128) :
    rowchunk (F := Ideal) arg8 (harg8.unread x5) n h (ix2 0 l) = x5 (ix2 0 (⟨128 * n + l.val, by omega⟩ : Fin 3072)) := by
  unfold rowchunk
  rw [View.readAt_apply, harg8.read_unread]
  congr 1
  funext a
  apply Fin.ext
  match a with
  | 0 => rfl
  | 1 => show 128 * n + 1 * l.val = 128 * n + l.val; omega

/-! ## The product's row -/

/-- Column `l` of chunk `n`. -/
def col (n : ℕ) (h : n + 1 ≤ 24) (l : Fin 128) : Fin 3072 := ⟨128 * n + l.val, by omega⟩

section product

variable (live : IVec S256x128 1) (xb : Vec Ideal S256x3584 .bf16) (wc : (n : ℕ) → n + 1 ≤ 24 → Vec Ideal S3584x512 .fp8e4m3)
  (ws bc : (n : ℕ) → n + 1 ≤ 24 → Vec Ideal S1x128 .f32)

theorem yP_at (n : ℕ) (h : n + 1 ≤ 24) (r : Fin 256) (l : Fin 128) :
    yP (F := Ideal) live xb wc ws bc n h (ix2 r l)
      = if live (ix2 r l) = 1#1 then
          (∑ k : Fin 3584, xb (ix2 r k) * wc n h (ix2 k (⟨128 * (n % 4) + l.val, by omega⟩ : Fin 512))) * ws n h (ix2 0 l) + bc n h (ix2 0 l)
        else 0 := by
  pointwise [yP, k0_pay32, k0_pay24]
  rw [Scalar.select]
  congr 2

variable (Y : Fin 256 → Fin 3072 → EReal)
  (hY : ∀ n h r l, yP (F := Ideal) live xb wc ws bc n h (ix2 r l) = Y r (col n h l))

include hY

theorem ssP_at (n : ℕ) (h : n ≤ 24) (r : Fin 256) (l : Fin 128) :
    ssP (F := Ideal) live xb wc ws bc n h (ix2 r l)
      = ∑ k : Fin n, Y r (col k.val (by omega) l) * Y r (col k.val (by omega) l) := by
  induction n with
  | zero => pointwise [ssP, k0_pay22]; rfl
  | succ n ih =>
    rw [Fin.sum_univ_castSucc]
    have e : ssP (F := Ideal) live xb wc ws bc (n + 1) h (ix2 r l) = ssP (F := Ideal) live xb wc ws bc n (Nat.le_of_succ_le h) (ix2 r l)
        + yP (F := Ideal) live xb wc ws bc n h (ix2 r l) * yP (F := Ideal) live xb wc ws bc n h (ix2 r l) := rfl
    rw [e, ih, hY]
    rfl

theorem ymP_le (n : ℕ) (h : n ≤ 24) (r : Fin 256) (l : Fin 128) (c : EReal) :
    ymP (F := Ideal) live xb wc ws bc n h (ix2 r l) ≤ c ↔ 0 ≤ c ∧ ∀ k : Fin n, Spec.mag (Y r (col k.val (by omega) l)) ≤ c := by
  induction n with
  | zero =>
    have : ymP (F := Ideal) live xb wc ws bc 0 h (ix2 r l) = 0 := by pointwise [ymP, k0_pay23]
    rw [this]; simp
  | succ n ih =>
    have : ymP (F := Ideal) live xb wc ws bc (n + 1) h (ix2 r l)
        = max (ymP (F := Ideal) live xb wc ws bc n (Nat.le_of_succ_le h) (ix2 r l)) (Spec.mag (Y r (col n h l))) := by
      rw [← hY n h]; rfl
    rw [this, max_le_iff, ih, Fin.forall_fin_succ', and_assoc]
    rfl

/-- The sum over lanes of the sums over chunks is the sum over the row. -/
theorem sum_cols (f : Fin 3072 → EReal) : (∑ l : Fin 128, ∑ k : Fin 24, f (col k.val (by omega) l)) = ∑ d : Fin 3072, f d := by
  rw [Finset.sum_comm, ← Fintype.sum_prod_type' (f := fun (k : Fin 24) (l : Fin 128) => f (col k.val (by omega) l))]
  refine Fintype.sum_equiv (finProdFinEquiv (m := 24) (n := 128)) _ _ fun p => ?_
  congr 1
  apply Fin.ext
  show 128 * p.1.val + p.2.val = p.2.val + 128 * p.1.val
  omega

theorem rnP_at (r : Fin 256) :
    rnP (F := Ideal) live xb wc ws bc (ix2 r 0) = Ideal.div ((1 : ℝ) : EReal) (Spec.nrm (∑ d : Fin 3072, Y r d * Y r d)) := by
  have h24 : ∀ l : Fin 128, ssP (F := Ideal) live xb wc ws bc 23 (by omega) (ix2 r l)
      + yP (F := Ideal) live xb wc ws bc 23 (by omega) (ix2 r l) * yP (F := Ideal) live xb wc ws bc 23 (by omega) (ix2 r l)
      = ∑ k : Fin 24, Y r (col k.val (by omega) l) * Y r (col k.val (by omega) l) := fun l =>
    ssP_at live xb wc ws bc Y hY 24 (Nat.le_refl _) r l
  rw [← sum_cols live xb wc ws bc Y hY (fun d => Y r d * Y r d)]
  simp only [← h24]
  pointwise [rnP, k0_pay110]
  rfl

theorem amax_cols (r : Fin 256) :
    ((Finset.univ : Finset (Fin 128)).fold max ⊥ fun l => max (ymP (F := Ideal) live xb wc ws bc 23 (by omega) (ix2 r l))
      (Spec.mag (yP (F := Ideal) live xb wc ws bc 23 (by omega) (ix2 r l)))) = Spec.amax (Y r) := by
  have h24 : ∀ l : Fin 128, max (ymP (F := Ideal) live xb wc ws bc 23 (by omega) (ix2 r l))
      (Spec.mag (yP (F := Ideal) live xb wc ws bc 23 (by omega) (ix2 r l))) = ymP (F := Ideal) live xb wc ws bc 24 (Nat.le_refl _) (ix2 r l) := fun l => rfl
  simp only [h24]
  refine eq_of_forall_ge_iff fun c => ?_
  rw [Spec.amax_eq_sup, Finset.sup_le_iff]
  show Finset.univ.sup _ ≤ c ↔ _
  rw [Finset.sup_le_iff]
  constructor
  · intro hh d _
    have := ((ymP_le live xb wc ws bc Y hY 24 (Nat.le_refl _) r ⟨d.val % 128, by omega⟩ c).mp (hh _ (Finset.mem_univ _))).2 ⟨d.val / 128, by omega⟩
    have e : col (d.val / 128) (by omega) ⟨d.val % 128, by omega⟩ = d := by
      apply Fin.ext; show 128 * (d.val / 128) + d.val % 128 = d.val; omega
    rw [← e]; exact this
  · intro hh l _
    exact (ymP_le live xb wc ws bc Y hY 24 (Nat.le_refl _) r l c).mpr
      ⟨(Spec.mag_nonneg _).trans (hh 0 (Finset.mem_univ _)), fun k => hh _ (Finset.mem_univ _)⟩

theorem unit_eq (r : Fin 256) (d : Fin 3072) : Spec.unit (Y r) d = Y r d * rnP (F := Ideal) live xb wc ws bc (ix2 r 0) := by
  rw [rnP_at live xb wc ws bc Y hY, Spec.unit, Spec.div_nrm]

theorem amax_unit (r : Fin 256) : Spec.amax (Spec.unit (Y r)) = Spec.amax (Y r) * rnP (F := Ideal) live xb wc ws bc (ix2 r 0) := by
  rw [show Spec.unit (Y r) = fun d => Y r d * rnP (F := Ideal) live xb wc ws bc (ix2 r 0) from funext fun d => unit_eq live xb wc ws bc Y hY r d]
  refine Spec.amax_mul (by omega) _ _ ?_
  rw [rnP_at live xb wc ws bc Y hY]
  exact (Spec.rn_nonneg _).1

theorem pay111_at (r : Fin 256) :
    k0_pay111 (F := Ideal) (ssP live xb wc ws bc 23 (by omega)) (ymP live xb wc ws bc 23 (by omega)) (yP live xb wc ws bc 23 (by omega)) (ix2 r 0)
      = Spec.pow2 (Spec.mFed (Spec.amax (Spec.unit (Y r)))) := by
  rw [amax_unit live xb wc ws bc Y hY, ← amax_cols live xb wc ws bc Y hY]
  unfold rnP
  pointwise [k0_pay111]
  rw [Spec.bot32, Spec.two, Spec.half]
  rfl

theorem invP_at (r : Fin 256) : invP (F := Ideal) live xb wc ws bc (ix2 r 0) = Spec.mInv (Spec.amax (Spec.unit (Y r))) := by
  rw [← Spec.mFed_inv, ← pay111_at live xb wc ws bc Y hY]
  pointwise [invP, k0_pay112]
  rw [Spec.half]

theorem msP_at (r : Fin 256) (l : Fin 128) : msP (F := Ideal) live xb wc ws bc (ix2 r l) = Spec.unitScale (Y r) := by
  unfold Spec.unitScale
  rw [← Spec.mFed_scale, ← pay111_at live xb wc ws bc Y hY]
  pointwise [msP, k0_pay113]
  rw [Spec.two]

/-! ## The product's buffer, and the colbert codes' -/

theorem y_hit (v : View sig .tc .vmem S256x3072 .f32) (f : v.ty.Contents (Elt Ideal)) (n : ℕ) (h : n ≤ 24) (r : Fin 256) (d : Fin 3072)
    (hd : d.val < 128 * n) :
    v.read (Elt Ideal) (v.writes (Elt Ideal) f (yPieces (F := Ideal) live xb wc ws bc n h)) (ix2 r d) = Y r d := by
  induction n with
  | zero => omega
  | succ n ih =>
    by_cases hn : d.val < 128 * n
    · rw [yPieces, View.read_writes_cons_unit_of_not_mem v f (inbY n h) _ _ _ rfl 1 (Or.inl (by show d.val < 128 * n; omega))]
      exact ih _ hn
    · have e : d.val / 128 = n := by omega
      rw [yPieces, View.read_writes_cons_unit_of_mem v f (inbY n h) _ _ _ (ix2 r ⟨d.val % 128, by omega⟩) rfl]
      · subst e
        have e : col (d.val / 128) (by omega) ⟨d.val % 128, by omega⟩ = d := by
          apply Fin.ext; show 128 * (d.val / 128) + d.val % 128 = d.val; omega
        pointwise [k0_pay109]
        rw [hY, e]
      · intro a
        match a with
        | 0 => show r.val = 0 + r.val; omega
        | 1 => show d.val = 128 * n + d.val % 128; omega

theorem mw_hit (v : View sig .tc .vmem S288x3072 .fp8e4m3) (f : v.ty.Contents (Elt Ideal)) (arg20 : Memref sig .tc .vmem S256x3072 .f32) (tail)
    (n : ℕ) (h : n ≤ 24) (r : Fin 256) (d : Fin 3072) (hd : d.val < 128 * n) :
    v.read (Elt Ideal) (v.writes (Elt Ideal) f (mwPieces (F := Ideal) live xb wc ws bc arg20 tail n h)) (ix2 (⟨r.val, by omega⟩ : Fin 288) d)
      = Spec.unitCode (Y r) d := by
  induction n with
  | zero => omega
  | succ n ih =>
    by_cases hn : d.val < 128 * n
    · rw [mwPieces, View.read_writes_cons_unit_of_not_mem v f (inbMw n h) _ _ _ rfl 1 (Or.inl (by show d.val < 128 * n; omega))]
      exact ih _ hn
    · have e : d.val / 128 = n := by omega
      rw [mwPieces, View.read_writes_cons_unit_of_mem v f (inbMw n h) _ _ _ (ix2 r ⟨d.val % 128, by omega⟩) rfl]
      · have hc : arg20.view.readCov (yPieces (F := Ideal) live xb wc ws bc 24 (Nat.le_refl _))
            (Rect.unit (s := S256x3072) ![0, 128 * n] S256x128.size (inbY n h)).toLoadRect (ix2 r (⟨d.val % 128, by omega⟩ : Fin 128)) = Y r d := by
          rw [← y_hit live xb wc ws bc Y hY arg20.view arg20.view.junk 24 (Nat.le_refl _) r d (by omega)]
          unfold View.readCov
          rw [View.readAt_apply]
          congr 1
          funext a
          apply Fin.ext
          match a with
          | 0 => show 0 + 1 * r.val = r.val; omega
          | 1 => show 128 * n + 1 * (d.val % 128) = d.val; omega
        unfold Spec.unitCode
        rw [unit_eq live xb wc ws bc Y hY, ← invP_at live xb wc ws bc Y hY, ← hc]
        pointwise [k0_pay116]
        rw [Spec.c448, Spec.cm448]
        rfl
      · intro a
        match a with
        | 0 => show r.val = 0 + r.val; omega
        | 1 => show d.val = 128 * n + d.val % 128; omega

omit hY in
theorem mw_miss (v : View sig .tc .vmem S288x3072 .fp8e4m3) (f : v.ty.Contents (Elt Ideal)) (arg20 : Memref sig .tc .vmem S256x3072 .f32) (tail)
    (n : ℕ) (h : n ≤ 24) (r : Fin 288) (d : Fin 3072) (hr : 256 ≤ r.val) :
    v.read (Elt Ideal) (v.writes (Elt Ideal) f (mwPieces (F := Ideal) live xb wc ws bc arg20 tail n h)) (ix2 r d)
      = v.read (Elt Ideal) (v.writes (Elt Ideal) f tail) (ix2 r d) := by
  induction n with
  | zero => rfl
  | succ n ih =>
    rw [mwPieces, View.read_writes_cons_unit_of_not_mem v f (inbMw n h) _ _ _ rfl 0 (Or.inr (by show 0 + 256 ≤ r.val; omega))]
    exact ih _

end product

theorem cmpi_eq_ne {a b : BitVec 32} (h : a ≠ b) : ¬ IntOp.cmpi .eq a b = 1#1 := by
  have e : (a == b) = false := by simpa using h
  show ¬ BitVec.ofBool (a == b) = 1#1
  rw [e]; decide

theorem mwTail_at (i : grid0.Coords) (hi : tileW i ≠ 15#32) (v : View sig .tc .vmem S288x3072 .fp8e4m3) (g : v.ty.Contents (Elt Ideal)) (arg21 : Memref sig .tc .vmem S288x3072 .fp8e4m3)
    (f : arg21.view.ty.Contents (Elt Ideal)) (d : Fin 3072) :
    v.read (Elt Ideal) (v.writes (Elt Ideal) g (mwTail (F := Ideal) i arg21 f)) (ix2 (⟨256, by omega⟩ : Fin 288) d)
      = arg21.view.read (Elt Ideal) f (ix2 (⟨0, by omega⟩ : Fin 288) d) := by
  unfold mwTail
  rw [View.read_writes_cons_unit_of_mem v g inb_S288x3072_S32x3072_256_0 _ _ _ (ix2 (⟨0, by omega⟩ : Fin 32) d) rfl]
  · pointwise [k0_pay424]
    rw [show ∀ a b : EReal, Scalar.select (Scalar.cmpi .eq (tileW i) 15#32) a b = b from fun a b => if_neg (show ¬ Scalar.cmpi .eq (tileW i) 15#32 = 1 from cmpi_eq_ne hi), View.readAt_apply]
    congr 1
    funext a
    apply Fin.ext
    match a with
    | 0 => rfl
    | 1 => show 0 + 1 * d.val = d.val; omega
  · intro a
    match a with
    | 0 => rfl
    | 1 => show d.val = 0 + d.val; omega

theorem e4m3_zero : Ideal.e4m3fn 0#8 = 0 := by
  simp [Ideal.e4m3fn]

theorem pad_hit (v : View sig .tc .vmem S288x3072 .fp8e4m3) (f : v.ty.Contents (Elt Ideal)) (tail) (r : Fin 256) (d : Fin 3072) :
    v.read (Elt Ideal) (v.writes (Elt Ideal) f (padPiece (F := Ideal) :: tail)) (ix2 (⟨r.val, by omega⟩ : Fin 288) d) = 0 := by
  unfold padPiece
  rw [View.read_writes_cons_unit_of_mem v f inb_S288x3072_S256x3072_0_0 _ _ _ (ix2 r d) rfl]
  · pointwise [k0_pay425]
    exact e4m3_zero
  · intro a
    match a with
    | 0 => show r.val = 0 + r.val; omega
    | 1 => show d.val = 0 + d.val; omega

theorem pad_miss (v : View sig .tc .vmem S288x3072 .fp8e4m3) (f : v.ty.Contents (Elt Ideal)) (tail) (r : Fin 288) (d : Fin 3072) (hr : 256 ≤ r.val) :
    v.read (Elt Ideal) (v.writes (Elt Ideal) f (padPiece (F := Ideal) :: tail)) (ix2 r d) = v.read (Elt Ideal) (v.writes (Elt Ideal) f tail) (ix2 r d) := by
  unfold padPiece
  rw [View.read_writes_cons_unit_of_not_mem v f inb_S288x3072_S256x3072_0_0 _ _ _ rfl 0 (Or.inr (by show 0 + 256 ≤ r.val; omega))]

theorem mv_hit (w : View sig .tc .vmem S1x256x3072 .fp8e4m3) (g : w.ty.Contents (Elt Ideal)) (arg21 : Memref sig .tc .vmem S288x3072 .fp8e4m3)
    (L) (r : Fin 256) (d : Fin 3072) :
    w.read (Elt Ideal) (w.writes (Elt Ideal) g (mvPieces (F := Ideal) arg21 L)) (ix3 0 r d)
      = arg21.view.read (Elt Ideal) (arg21.view.writes (Elt Ideal) arg21.view.junk L) (ix2 (⟨r.val + 1, by omega⟩ : Fin 288) d) := by
  unfold mvPieces
  rw [View.read_writes_cons_unit_of_mem w g inb_S1x256x3072_S1x256x3072_0_0_0 _ _ _ (ix3 0 r d) rfl]
  · pointwise []
    unfold View.readCov
    rw [View.readAt_apply]
    congr 1
    funext a
    apply Fin.ext
    match a with
    | 0 => show 1 + 1 * r.val = r.val + 1; omega
    | 1 => show 0 + 1 * d.val = d.val; omega
  · intro a
    match a with
    | 0 => rfl
    | 1 => show r.val = 0 + r.val; omega
    | 2 => show d.val = 0 + d.val; omega

end Cert.KernelIdeal.Hand

end
-- ==== Proof.Point.lean ====
/- One point of the grid at the extended reals: what the stores of a tile leave in the result blocks and in the carried rows. -/
module

public import proofs.«01_k».proof.Proof.ReadsProd
public import Idealize.ShloMosaic.Lib.Affine

@[expose] public section

set_option maxRecDepth 16384

noncomputable section

namespace Cert.KernelIdeal.Hand

open Cert.KernelIdeal.Gen
open Idealize.ShloMosaic Idealize.ShloMosaic.TcCoe

/-! ## The tile and its live tokens -/

/-- The tile at a point: the tiles of a row are visited from the last to the first. -/
def tn (i : grid0.Coords) : ℕ := 15 - (i 1).val

/-- Token `s` of a row of length `w` gets a vector: not the first token, and under the length. -/
def liveAt (w : BitVec 32) (s : ℕ) : Prop := 1 ≤ s ∧ (s : ℤ) < w.toInt
instance (w : BitVec 32) (s : ℕ) : Decidable (liveAt w s) := by unfold liveAt; infer_instance

theorem base_eq (i : grid0.Coords) : Scalar.muli (Scalar.subi 15#32 (BitVec.ofNat 32 (i 1).val)) 256#32 = BitVec.ofNat 32 (256 * tn i) := by
  have h : (i 1).val < 16 := (i 1).isLt
  unfold tn
  generalize (i 1).val = n at h
  interval_cases n <;> rfl

theorem tn_le (i : grid0.Coords) : tn i ≤ 15 := by unfold tn; omega

theorem toInt_small (n : ℕ) (h : n < 2 ^ 31) : (BitVec.ofNat 32 n).toInt = n := by
  rw [BitVec.toInt_eq_toNat_of_lt] <;> rw [BitVec.toNat_ofNat, Nat.mod_eq_of_lt (by omega)] <;> omega

theorem live_iff (w : BitVec 32) (i : grid0.Coords) (r : Fin 256) (l : Fin 128) :
    k0_pay1 (F := Ideal) w (Scalar.muli (Scalar.subi 15#32 (BitVec.ofNat 32 (i 1).val)) 256#32) (ix2 r l) = 1#1 ↔ liveAt w (256 * tn i + r.val) := by
  rw [base_eq]
  pointwise [k0_pay1]
  have := tn_le i
  simp only [IntOp.addi]
  rw [← BitVec.ofNat_add, IntOp.andi_eq_one, IntOp.cmpi_sge, IntOp.cmpi_slt, toInt_small (256 * tn i + r.val) (by omega)]
  unfold liveAt
  show ((1#32 : BitVec 32).toInt ≤ _ ∧ _) ↔ _
  rw [show (1#32 : BitVec 32).toInt = 1 from by decide]
  omega

/-- A tile that starts at or past the length has no live token. -/
theorem not_live {w : BitVec 32} {i : grid0.Coords} (h : ¬ k0_cond3 i w = 1#1) (r : ℕ) : ¬ liveAt w (256 * tn i + r) := by
  have := tn_le i
  have hs : ¬ ((256 * tn i : ℕ) : ℤ) < w.toInt := by
    intro hlt
    apply h
    have : Scalar.cmpi .slt (BitVec.ofNat 32 (256 * tn i)) w = 1#1 := by
      show IntOp.cmpi .slt _ w = 1#1
      rw [IntOp.cmpi_slt, toInt_small _ (by omega)]; exact hlt
    simp only [k0_cond3]
    rw [base_eq, this]
    decide
  unfold liveAt
  omega

/-- The token's product row. -/
def yRow (T : Fin 3584 → EReal) (w : BitVec 32) (s : ℕ) (x4 : Vec Ideal S3584x3072 .fp8e4m3) (x5 x6 : Vec Ideal S1x3072 .f32) : Fin 3072 → EReal :=
  Spec.rowY T (liveAt w s) (fun k d => x4 (ix2 k d)) (fun d => x5 (ix2 0 d)) (fun d => x6 (ix2 0 d))

theorem yRow_dead {T : Fin 3584 → EReal} {w : BitVec 32} {s : ℕ} (h : ¬ liveAt w s) (x4 x5 x6) : yRow T w s x4 x5 x6 = fun _ => 0 := by
  funext d
  unfold yRow Spec.rowY
  rw [if_neg h]

/-! ## What the blocks hold -/

/-- The block of codes: each row is the NEXT token's. -/
def RC (i : grid0.Coords) (T : ℕ → Fin 3584 → EReal) (X : Vec Ideal S1x256x3584 .fp8e4m3) : Prop :=
  ∀ (r : Fin 256) (d : Fin 3584), (r.val < 255 ∨ (i 1).val ≠ 0) → X (ix3 0 r d) = Spec.rowCode (T (r.val + 1)) d
def RS (i : grid0.Coords) (T : ℕ → Fin 3584 → EReal) (X : Vec Ideal S1x256x28 .f32) : Prop :=
  ∀ (r : Fin 256) (g : Fin 28), (r.val < 255 ∨ (i 1).val ≠ 0) → X (ix3 0 r g) = Spec.rowScale (T (r.val + 1)) g
def RM (i : grid0.Coords) (Y : ℕ → Fin 3072 → EReal) (X : Vec Ideal S1x256x3072 .fp8e4m3) : Prop :=
  ∀ (r : Fin 256) (d : Fin 3072), (r.val < 255 ∨ (i 1).val ≠ 0) → X (ix3 0 r d) = Spec.unitCode (Y (r.val + 1)) d
/-- The carried rows: row 0 is the tile's first token's. -/
def C0 (x : Fin 3584 → EReal) (X : Vec Ideal S288x3584 .fp8e4m3) : Prop := ∀ d : Fin 3584, X (ix2 (⟨0, by omega⟩ : Fin 288) d) = Spec.rowCode x d
def C1 (x : Fin 3584 → EReal) (X : Vec Ideal S264x128 .f32) : Prop :=
  ∀ g : Fin 28, X (ix2 (⟨0, by omega⟩ : Fin 264) (⟨g.val, by omega⟩ : Fin 128)) = Spec.rowScale x g
def C4 (y : Fin 3072 → EReal) (X : Vec Ideal S288x3072 .fp8e4m3) : Prop := ∀ d : Fin 3072, X (ix2 (⟨0, by omega⟩ : Fin 288) d) = Spec.unitCode y d
/-- The scales: the tile's are the tokens', the others as they were. -/
def M5 (i : grid0.Coords) (Y : ℕ → Fin 3072 → EReal) (base X : Vec Ideal S6x4096 .f32) : Prop :=
  ∀ (b : Fin 6) (s : Fin 4096), X (ix2 b s) = if b.val = (i 0).val ∧ s.val / 256 = tn i then Spec.unitScale (Y (s.val % 256)) else base (ix2 b s)

section input

variable (i : grid0.Coords) (T : ℕ → Fin 3584 → EReal)
  (arg3 : Memref sig .tc .vmem S1x256x3584 .bf16) (harg3 : arg3.IsWhole) (x0 : Vec Ideal S1x256x3584 .bf16)
  (hT : ∀ r : Fin 256, trow x0 r = T r.val)
include hT

theorem c0_cw (v : View sig .tc .vmem S288x3584 .fp8e4m3) (f : v.ty.Contents (Elt Ideal)) (tail) :
    C0 (T 0) (v.read (Elt Ideal) (v.writes (Elt Ideal) f (cwPieces (F := Ideal) (xcOf arg3 harg3 x0) tail 28 (Nat.le_refl _)))) := fun d => by
  rw [← show trow x0 0 = T 0 from hT 0]; exact cw_row arg3 harg3 x0 v f tail 0 d

theorem c1_sc (v : View sig .tc .vmem S264x128 .f32) (f : v.ty.Contents (Elt Ideal)) (tail) :
    C1 (T 0) (v.read (Elt Ideal) (v.writes (Elt Ideal) f (scPieces (F := Ideal) (xcOf arg3 harg3 x0) tail))) := fun g => by
  rw [← show trow x0 0 = T 0 from hT 0]; exact sc_row arg3 harg3 x0 v f tail 0 g

theorem rc_first (hi : (i 1).val = 0) (w : View sig .tc .vmem S1x256x3584 .fp8e4m3) (g : w.ty.Contents (Elt Ideal))
    (arg17 : Memref sig .tc .vmem S288x3584 .fp8e4m3) (tail) :
    RC i T (w.read (Elt Ideal) (w.writes (Elt Ideal) g (xcPieces (F := Ideal) (xcOf arg3 harg3 x0) tail arg17 28 (Nat.le_refl _)))) := fun r d h => by
  have h := h.resolve_right (fun h => h hi)
  rw [xc_row arg3 harg3 x0 w g arg17 tail r ⟨r.val + 1, by omega⟩ rfl d, hT]

theorem rs_first (hi : (i 1).val = 0) (w : View sig .tc .vmem S1x256x28 .f32) (g : w.ty.Contents (Elt Ideal))
    (arg18 : Memref sig .tc .vmem S264x128 .f32) (tail) :
    RS i T (w.read (Elt Ideal) (w.writes (Elt Ideal) g (xsPieces (F := Ideal) (xcOf arg3 harg3 x0) tail arg18))) := fun r d h => by
  have h := h.resolve_right (fun h => h hi)
  rw [xs_row arg3 harg3 x0 w g arg18 tail r ⟨r.val + 1, by omega⟩ rfl d, hT]

theorem rc_next (w : View sig .tc .vmem S1x256x3584 .fp8e4m3) (g : w.ty.Contents (Elt Ideal))
    (arg17 : Memref sig .tc .vmem S288x3584 .fp8e4m3) (harg17 : arg17.IsWhole) (xs0 : Vec Ideal S288x3584 .fp8e4m3)
    (hc : (i 1).val ≠ 0 → C0 (T 256) xs0) :
    RC i T (w.read (Elt Ideal) (w.writes (Elt Ideal) g (xcPieces (F := Ideal) (xcOf arg3 harg3 x0) (cwTail (F := Ideal) arg17 (harg17.unread xs0)) arg17 28 (Nat.le_refl _)))) := fun r d h => by
  by_cases hr : r.val < 255
  · rw [xc_row arg3 harg3 x0 w g arg17 _ r ⟨r.val + 1, by omega⟩ rfl d, hT]
  · obtain ⟨r, hr'⟩ := r
    obtain rfl : r = 255 := by have : ¬ r < 255 := hr; omega
    rw [xc_last, harg17.read_unread]
    exact hc (h.resolve_left hr) d

theorem rs_next (w : View sig .tc .vmem S1x256x28 .f32) (g : w.ty.Contents (Elt Ideal))
    (arg18 : Memref sig .tc .vmem S264x128 .f32) (harg18 : arg18.IsWhole) (xs1 : Vec Ideal S264x128 .f32)
    (hc : (i 1).val ≠ 0 → C1 (T 256) xs1) :
    RS i T (w.read (Elt Ideal) (w.writes (Elt Ideal) g (xsPieces (F := Ideal) (xcOf arg3 harg3 x0) (scTail (F := Ideal) arg18 (harg18.unread xs1)) arg18))) := fun r d h => by
  by_cases hr : r.val < 255
  · rw [xs_row arg3 harg3 x0 w g arg18 _ r ⟨r.val + 1, by omega⟩ rfl d, hT]
  · obtain ⟨r, hr'⟩ := r
    obtain rfl : r = 255 := by have : ¬ r < 255 := hr; omega
    rw [xs_last, harg18.read_unread]
    exact hc (h.resolve_left hr) d

end input

/-! ## The product's blocks -/

/-- A zero row has zero codes and scale one. -/
theorem unit_zero : Spec.unit (fun _ => 0) = fun _ => 0 := by
  funext d
  unfold Spec.unit
  rw [Spec.div_nrm, zero_mul]

theorem unitCode_zero (d : Fin 3072) : Spec.unitCode (fun _ => 0) d = 0 := by
  unfold Spec.unitCode
  rw [unit_zero, zero_mul]
  simp [Spec.clip]

theorem tile_ne {i : grid0.Coords} (h : (i 1).val ≠ 0) : tileW i ≠ 15#32 := by
  have h' : (i 1).val < 16 := (i 1).isLt
  show Scalar.subi 15#32 (BitVec.ofNat 32 (i 1).val) ≠ 15#32
  generalize (i 1).val = n at h h'
  interval_cases n <;> first | omega | decide

/-- Codes of a buffer at the extended reals, shifted by a row, as the block's. -/
theorem rm_of (i : grid0.Coords) (Y : ℕ → Fin 3072 → EReal) (w : View sig .tc .vmem S1x256x3072 .fp8e4m3) (g : w.ty.Contents (Elt Ideal))
    (arg21 : Memref sig .tc .vmem S288x3072 .fp8e4m3) (L)
    (h1 : ∀ (r : Fin 256) d, arg21.view.read (Elt Ideal) (arg21.view.writes (Elt Ideal) arg21.view.junk L) (ix2 (⟨r.val, by omega⟩ : Fin 288) d) = Spec.unitCode (Y r.val) d)
    (h2 : (i 1).val ≠ 0 → ∀ d, arg21.view.read (Elt Ideal) (arg21.view.writes (Elt Ideal) arg21.view.junk L) (ix2 (⟨256, by omega⟩ : Fin 288) d) = Spec.unitCode (Y 256) d) :
    RM i Y (w.read (Elt Ideal) (w.writes (Elt Ideal) g (mvPieces (F := Ideal) arg21 L))) := fun r d h => by
  rw [mv_hit]
  by_cases hr : r.val < 255
  · exact h1 ⟨r.val + 1, by omega⟩ d
  · obtain ⟨r, hr'⟩ := r
    obtain rfl : r = 255 := by have : ¬ r < 255 := hr; omega
    exact h2 (h.resolve_left hr) d

section product

variable (i : grid0.Coords) (Y : ℕ → Fin 3072 → EReal)
  (live : IVec S256x128 1) (xb : Vec Ideal S256x3584 .bf16) (wc : (n : ℕ) → n + 1 ≤ 24 → Vec Ideal S3584x512 .fp8e4m3)
  (ws bc : (n : ℕ) → n + 1 ≤ 24 → Vec Ideal S1x128 .f32)
  (hY : ∀ n h (r : Fin 256) l, yP (F := Ideal) live xb wc ws bc n h (ix2 r l) = Y r.val (col n h l))
include hY

theorem c4_mw (v : View sig .tc .vmem S288x3072 .fp8e4m3) (f : v.ty.Contents (Elt Ideal)) (arg20 : Memref sig .tc .vmem S256x3072 .f32) (tail) :
    C4 (Y 0) (v.read (Elt Ideal) (v.writes (Elt Ideal) f (mwPieces (F := Ideal) live xb wc ws bc arg20 tail 24 (Nat.le_refl _)))) := fun d =>
  mw_hit live xb wc ws bc (fun r => Y r.val) hY v f arg20 tail 24 (Nat.le_refl _) 0 d (by omega)

theorem rm_first (hi : (i 1).val = 0) (w : View sig .tc .vmem S1x256x3072 .fp8e4m3) (g : w.ty.Contents (Elt Ideal))
    (arg20 : Memref sig .tc .vmem S256x3072 .f32) (arg21 : Memref sig .tc .vmem S288x3072 .fp8e4m3) (tail) :
    RM i Y (w.read (Elt Ideal) (w.writes (Elt Ideal) g (mvPieces (F := Ideal) arg21 (mwPieces (F := Ideal) live xb wc ws bc arg20 tail 24 (Nat.le_refl _))))) :=
  rm_of i Y w g arg21 _ (fun r d => mw_hit live xb wc ws bc (fun r => Y r.val) hY _ _ arg20 tail 24 (Nat.le_refl _) r d (by omega))
    (fun h => absurd hi h)

theorem rm_next (w : View sig .tc .vmem S1x256x3072 .fp8e4m3) (g : w.ty.Contents (Elt Ideal))
    (arg20 : Memref sig .tc .vmem S256x3072 .f32) (arg21 : Memref sig .tc .vmem S288x3072 .fp8e4m3) (harg21 : arg21.IsWhole) (xs4 : Vec Ideal S288x3072 .fp8e4m3)
    (hc : (i 1).val ≠ 0 → C4 (Y 256) xs4) :
    RM i Y (w.read (Elt Ideal) (w.writes (Elt Ideal) g (mvPieces (F := Ideal) arg21 (mwPieces (F := Ideal) live xb wc ws bc arg20
      (mwTail (F := Ideal) i arg21 (harg21.unread xs4)) 24 (Nat.le_refl _))))) :=
  rm_of i Y w g arg21 _ (fun r d => mw_hit live xb wc ws bc (fun r => Y r.val) hY _ _ arg20 _ 24 (Nat.le_refl _) r d (by omega))
    (fun h d => by
      rw [mw_miss live xb wc ws bc _ _ arg20 _ 24 _ ⟨256, by omega⟩ d (Nat.le_refl _), mwTail_at i (tile_ne h), harg21.read_unread]
      exact hc h d)

end product

/-- The row a tile's product is. -/
theorem y_at (i : grid0.Coords) (w : BitVec 32) (T : ℕ → Fin 3584 → EReal) (Y : ℕ → Fin 3072 → EReal)
    (arg3 : Memref sig .tc .vmem S1x256x3584 .bf16) (harg3 : arg3.IsWhole) (x0 : Vec Ideal S1x256x3584 .bf16)
    (arg7 : Memref sig .tc .vmem S3584x3072 .fp8e4m3) (harg7 : arg7.IsWhole) (x4 : Vec Ideal S3584x3072 .fp8e4m3)
    (arg8 : Memref sig .tc .vmem S1x3072 .f32) (harg8 : arg8.IsWhole) (x5 : Vec Ideal S1x3072 .f32)
    (arg9 : Memref sig .tc .vmem S1x3072 .f32) (harg9 : arg9.IsWhole) (x6 : Vec Ideal S1x3072 .f32)
    (arg19 : Memref sig .tc .vmem S256x3584 .bf16)
    (hT : ∀ r : Fin 256, trow x0 r = T r.val) (hYT : ∀ n, Y n = yRow (T n) w (256 * tn i + n) x4 x5 x6)
    (n) (h : n + 1 ≤ 24) (r : Fin 256) (l : Fin 128) :
    yP (F := Ideal) (k0_pay1 (F := Ideal) w (Scalar.muli (Scalar.subi 15#32 (BitVec.ofNat 32 (i 1).val)) 256#32)) (xbAll (xcOf arg3 harg3 x0) arg19)
      (wchunk arg7 (harg7.unread x4)) (rowchunk arg8 (harg8.unread x5)) (rowchunk arg9 (harg9.unread x6)) n h (ix2 r l) = Y r.val (col n h l) := by
  rw [yP_at, hYT]
  unfold yRow Spec.rowY
  refine if_congr (live_iff w i r l) ?_ rfl
  rw [rowchunk_at, rowchunk_at]
  congr 2
  refine Finset.sum_congr rfl fun k _ => ?_
  rw [xbAll_at, wchunk_at, hT]
  congr 3
  apply Fin.ext
  show 512 * (n / 4) + (128 * (n % 4) + l.val) = 128 * n + l.val
  omega

section pad

variable (i : grid0.Coords) (Y : ℕ → Fin 3072 → EReal) (hY : ∀ n < 256, Y n = fun _ => 0)
include hY

theorem c4_pad (v : View sig .tc .vmem S288x3072 .fp8e4m3) (f : v.ty.Contents (Elt Ideal)) (tail) :
    C4 (Y 0) (v.read (Elt Ideal) (v.writes (Elt Ideal) f (padPiece (F := Ideal) :: tail))) := fun d => by
  rw [hY 0 (by omega), unitCode_zero]; exact pad_hit v f tail 0 d

theorem rm_pad_first (hi : (i 1).val = 0) (w : View sig .tc .vmem S1x256x3072 .fp8e4m3) (g : w.ty.Contents (Elt Ideal))
    (arg21 : Memref sig .tc .vmem S288x3072 .fp8e4m3) (tail) :
    RM i Y (w.read (Elt Ideal) (w.writes (Elt Ideal) g (mvPieces (F := Ideal) arg21 (padPiece (F := Ideal) :: tail)))) :=
  rm_of i Y w g arg21 _ (fun r d => by rw [hY _ r.isLt, unitCode_zero]; exact pad_hit _ _ _ r d) (fun h => absurd hi h)

theorem rm_pad_next (w : View sig .tc .vmem S1x256x3072 .fp8e4m3) (g : w.ty.Contents (Elt Ideal))
    (arg21 : Memref sig .tc .vmem S288x3072 .fp8e4m3) (harg21 : arg21.IsWhole) (xs4 : Vec Ideal S288x3072 .fp8e4m3)
    (hc : (i 1).val ≠ 0 → C4 (Y 256) xs4) :
    RM i Y (w.read (Elt Ideal) (w.writes (Elt Ideal) g (mvPieces (F := Ideal) arg21 (padPiece (F := Ideal) :: mwTail (F := Ideal) i arg21 (harg21.unread xs4))))) :=
  rm_of i Y w g arg21 _ (fun r d => by rw [hY _ r.isLt, unitCode_zero]; exact pad_hit _ _ _ r d)
    (fun h d => by
      rw [pad_miss _ _ _ ⟨256, by omega⟩ d (Nat.le_refl _), mwTail_at i (tile_ne h), harg21.read_unread]
      exact hc h d)

end pad

end Cert.KernelIdeal.Hand

end
-- ==== Proof.Mss.lean ====
/- The scales of the token vectors, kept across the grid in one buffer of every row's tokens: what a point's stores leave in it. -/
module

public import proofs.«01_k».proof.Proof.Point

@[expose] public section

set_option maxRecDepth 16384

noncomputable section

namespace Cert.KernelIdeal.Hand

open Cert.KernelIdeal.Gen
open Idealize.ShloMosaic Idealize.ShloMosaic.TcCoe

theorem off2_0 (i : grid0.Coords) : k0_off2 i 0#32 = ![0, 256 * tn i] := by
  have h : (i 1).val < 16 := (i 1).isLt
  unfold k0_off2 tn
  generalize (i 1).val = n at h
  interval_cases n <;> rfl

theorem off2_128 (i : grid0.Coords) : k0_off2 i 128#32 = ![0, 256 * tn i + 128] := by
  have h : (i 1).val < 16 := (i 1).isLt
  unfold k0_off2 tn
  generalize (i 1).val = n at h
  interval_cases n <;> rfl

theorem inb2_0 (i : grid0.Coords) : ∀ a, k0_off2 i 0#32 a + S6x128.size a ≤ S6x4096.size a := k0_off2_inb i 0
theorem inb2_128 (i : grid0.Coords) : ∀ a, k0_off2 i 128#32 a + S6x128.size a ≤ S6x4096.size a := k0_off2_inb i 1

theorem row_eq (i : grid0.Coords) (b : Fin 6) : IntOp.cmpi .eq (BitVec.ofNat 32 b.val) (BitVec.ofNat 32 (i 0).val) = 1#1 ↔ b.val = (i 0).val := by
  have h : (i 0).val < 6 := (i 0).isLt
  rw [IntOp.cmpi_eq]
  constructor
  · intro e
    have := congrArg BitVec.toNat e
    rw [BitVec.toNat_ofNat, BitVec.toNat_ofNat, Nat.mod_eq_of_lt (by omega), Nat.mod_eq_of_lt (by omega)] at this
    exact this
  · intro e; rw [e]

theorem pay114_at (i : grid0.Coords) (ms : FVec Ideal S256x128 .f32) (old : Vec Ideal S6x128 .f32) (b : Fin 6) (l : Fin 128) :
    k0_pay114 (F := Ideal) (BitVec.ofNat 32 (i 0).val) ms old (ix2 b l) = if b.val = (i 0).val then ms (ix2 (⟨l.val, by omega⟩ : Fin 256) 0) else old (ix2 b l) := by
  pointwise [k0_pay114]
  rw [Scalar.select]
  refine if_congr (row_eq i b) ?_ rfl
  congr 1

theorem pay115_at (i : grid0.Coords) (ms : FVec Ideal S256x128 .f32) (old : Vec Ideal S6x128 .f32) (b : Fin 6) (l : Fin 128) :
    k0_pay115 (F := Ideal) (BitVec.ofNat 32 (i 0).val) ms old (ix2 b l) = if b.val = (i 0).val then ms (ix2 (⟨128 + l.val, by omega⟩ : Fin 256) 0) else old (ix2 b l) := by
  pointwise [k0_pay115]
  rw [Scalar.select]
  refine if_congr (row_eq i b) ?_ rfl
  congr 1

theorem mssPiece0_at (v : View sig .tc .vmem S6x4096 .f32) (f : v.ty.Contents (Elt Ideal)) (b : Fin 6) (s : Fin 4096) :
    v.read (Elt Ideal) (v.writes (Elt Ideal) f [mssPiece0 (F := Ideal)]) (ix2 b s) = 1 := by
  unfold mssPiece0
  rw [View.read_writes_cons_unit_of_mem v f inb_S6x4096_S6x4096_0_0 _ _ _ (ix2 b s) rfl]
  · pointwise [k0_pay142]
  · intro a
    match a with
    | 0 => show b.val = 0 + b.val; omega
    | 1 => show s.val = 0 + s.val; omega

/-- The first half of the tile's scales stored. -/
theorem mssA_at (i : grid0.Coords) (ms : FVec Ideal S256x128 .f32) (arg22 : Memref sig .tc .vmem S6x4096 .f32) (tail)
    (g f : arg22.view.ty.Contents (Elt Ideal)) (base : Vec Ideal S6x4096 .f32)
    (hg : ∀ b s, arg22.view.read (Elt Ideal) (arg22.view.writes (Elt Ideal) g tail) (ix2 b s) = base (ix2 b s))
    (hf : ∀ b s, arg22.view.read (Elt Ideal) (arg22.view.writes (Elt Ideal) f tail) (ix2 b s) = base (ix2 b s)) (b : Fin 6) (s : Fin 4096) :
    arg22.view.read (Elt Ideal) (arg22.view.writes (Elt Ideal) g (mssA (F := Ideal) i ms arg22 tail f)) (ix2 b s)
      = if h : b.val = (i 0).val ∧ s.val / 128 = 2 * tn i then ms (ix2 (⟨s.val % 256, by omega⟩ : Fin 256) 0) else base (ix2 b s) := by
  unfold mssA
  by_cases hs : s.val / 128 = 2 * tn i
  · rw [View.read_writes_cons_unit_of_mem arg22.view g (inb2_0 i) _ _ _ (ix2 b (⟨s.val % 128, by omega⟩ : Fin 128)) (off2_0 i)]
    · rw [pay114_at]
      by_cases hb : b.val = (i 0).val
      · rw [if_pos hb, dif_pos ⟨hb, hs⟩]
        congr 2
        apply Fin.ext
        show s.val % 128 = s.val % 256
        omega
      · rw [if_neg hb, dif_neg (fun h => hb h.1), View.readAt_apply, ← hf b s]
        congr 1
        funext a
        apply Fin.ext
        have e := off2_0 i
        match a with
        | 0 => show k0_off2 i 0#32 0 + 1 * b.val = b.val; rw [e]; show 0 + 1 * b.val = b.val; omega
        | 1 => show k0_off2 i 0#32 1 + 1 * (s.val % 128) = s.val; rw [e]; show 256 * tn i + 1 * (s.val % 128) = s.val; omega
    · intro a
      match a with
      | 0 => show b.val = 0 + b.val; omega
      | 1 => show s.val = 256 * tn i + s.val % 128; omega
  · rw [View.read_writes_cons_unit_of_not_mem arg22.view g (inb2_0 i) _ _ (ix2 b s) (off2_0 i) 1
      (show s.val < 256 * tn i ∨ 256 * tn i + 128 ≤ s.val by omega), dif_neg (fun h => hs h.2)]
    exact hg b s

theorem mss_at (i : grid0.Coords) (ms : FVec Ideal S256x128 .f32) (arg22 : Memref sig .tc .vmem S6x4096 .f32) (tail)
    (g f : arg22.view.ty.Contents (Elt Ideal)) (base : Vec Ideal S6x4096 .f32) (Y : ℕ → Fin 3072 → EReal)
    (hms : ∀ r : Fin 256, ms (ix2 r 0) = Spec.unitScale (Y r.val))
    (hg : ∀ b s, arg22.view.read (Elt Ideal) (arg22.view.writes (Elt Ideal) g tail) (ix2 b s) = base (ix2 b s))
    (hf : ∀ b s, arg22.view.read (Elt Ideal) (arg22.view.writes (Elt Ideal) f tail) (ix2 b s) = base (ix2 b s)) :
    M5 i Y base (arg22.view.read (Elt Ideal) (arg22.view.writes (Elt Ideal) g (mssPieces (F := Ideal) i ms arg22 tail f))) := fun b s => by
  unfold mssPieces
  by_cases hs : s.val / 128 = 2 * tn i + 1
  · have hs' : s.val / 256 = tn i := by omega
    rw [View.read_writes_cons_unit_of_mem arg22.view g (inb2_128 i) _ _ _ (ix2 b (⟨s.val % 128, by omega⟩ : Fin 128)) (off2_128 i)]
    · rw [pay115_at]
      by_cases hb : b.val = (i 0).val
      · rw [if_pos hb, if_pos ⟨hb, hs'⟩, hms]
        congr 2
        show 128 + s.val % 128 = s.val % 256
        omega
      · rw [if_neg hb, if_neg (fun h => hb h.1), View.readAt_apply]
        have e := off2_128 i
        have := mssA_at i ms arg22 tail f f base hf hf b s
        rw [dif_neg (fun h => hb h.1)] at this
        rw [← this]
        congr 1
        funext a
        apply Fin.ext
        match a with
        | 0 => show k0_off2 i 128#32 0 + 1 * b.val = b.val; rw [e]; show 0 + 1 * b.val = b.val; omega
        | 1 => show k0_off2 i 128#32 1 + 1 * (s.val % 128) = s.val; rw [e]; show 256 * tn i + 128 + 1 * (s.val % 128) = s.val; omega
    · intro a
      match a with
      | 0 => show b.val = 0 + b.val; omega
      | 1 => show s.val = 256 * tn i + 128 + s.val % 128; omega
  · rw [View.read_writes_cons_unit_of_not_mem arg22.view g (inb2_128 i) _ _ (ix2 b s) (off2_128 i) 1
      (show s.val < 256 * tn i + 128 ∨ 256 * tn i + 128 + 128 ≤ s.val by omega)]
    rw [mssA_at i ms arg22 tail g f base hg hf b s]
    by_cases hb : b.val = (i 0).val ∧ s.val / 128 = 2 * tn i
    · rw [dif_pos hb, if_pos ⟨hb.1, by omega⟩, hms]
    · rw [dif_neg hb, if_neg (by omega)]

/-- A zero row's scale is one. -/
theorem unitScale_zero : Spec.unitScale (fun _ => 0) = 1 := by
  unfold Spec.unitScale
  rw [unit_zero]
  have h : Spec.amax (fun _ : Fin 3072 => (0 : EReal)) = 0 := by
    have h0 : Spec.mag 0 = 0 := by simp [Spec.mag]
    rw [Spec.amax_eq_sup]
    simp only [h0]
    exact Finset.sup_const ⟨0, Finset.mem_univ _⟩ _
  rw [h]
  unfold Spec.mScale Spec.mExp
  rw [zero_mul, if_pos Spec.cMin_pos, Spec.exp2_zero]
  simp

end Cert.KernelIdeal.Hand

end
-- ==== Proof.RunIdealA.lean ====
/- One case of the run of the kernel's body in `Cert.KernelIdeal`: a triple by execution of the skeleton. -/
module

public import proofs.«01_k».proof.Proof.WordIdeal

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 3596000 in
/-- The kernel's body run whole at a point where the first-point branch is taken, the token-0 branch is not taken,
    the last-point branch is not taken, and the tile holds a token under the length: the pieces each buffer ends with
    are found by the run. -/
noncomputable def runA (c : Dev nD) (i : grid0.Coords) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole) (hc0 : k0_cond1 i = 1#1) (hc4 : ¬ k0_cond4 i = 1#1) (hc5 : ¬ k0_cond5 i = 1#1)
    (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0) (xo7 : Vec F S6x3584 .f32) (xo8 : Vec F S6x4096 .f32) (xo9 : Vec F S6x4096 .f32) (xs0 : Vec F S288x3584 .fp8e4m3) (xs1 : Vec F S264x128 .f32) (xs4 : Vec F S288x3072 .fp8e4m3) (xs5 : Vec F S6x4096 .f32)
    (hc3 : k0_cond3 i (wrd c i xt0) = 1#1) :
    Σ' (L8 : List (View.Piece (Elt F) S6x4096 .f32)), Σ' (L9 : List (View.Piece (Elt F) S6x4096 .f32)), Σ' (L10 : List (View.Piece (Elt F) S1x256x3072 .fp8e4m3)), Σ' (L12 : List (View.Piece (Elt F) S1x256x3584 .fp8e4m3)), Σ' (L13 : List (View.Piece (Elt F) S1x256x28 .f32)), Σ' (LS0 : List (View.Piece (Elt F) S288x3584 .fp8e4m3)), Σ' (LS1 : List (View.Piece (Elt F) S264x128 .f32)), Σ' (LS4 : List (View.Piece (Elt F) S288x3072 .fp8e4m3)), { LS5 : List (View.Piece (Elt F) S6x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ d, owns (c : Thread nD τ) arg14 fullShare d) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f LS4) ∗ (∃ f, arg22.view.loc (c : Thread nD τ) ↦[arg22.view.set]{fullShare} arg22.view.writes (Elt F) f LS5) ∗ tbPt0 c tbM0_0 xt0) -∗ K ⟨⟩))
          ⊢ wp frame (wpE (defs₀ (F := F)) Variants.none c none) E (cc0_bge_heads i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, fun E K => ?run⟩
  case run =>
    have hpad := pad_of_valid hc3
    unfold wrd at hc3 hpad
    simp only [cc0_bge_heads_eq_skeleton]; unfold cc0_bge_heads_skel
    simp only [parts_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%ds2, %fs2, -, HS2⟩, ⟨%ds3, %fs3, -, HS3⟩, ⟨%fs4, %hfs4, HS4⟩, ⟨%fs5, %hfs5, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg17.eq_unread hfs0; obtain rfl := harg18.eq_unread hfs1; obtain rfl := harg21.eq_unread hfs4; obtain rfl := harg22.eq_unread hfs5
    sl_exec (disch := first | sl_exact hc0 | sl_exact hc4 | sl_exact hc5 | sl_exact hc3 | sl_exact hpad)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; iexact H8
    isplitl [H9]
    · iexists _; iexact H9
    isplitl [H10]
    · iexists _; iexact H10
    isplitl [H11]
    · iexists _, _; isplitr; swap; · iexact H11
      ipureintro; rfl
    isplitl [H12]
    · iexists _; iexact H12
    isplitl [H13]
    · iexists _; iexact H13
    isplitl [HS0]
    · iexists _; iexact HS0
    isplitl [HS1]
    · iexists _; iexact HS1
    isplitl [HS2]
    · iexists _, _; isplitr; swap; · iexact HS2
      ipureintro; rfl
    isplitl [HS3]
    · iexists _, _; isplitr; swap; · iexact HS3
      ipureintro; rfl
    isplitl [HS4]
    · iexists _; iexact HS4
    isplitl [HS5]
    · iexists _; iexact HS5
    iexact HT0

end Cert.KernelIdeal.Hand

end
-- ==== Proof.RunIdealB.lean ====
/- One case of the run of the kernel's body in `Cert.KernelIdeal`: a triple by execution of the skeleton. -/
module

public import proofs.«01_k».proof.Proof.WordIdeal

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 3596000 in
/-- The kernel's body run whole at a point where the first-point branch is taken, the token-0 branch is not taken,
    the last-point branch is not taken, and the tile lies past the length: the pieces each buffer ends with
    are found by the run. -/
noncomputable def runB (c : Dev nD) (i : grid0.Coords) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole) (hc0 : k0_cond1 i = 1#1) (hc4 : ¬ k0_cond4 i = 1#1) (hc5 : ¬ k0_cond5 i = 1#1)
    (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0) (xo7 : Vec F S6x3584 .f32) (xo8 : Vec F S6x4096 .f32) (xo9 : Vec F S6x4096 .f32) (xs0 : Vec F S288x3584 .fp8e4m3) (xs1 : Vec F S264x128 .f32) (xs4 : Vec F S288x3072 .fp8e4m3) (xs5 : Vec F S6x4096 .f32)
    (hc3 : ¬ k0_cond3 i (wrd c i xt0) = 1#1) :
    Σ' (L8 : List (View.Piece (Elt F) S6x4096 .f32)), Σ' (L9 : List (View.Piece (Elt F) S6x4096 .f32)), Σ' (L10 : List (View.Piece (Elt F) S1x256x3072 .fp8e4m3)), Σ' (L12 : List (View.Piece (Elt F) S1x256x3584 .fp8e4m3)), Σ' (L13 : List (View.Piece (Elt F) S1x256x28 .f32)), Σ' (LS0 : List (View.Piece (Elt F) S288x3584 .fp8e4m3)), Σ' (LS1 : List (View.Piece (Elt F) S264x128 .f32)), Σ' (LS4 : List (View.Piece (Elt F) S288x3072 .fp8e4m3)), { LS5 : List (View.Piece (Elt F) S6x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ d, owns (c : Thread nD τ) arg14 fullShare d) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f LS4) ∗ (∃ f, arg22.view.loc (c : Thread nD τ) ↦[arg22.view.set]{fullShare} arg22.view.writes (Elt F) f LS5) ∗ tbPt0 c tbM0_0 xt0) -∗ K ⟨⟩))
          ⊢ wp frame (wpE (defs₀ (F := F)) Variants.none c none) E (cc0_bge_heads i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, fun E K => ?run⟩
  case run =>
    have hpad := pad_of_not_valid hc3
    unfold wrd at hc3 hpad
    simp only [cc0_bge_heads_eq_skeleton]; unfold cc0_bge_heads_skel
    simp only [parts_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%ds2, %fs2, -, HS2⟩, ⟨%ds3, %fs3, -, HS3⟩, ⟨%fs4, %hfs4, HS4⟩, ⟨%fs5, %hfs5, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg17.eq_unread hfs0; obtain rfl := harg18.eq_unread hfs1; obtain rfl := harg21.eq_unread hfs4; obtain rfl := harg22.eq_unread hfs5
    sl_exec (disch := first | sl_exact hc0 | sl_exact hc4 | sl_exact hc5 | sl_exact hc3 | sl_exact hpad)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; iexact H8
    isplitl [H9]
    · iexists _; iexact H9
    isplitl [H10]
    · iexists _; iexact H10
    isplitl [H11]
    · iexists _, _; isplitr; swap; · iexact H11
      ipureintro; rfl
    isplitl [H12]
    · iexists _; iexact H12
    isplitl [H13]
    · iexists _; iexact H13
    isplitl [HS0]
    · iexists _; iexact HS0
    isplitl [HS1]
    · iexists _; iexact HS1
    isplitl [HS2]
    · iexists _, _; isplitr; swap; · iexact HS2
      ipureintro; rfl
    isplitl [HS3]
    · iexists _, _; isplitr; swap; · iexact HS3
      ipureintro; rfl
    isplitl [HS4]
    · iexists _; iexact HS4
    isplitl [HS5]
    · iexists _; iexact HS5
    iexact HT0

end Cert.KernelIdeal.Hand

end
-- ==== Proof.RunIdealC.lean ====
/- One case of the run of the kernel's body in `Cert.KernelIdeal`: a triple by execution of the skeleton. -/
module

public import proofs.«01_k».proof.Proof.WordIdeal

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 3596000 in
/-- The kernel's body run whole at a point where the first-point branch is not taken, the token-0 branch is not taken,
    the last-point branch is not taken, and the tile holds a token under the length: the pieces each buffer ends with
    are found by the run. -/
noncomputable def runC (c : Dev nD) (i : grid0.Coords) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole) (hc0 : ¬ k0_cond1 i = 1#1) (hc4 : ¬ k0_cond4 i = 1#1) (hc5 : ¬ k0_cond5 i = 1#1)
    (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0) (xo7 : Vec F S6x3584 .f32) (xo8 : Vec F S6x4096 .f32) (xo9 : Vec F S6x4096 .f32) (xs0 : Vec F S288x3584 .fp8e4m3) (xs1 : Vec F S264x128 .f32) (xs4 : Vec F S288x3072 .fp8e4m3) (xs5 : Vec F S6x4096 .f32)
    (hc3 : k0_cond3 i (wrd c i xt0) = 1#1) :
    Σ' (L8 : List (View.Piece (Elt F) S6x4096 .f32)), Σ' (L9 : List (View.Piece (Elt F) S6x4096 .f32)), Σ' (L10 : List (View.Piece (Elt F) S1x256x3072 .fp8e4m3)), Σ' (L12 : List (View.Piece (Elt F) S1x256x3584 .fp8e4m3)), Σ' (L13 : List (View.Piece (Elt F) S1x256x28 .f32)), Σ' (LS0 : List (View.Piece (Elt F) S288x3584 .fp8e4m3)), Σ' (LS1 : List (View.Piece (Elt F) S264x128 .f32)), Σ' (LS4 : List (View.Piece (Elt F) S288x3072 .fp8e4m3)), { LS5 : List (View.Piece (Elt F) S6x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ (arg11.view.loc (c : Thread nD τ) ↦[arg11.view.set]{fullShare} arg11.view.writes (Elt F) (harg11.unread xo8) L8) ∗ (arg12.view.loc (c : Thread nD τ) ↦[arg12.view.set]{fullShare} arg12.view.writes (Elt F) (harg12.unread xo9) L9) ∗ (∃ f, arg13.view.loc (c : Thread nD τ) ↦[arg13.view.set]{fullShare} arg13.view.writes (Elt F) f L10) ∗ (∃ d, owns (c : Thread nD τ) arg14 fullShare d) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f LS4) ∗ (arg22.view.loc (c : Thread nD τ) ↦[arg22.view.set]{fullShare} arg22.view.writes (Elt F) (harg22.unread xs5) LS5) ∗ tbPt0 c tbM0_0 xt0) -∗ K ⟨⟩))
          ⊢ wp frame (wpE (defs₀ (F := F)) Variants.none c none) E (cc0_bge_heads i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, fun E K => ?run⟩
  case run =>
    have hpad := pad_of_valid hc3
    unfold wrd at hc3 hpad
    simp only [cc0_bge_heads_eq_skeleton]; unfold cc0_bge_heads_skel
    simp only [parts_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%ds2, %fs2, -, HS2⟩, ⟨%ds3, %fs3, -, HS3⟩, ⟨%fs4, %hfs4, HS4⟩, ⟨%fs5, %hfs5, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg17.eq_unread hfs0; obtain rfl := harg18.eq_unread hfs1; obtain rfl := harg21.eq_unread hfs4; obtain rfl := harg22.eq_unread hfs5
    sl_exec (disch := first | sl_exact hc0 | sl_exact hc4 | sl_exact hc5 | sl_exact hc3 | sl_exact hpad)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexact H8
    isplitl [H9]
    · iexact H9
    isplitl [H10]
    · iexists _; iexact H10
    isplitl [H11]
    · iexists _, _; isplitr; swap; · iexact H11
      ipureintro; rfl
    isplitl [H12]
    · iexists _; iexact H12
    isplitl [H13]
    · iexists _; iexact H13
    isplitl [HS0]
    · iexists _; iexact HS0
    isplitl [HS1]
    · iexists _; iexact HS1
    isplitl [HS2]
    · iexists _, _; isplitr; swap; · iexact HS2
      ipureintro; rfl
    isplitl [HS3]
    · iexists _, _; isplitr; swap; · iexact HS3
      ipureintro; rfl
    isplitl [HS4]
    · iexists _; iexact HS4
    isplitl [HS5]
    · iexact HS5
    iexact HT0

end Cert.KernelIdeal.Hand

end
-- ==== Proof.RunIdealD.lean ====
/- One case of the run of the kernel's body in `Cert.KernelIdeal`: a triple by execution of the skeleton. -/
module

public import proofs.«01_k».proof.Proof.WordIdeal

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 3596000 in
/-- The kernel's body run whole at a point where the first-point branch is not taken, the token-0 branch is not taken,
    the last-point branch is not taken, and the tile lies past the length: the pieces each buffer ends with
    are found by the run. -/
noncomputable def runD (c : Dev nD) (i : grid0.Coords) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole) (hc0 : ¬ k0_cond1 i = 1#1) (hc4 : ¬ k0_cond4 i = 1#1) (hc5 : ¬ k0_cond5 i = 1#1)
    (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0) (xo7 : Vec F S6x3584 .f32) (xo8 : Vec F S6x4096 .f32) (xo9 : Vec F S6x4096 .f32) (xs0 : Vec F S288x3584 .fp8e4m3) (xs1 : Vec F S264x128 .f32) (xs4 : Vec F S288x3072 .fp8e4m3) (xs5 : Vec F S6x4096 .f32)
    (hc3 : ¬ k0_cond3 i (wrd c i xt0) = 1#1) :
    Σ' (L10 : List (View.Piece (Elt F) S1x256x3072 .fp8e4m3)), Σ' (L12 : List (View.Piece (Elt F) S1x256x3584 .fp8e4m3)), Σ' (L13 : List (View.Piece (Elt F) S1x256x28 .f32)), Σ' (LS0 : List (View.Piece (Elt F) S288x3584 .fp8e4m3)), Σ' (LS1 : List (View.Piece (Elt F) S264x128 .f32)), { LS4 : List (View.Piece (Elt F) S288x3072 .fp8e4m3) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ (∃ f, arg13.view.loc (c : Thread nD τ) ↦[arg13.view.set]{fullShare} arg13.view.writes (Elt F) f L10) ∗ (∃ d, owns (c : Thread nD τ) arg14 fullShare d) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f LS4) ∗ owns (c : Thread nD τ) arg22 fullShare xs5 ∗ tbPt0 c tbM0_0 xt0) -∗ K ⟨⟩))
          ⊢ wp frame (wpE (defs₀ (F := F)) Variants.none c none) E (cc0_bge_heads i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, fun E K => ?run⟩
  case run =>
    have hpad := pad_of_not_valid hc3
    unfold wrd at hc3 hpad
    simp only [cc0_bge_heads_eq_skeleton]; unfold cc0_bge_heads_skel
    simp only [parts_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%ds2, %fs2, -, HS2⟩, ⟨%ds3, %fs3, -, HS3⟩, ⟨%fs4, %hfs4, HS4⟩, ⟨%fs5, %hfs5, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg17.eq_unread hfs0; obtain rfl := harg18.eq_unread hfs1; obtain rfl := harg21.eq_unread hfs4; obtain rfl := harg22.eq_unread hfs5
    sl_exec (disch := first | sl_exact hc0 | sl_exact hc4 | sl_exact hc5 | sl_exact hc3 | sl_exact hpad)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; iexact H10
    isplitl [H11]
    · iexists _, _; isplitr; swap; · iexact H11
      ipureintro; rfl
    isplitl [H12]
    · iexists _; iexact H12
    isplitl [H13]
    · iexists _; iexact H13
    isplitl [HS0]
    · iexists _; iexact HS0
    isplitl [HS1]
    · iexists _; iexact HS1
    isplitl [HS2]
    · iexists _, _; isplitr; swap; · iexact HS2
      ipureintro; rfl
    isplitl [HS3]
    · iexists _, _; isplitr; swap; · iexact HS3
      ipureintro; rfl
    isplitl [HS4]
    · iexists _; iexact HS4
    isplitl [HS5]
    · iexists _; isplitr; · ipureintro; exact harg22.read_unread _
      iexact HS5
    iexact HT0

end Cert.KernelIdeal.Hand

end
-- ==== Proof.RunIdealE.lean ====
/- One case of the run of the kernel's body in `Cert.KernelIdeal`: a triple by execution of the skeleton. -/
module

public import proofs.«01_k».proof.Proof.WordIdeal

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 3596000 in
/-- The kernel's body run whole at a point where the first-point branch is not taken, the token-0 branch is taken,
    the last-point branch is not taken, and the tile holds a token under the length: the pieces each buffer ends with
    are found by the run. -/
noncomputable def runE (c : Dev nD) (i : grid0.Coords) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole) (hc0 : ¬ k0_cond1 i = 1#1) (hc4 : k0_cond4 i = 1#1) (hc5 : ¬ k0_cond5 i = 1#1)
    (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0) (xo7 : Vec F S6x3584 .f32) (xo8 : Vec F S6x4096 .f32) (xo9 : Vec F S6x4096 .f32) (xs0 : Vec F S288x3584 .fp8e4m3) (xs1 : Vec F S264x128 .f32) (xs4 : Vec F S288x3072 .fp8e4m3) (xs5 : Vec F S6x4096 .f32)
    (hc3 : k0_cond3 i (wrd c i xt0) = 1#1) :
    Σ' (L7 : List (View.Piece (Elt F) S6x3584 .f32)), Σ' (L8 : List (View.Piece (Elt F) S6x4096 .f32)), Σ' (L9 : List (View.Piece (Elt F) S6x4096 .f32)), Σ' (L10 : List (View.Piece (Elt F) S1x256x3072 .fp8e4m3)), Σ' (L12 : List (View.Piece (Elt F) S1x256x3584 .fp8e4m3)), Σ' (L13 : List (View.Piece (Elt F) S1x256x28 .f32)), Σ' (LS0 : List (View.Piece (Elt F) S288x3584 .fp8e4m3)), Σ' (LS1 : List (View.Piece (Elt F) S264x128 .f32)), Σ' (LS4 : List (View.Piece (Elt F) S288x3072 .fp8e4m3)), { LS5 : List (View.Piece (Elt F) S6x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} arg10.view.writes (Elt F) (harg10.unread xo7) L7) ∗ (arg11.view.loc (c : Thread nD τ) ↦[arg11.view.set]{fullShare} arg11.view.writes (Elt F) (harg11.unread xo8) L8) ∗ (arg12.view.loc (c : Thread nD τ) ↦[arg12.view.set]{fullShare} arg12.view.writes (Elt F) (harg12.unread xo9) L9) ∗ (∃ f, arg13.view.loc (c : Thread nD τ) ↦[arg13.view.set]{fullShare} arg13.view.writes (Elt F) f L10) ∗ (∃ d, owns (c : Thread nD τ) arg14 fullShare d) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f LS4) ∗ (arg22.view.loc (c : Thread nD τ) ↦[arg22.view.set]{fullShare} arg22.view.writes (Elt F) (harg22.unread xs5) LS5) ∗ tbPt0 c tbM0_0 xt0) -∗ K ⟨⟩))
          ⊢ wp frame (wpE (defs₀ (F := F)) Variants.none c none) E (cc0_bge_heads i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, fun E K => ?run⟩
  case run =>
    have hpad := pad_of_valid hc3
    unfold wrd at hc3 hpad
    simp only [cc0_bge_heads_eq_skeleton]; unfold cc0_bge_heads_skel
    simp only [parts_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%ds2, %fs2, -, HS2⟩, ⟨%ds3, %fs3, -, HS3⟩, ⟨%fs4, %hfs4, HS4⟩, ⟨%fs5, %hfs5, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg17.eq_unread hfs0; obtain rfl := harg18.eq_unread hfs1; obtain rfl := harg21.eq_unread hfs4; obtain rfl := harg22.eq_unread hfs5
    sl_exec (disch := first | sl_exact hc0 | sl_exact hc4 | sl_exact hc5 | sl_exact hc3 | sl_exact hpad)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexact H7
    isplitl [H8]
    · iexact H8
    isplitl [H9]
    · iexact H9
    isplitl [H10]
    · iexists _; iexact H10
    isplitl [H11]
    · iexists _, _; isplitr; swap; · iexact H11
      ipureintro; rfl
    isplitl [H12]
    · iexists _; iexact H12
    isplitl [H13]
    · iexists _; iexact H13
    isplitl [HS0]
    · iexists _; iexact HS0
    isplitl [HS1]
    · iexists _; iexact HS1
    isplitl [HS2]
    · iexists _, _; isplitr; swap; · iexact HS2
      ipureintro; rfl
    isplitl [HS3]
    · iexists _, _; isplitr; swap; · iexact HS3
      ipureintro; rfl
    isplitl [HS4]
    · iexists _; iexact HS4
    isplitl [HS5]
    · iexact HS5
    iexact HT0

end Cert.KernelIdeal.Hand

end
-- ==== Proof.RunIdealG.lean ====
/- One case of the run of the kernel's body in `Cert.KernelIdeal`: a triple by execution of the skeleton. -/
module

public import proofs.«01_k».proof.Proof.WordIdeal

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 3596000 in
/-- The kernel's body run whole at a point where the first-point branch is not taken, the token-0 branch is taken,
    the last-point branch is not taken, and the tile lies past the length: the pieces each buffer ends with
    are found by the run. -/
noncomputable def runG (c : Dev nD) (i : grid0.Coords) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole) (hc0 : ¬ k0_cond1 i = 1#1) (hc4 : k0_cond4 i = 1#1) (hc5 : ¬ k0_cond5 i = 1#1)
    (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0) (xo7 : Vec F S6x3584 .f32) (xo8 : Vec F S6x4096 .f32) (xo9 : Vec F S6x4096 .f32) (xs0 : Vec F S288x3584 .fp8e4m3) (xs1 : Vec F S264x128 .f32) (xs4 : Vec F S288x3072 .fp8e4m3) (xs5 : Vec F S6x4096 .f32)
    (hc3 : ¬ k0_cond3 i (wrd c i xt0) = 1#1) :
    Σ' (L7 : List (View.Piece (Elt F) S6x3584 .f32)), Σ' (L10 : List (View.Piece (Elt F) S1x256x3072 .fp8e4m3)), Σ' (L12 : List (View.Piece (Elt F) S1x256x3584 .fp8e4m3)), Σ' (L13 : List (View.Piece (Elt F) S1x256x28 .f32)), Σ' (LS0 : List (View.Piece (Elt F) S288x3584 .fp8e4m3)), Σ' (LS1 : List (View.Piece (Elt F) S264x128 .f32)), { LS4 : List (View.Piece (Elt F) S288x3072 .fp8e4m3) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} arg10.view.writes (Elt F) (harg10.unread xo7) L7) ∗ owns (c : Thread nD τ) arg11 fullShare xo8 ∗ owns (c : Thread nD τ) arg12 fullShare xo9 ∗ (∃ f, arg13.view.loc (c : Thread nD τ) ↦[arg13.view.set]{fullShare} arg13.view.writes (Elt F) f L10) ∗ (∃ d, owns (c : Thread nD τ) arg14 fullShare d) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f LS4) ∗ owns (c : Thread nD τ) arg22 fullShare xs5 ∗ tbPt0 c tbM0_0 xt0) -∗ K ⟨⟩))
          ⊢ wp frame (wpE (defs₀ (F := F)) Variants.none c none) E (cc0_bge_heads i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, fun E K => ?run⟩
  case run =>
    have hpad := pad_of_not_valid hc3
    unfold wrd at hc3 hpad
    simp only [cc0_bge_heads_eq_skeleton]; unfold cc0_bge_heads_skel
    simp only [parts_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%ds2, %fs2, -, HS2⟩, ⟨%ds3, %fs3, -, HS3⟩, ⟨%fs4, %hfs4, HS4⟩, ⟨%fs5, %hfs5, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg17.eq_unread hfs0; obtain rfl := harg18.eq_unread hfs1; obtain rfl := harg21.eq_unread hfs4; obtain rfl := harg22.eq_unread hfs5
    sl_exec (disch := first | sl_exact hc0 | sl_exact hc4 | sl_exact hc5 | sl_exact hc3 | sl_exact hpad)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexact H7
    isplitl [H8]
    · iexists _; isplitr; · ipureintro; exact harg11.read_unread _
      iexact H8
    isplitl [H9]
    · iexists _; isplitr; · ipureintro; exact harg12.read_unread _
      iexact H9
    isplitl [H10]
    · iexists _; iexact H10
    isplitl [H11]
    · iexists _, _; isplitr; swap; · iexact H11
      ipureintro; rfl
    isplitl [H12]
    · iexists _; iexact H12
    isplitl [H13]
    · iexists _; iexact H13
    isplitl [HS0]
    · iexists _; iexact HS0
    isplitl [HS1]
    · iexists _; iexact HS1
    isplitl [HS2]
    · iexists _, _; isplitr; swap; · iexact HS2
      ipureintro; rfl
    isplitl [HS3]
    · iexists _, _; isplitr; swap; · iexact HS3
      ipureintro; rfl
    isplitl [HS4]
    · iexists _; iexact HS4
    isplitl [HS5]
    · iexists _; isplitr; · ipureintro; exact harg22.read_unread _
      iexact HS5
    iexact HT0

end Cert.KernelIdeal.Hand

end
-- ==== Proof.RunIdealH.lean ====
/- One case of the run of the kernel's body in `Cert.KernelIdeal`: a triple by execution of the skeleton. -/
module

public import proofs.«01_k».proof.Proof.WordIdeal

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 3596000 in
/-- The kernel's body run whole at a point where the first-point branch is not taken, the token-0 branch is taken,
    the last-point branch is taken, and the tile holds a token under the length: the pieces each buffer ends with
    are found by the run. -/
noncomputable def runH (c : Dev nD) (i : grid0.Coords) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole) (hc0 : ¬ k0_cond1 i = 1#1) (hc4 : k0_cond4 i = 1#1) (hc5 : k0_cond5 i = 1#1)
    (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0) (xo7 : Vec F S6x3584 .f32) (xo8 : Vec F S6x4096 .f32) (xo9 : Vec F S6x4096 .f32) (xs0 : Vec F S288x3584 .fp8e4m3) (xs1 : Vec F S264x128 .f32) (xs4 : Vec F S288x3072 .fp8e4m3) (xs5 : Vec F S6x4096 .f32)
    (hc3 : k0_cond3 i (wrd c i xt0) = 1#1) :
    Σ' (L7 : List (View.Piece (Elt F) S6x3584 .f32)), Σ' (L8 : List (View.Piece (Elt F) S6x4096 .f32)), Σ' (L9 : List (View.Piece (Elt F) S6x4096 .f32)), Σ' (L10 : List (View.Piece (Elt F) S1x256x3072 .fp8e4m3)), Σ' (L11 : List (View.Piece (Elt F) S6x4095 .f32)), Σ' (L12 : List (View.Piece (Elt F) S1x256x3584 .fp8e4m3)), Σ' (L13 : List (View.Piece (Elt F) S1x256x28 .f32)), Σ' (LS0 : List (View.Piece (Elt F) S288x3584 .fp8e4m3)), Σ' (LS1 : List (View.Piece (Elt F) S264x128 .f32)), Σ' (LS4 : List (View.Piece (Elt F) S288x3072 .fp8e4m3)), { LS5 : List (View.Piece (Elt F) S6x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} arg10.view.writes (Elt F) (harg10.unread xo7) L7) ∗ (arg11.view.loc (c : Thread nD τ) ↦[arg11.view.set]{fullShare} arg11.view.writes (Elt F) (harg11.unread xo8) L8) ∗ (arg12.view.loc (c : Thread nD τ) ↦[arg12.view.set]{fullShare} arg12.view.writes (Elt F) (harg12.unread xo9) L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f LS4) ∗ (arg22.view.loc (c : Thread nD τ) ↦[arg22.view.set]{fullShare} arg22.view.writes (Elt F) (harg22.unread xs5) LS5) ∗ tbPt0 c tbM0_0 xt0) -∗ K ⟨⟩))
          ⊢ wp frame (wpE (defs₀ (F := F)) Variants.none c none) E (cc0_bge_heads i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, ?_, fun E K => ?run⟩
  case run =>
    have hpad := pad_of_valid hc3
    unfold wrd at hc3 hpad
    simp only [cc0_bge_heads_eq_skeleton]; unfold cc0_bge_heads_skel
    simp only [parts_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%ds2, %fs2, -, HS2⟩, ⟨%ds3, %fs3, -, HS3⟩, ⟨%fs4, %hfs4, HS4⟩, ⟨%fs5, %hfs5, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg17.eq_unread hfs0; obtain rfl := harg18.eq_unread hfs1; obtain rfl := harg21.eq_unread hfs4; obtain rfl := harg22.eq_unread hfs5
    sl_exec (disch := first | sl_exact hc0 | sl_exact hc4 | sl_exact hc5 | sl_exact hc3 | sl_exact hpad)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexact H7
    isplitl [H8]
    · iexact H8
    isplitl [H9]
    · iexact H9
    isplitl [H10]
    · iexists _; iexact H10
    isplitl [H11]
    · iexists _; iexact H11
    isplitl [H12]
    · iexists _; iexact H12
    isplitl [H13]
    · iexists _; iexact H13
    isplitl [HS0]
    · iexists _; iexact HS0
    isplitl [HS1]
    · iexists _; iexact HS1
    isplitl [HS2]
    · iexists _, _; isplitr; swap; · iexact HS2
      ipureintro; rfl
    isplitl [HS3]
    · iexists _, _; isplitr; swap; · iexact HS3
      ipureintro; rfl
    isplitl [HS4]
    · iexists _; iexact HS4
    isplitl [HS5]
    · iexact HS5
    iexact HT0

end Cert.KernelIdeal.Hand

end
-- ==== Proof.RunIdealI.lean ====
/- One case of the run of the kernel's body in `Cert.KernelIdeal`: a triple by execution of the skeleton. -/
module

public import proofs.«01_k».proof.Proof.WordIdeal

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: the definition's epilogue walks it past the default budget
set_option maxHeartbeats 3596000 in
/-- The kernel's body run whole at a point where the first-point branch is not taken, the token-0 branch is taken,
    the last-point branch is taken, and the tile lies past the length: the pieces each buffer ends with
    are found by the run. -/
noncomputable def runI (c : Dev nD) (i : grid0.Coords) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole) (hc0 : ¬ k0_cond1 i = 1#1) (hc4 : k0_cond4 i = 1#1) (hc5 : k0_cond5 i = 1#1)
    (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0) (xo7 : Vec F S6x3584 .f32) (xo8 : Vec F S6x4096 .f32) (xo9 : Vec F S6x4096 .f32) (xs0 : Vec F S288x3584 .fp8e4m3) (xs1 : Vec F S264x128 .f32) (xs4 : Vec F S288x3072 .fp8e4m3) (xs5 : Vec F S6x4096 .f32)
    (hc3 : ¬ k0_cond3 i (wrd c i xt0) = 1#1) :
    Σ' (L7 : List (View.Piece (Elt F) S6x3584 .f32)), Σ' (L10 : List (View.Piece (Elt F) S1x256x3072 .fp8e4m3)), Σ' (L11 : List (View.Piece (Elt F) S6x4095 .f32)), Σ' (L12 : List (View.Piece (Elt F) S1x256x3584 .fp8e4m3)), Σ' (L13 : List (View.Piece (Elt F) S1x256x28 .f32)), Σ' (LS0 : List (View.Piece (Elt F) S288x3584 .fp8e4m3)), Σ' (LS1 : List (View.Piece (Elt F) S264x128 .f32)), { LS4 : List (View.Piece (Elt F) S288x3072 .fp8e4m3) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} arg10.view.writes (Elt F) (harg10.unread xo7) L7) ∗ owns (c : Thread nD τ) arg11 fullShare xo8 ∗ owns (c : Thread nD τ) arg12 fullShare xo9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f LS4) ∗ owns (c : Thread nD τ) arg22 fullShare xs5 ∗ tbPt0 c tbM0_0 xt0) -∗ K ⟨⟩))
          ⊢ wp frame (wpE (defs₀ (F := F)) Variants.none c none) E (cc0_bge_heads i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun E K => ?run⟩
  case run =>
    have hpad := pad_of_not_valid hc3
    unfold wrd at hc3 hpad
    simp only [cc0_bge_heads_eq_skeleton]; unfold cc0_bge_heads_skel
    simp only [parts_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs0, %hfs0, HS0⟩, ⟨%fs1, %hfs1, HS1⟩, ⟨%ds2, %fs2, -, HS2⟩, ⟨%ds3, %fs3, -, HS3⟩, ⟨%fs4, %hfs4, HS4⟩, ⟨%fs5, %hfs5, HS5⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg17.eq_unread hfs0; obtain rfl := harg18.eq_unread hfs1; obtain rfl := harg21.eq_unread hfs4; obtain rfl := harg22.eq_unread hfs5
    sl_exec (disch := first | sl_exact hc0 | sl_exact hc4 | sl_exact hc5 | sl_exact hc3 | sl_exact hpad)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexact H7
    isplitl [H8]
    · iexists _; isplitr; · ipureintro; exact harg11.read_unread _
      iexact H8
    isplitl [H9]
    · iexists _; isplitr; · ipureintro; exact harg12.read_unread _
      iexact H9
    isplitl [H10]
    · iexists _; iexact H10
    isplitl [H11]
    · iexists _; iexact H11
    isplitl [H12]
    · iexists _; iexact H12
    isplitl [H13]
    · iexists _; iexact H13
    isplitl [HS0]
    · iexists _; iexact HS0
    isplitl [HS1]
    · iexists _; iexact HS1
    isplitl [HS2]
    · iexists _, _; isplitr; swap; · iexact HS2
      ipureintro; rfl
    isplitl [HS3]
    · iexists _, _; isplitr; swap; · iexact HS3
      ipureintro; rfl
    isplitl [HS4]
    · iexists _; iexact HS4
    isplitl [HS5]
    · iexists _; isplitr; · ipureintro; exact harg22.read_unread _
      iexact HS5
    iexact HT0

end Cert.KernelIdeal.Hand

end
-- ==== Proof.Lists.lean ====
/- The stores the body's runs found, as the closed lists of chunk stores: every case's lists are these, by unfolding. -/
module

public import proofs.«01_k».proof.Proof.Closed
public import proofs.«01_k».proof.Proof.RunIdealA
import all proofs.«01_k».proof.Proof.RunIdealA
public import proofs.«01_k».proof.Proof.RunIdealB
import all proofs.«01_k».proof.Proof.RunIdealB
public import proofs.«01_k».proof.Proof.RunIdealC
import all proofs.«01_k».proof.Proof.RunIdealC
public import proofs.«01_k».proof.Proof.RunIdealD
import all proofs.«01_k».proof.Proof.RunIdealD
public import proofs.«01_k».proof.Proof.RunIdealE
import all proofs.«01_k».proof.Proof.RunIdealE
public import proofs.«01_k».proof.Proof.RunIdealG
import all proofs.«01_k».proof.Proof.RunIdealG
public import proofs.«01_k».proof.Proof.RunIdealH
import all proofs.«01_k».proof.Proof.RunIdealH
public import proofs.«01_k».proof.Proof.RunIdealI
import all proofs.«01_k».proof.Proof.RunIdealI

@[expose] public section

set_option maxRecDepth 65536

noncomputable section

namespace Cert.KernelIdeal.Hand

open Cert.KernelIdeal.Gen
open Idealize.ShloMosaic Idealize.ShloMosaic.TcCoe

variable {F : FTy → Type} [FloatOps F]

/-- All the scales but the first token's, stored as the result. -/
def scalesPiece (arg22 : Memref sig .tc .vmem S6x4096 .f32) (f : arg22.view.ty.Contents (Elt F)) : View.Piece (Elt F) S6x4095 .f32 :=
  ⟨Rect.unit (s := S6x4095) ![0, 0] S6x4095.size inb_S6x4095_S6x4095_0_0,
    View.readAt (Elt F) arg22.view (Rect.unit (s := S6x4096) ![0, 1] S6x4095.size inb_S6x4096_S6x4095_0_1).toLoadRect f⟩

variable (c : Dev nD) (i : grid0.Coords) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole) (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0) (xo7 : Vec F S6x3584 .f32) (xo8 : Vec F S6x4096 .f32) (xo9 : Vec F S6x4096 .f32) (xs0 : Vec F S288x3584 .fp8e4m3) (xs1 : Vec F S264x128 .f32) (xs4 : Vec F S288x3072 .fp8e4m3) (xs5 : Vec F S6x4096 .f32)

theorem L12_A (hc0 : k0_cond1 i = 1#1) (hc4 : ¬ k0_cond4 i = 1#1) (hc5 : ¬ k0_cond5 i = 1#1) (hc3 : k0_cond3 i (wrd c i xt0) = 1#1) :
    (runA c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.1 = xcPieces (xchunk arg3 (harg3.unread x0)) (cwTail0 arg17) arg17 28 (Nat.le_refl _) := rfl

theorem L13_A (hc0 : k0_cond1 i = 1#1) (hc4 : ¬ k0_cond4 i = 1#1) (hc5 : ¬ k0_cond5 i = 1#1) (hc3 : k0_cond3 i (wrd c i xt0) = 1#1) :
    (runA c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.1 = xsPieces (xchunk arg3 (harg3.unread x0)) (scTail0 arg18) arg18 := rfl

theorem LS0_A (hc0 : k0_cond1 i = 1#1) (hc4 : ¬ k0_cond4 i = 1#1) (hc5 : ¬ k0_cond5 i = 1#1) (hc3 : k0_cond3 i (wrd c i xt0) = 1#1) :
    (runA c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.1 = cwPieces (xchunk arg3 (harg3.unread x0)) (cwTail0 arg17) 28 (Nat.le_refl _) := rfl

theorem LS1_A (hc0 : k0_cond1 i = 1#1) (hc4 : ¬ k0_cond4 i = 1#1) (hc5 : ¬ k0_cond5 i = 1#1) (hc3 : k0_cond3 i (wrd c i xt0) = 1#1) :
    (runA c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.1 = scPieces (xchunk arg3 (harg3.unread x0)) (scTail0 arg18) := rfl

theorem LS4_A (hc0 : k0_cond1 i = 1#1) (hc4 : ¬ k0_cond4 i = 1#1) (hc5 : ¬ k0_cond5 i = 1#1) (hc3 : k0_cond3 i (wrd c i xt0) = 1#1) :
    (runA c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.1 = (mwPieces (k0_pay1 (wrd c i xt0) (Scalar.muli (Scalar.subi 15#32 (BitVec.ofNat 32 (i 1).val)) 256#32)) (xbAll (xchunk arg3 (harg3.unread x0)) arg19) (wchunk arg7 (harg7.unread x4)) (rowchunk arg8 (harg8.unread x5)) (rowchunk arg9 (harg9.unread x6)) arg20 (mwTail0 i arg21) 24 (Nat.le_refl _)) := rfl

theorem L10_A (hc0 : k0_cond1 i = 1#1) (hc4 : ¬ k0_cond4 i = 1#1) (hc5 : ¬ k0_cond5 i = 1#1) (hc3 : k0_cond3 i (wrd c i xt0) = 1#1) :
    (runA c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.1 = mvPieces arg21 (mwPieces (k0_pay1 (wrd c i xt0) (Scalar.muli (Scalar.subi 15#32 (BitVec.ofNat 32 (i 1).val)) 256#32)) (xbAll (xchunk arg3 (harg3.unread x0)) arg19) (wchunk arg7 (harg7.unread x4)) (rowchunk arg8 (harg8.unread x5)) (rowchunk arg9 (harg9.unread x6)) arg20 (mwTail0 i arg21) 24 (Nat.le_refl _)) := rfl

theorem LS5_A (hc0 : k0_cond1 i = 1#1) (hc4 : ¬ k0_cond4 i = 1#1) (hc5 : ¬ k0_cond5 i = 1#1) (hc3 : k0_cond3 i (wrd c i xt0) = 1#1) :
    (runA c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.1 = (mssPieces i (msP (k0_pay1 (wrd c i xt0) (Scalar.muli (Scalar.subi 15#32 (BitVec.ofNat 32 (i 1).val)) 256#32)) (xbAll (xchunk arg3 (harg3.unread x0)) arg19) (wchunk arg7 (harg7.unread x4)) (rowchunk arg8 (harg8.unread x5)) (rowchunk arg9 (harg9.unread x6))) arg22 [mssPiece0] arg22.view.junk) := rfl

theorem L12_B (hc0 : k0_cond1 i = 1#1) (hc4 : ¬ k0_cond4 i = 1#1) (hc5 : ¬ k0_cond5 i = 1#1) (hc3 : ¬ k0_cond3 i (wrd c i xt0) = 1#1) :
    (runB c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.1 = xcPieces (xchunk arg3 (harg3.unread x0)) (cwTail0 arg17) arg17 28 (Nat.le_refl _) := rfl

theorem L13_B (hc0 : k0_cond1 i = 1#1) (hc4 : ¬ k0_cond4 i = 1#1) (hc5 : ¬ k0_cond5 i = 1#1) (hc3 : ¬ k0_cond3 i (wrd c i xt0) = 1#1) :
    (runB c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.1 = xsPieces (xchunk arg3 (harg3.unread x0)) (scTail0 arg18) arg18 := rfl

theorem LS0_B (hc0 : k0_cond1 i = 1#1) (hc4 : ¬ k0_cond4 i = 1#1) (hc5 : ¬ k0_cond5 i = 1#1) (hc3 : ¬ k0_cond3 i (wrd c i xt0) = 1#1) :
    (runB c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.1 = cwPieces (xchunk arg3 (harg3.unread x0)) (cwTail0 arg17) 28 (Nat.le_refl _) := rfl

theorem LS1_B (hc0 : k0_cond1 i = 1#1) (hc4 : ¬ k0_cond4 i = 1#1) (hc5 : ¬ k0_cond5 i = 1#1) (hc3 : ¬ k0_cond3 i (wrd c i xt0) = 1#1) :
    (runB c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.1 = scPieces (xchunk arg3 (harg3.unread x0)) (scTail0 arg18) := rfl

theorem LS4_B (hc0 : k0_cond1 i = 1#1) (hc4 : ¬ k0_cond4 i = 1#1) (hc5 : ¬ k0_cond5 i = 1#1) (hc3 : ¬ k0_cond3 i (wrd c i xt0) = 1#1) :
    (runB c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.1 = (padPiece :: (mwTail0 i arg21)) := rfl

theorem L10_B (hc0 : k0_cond1 i = 1#1) (hc4 : ¬ k0_cond4 i = 1#1) (hc5 : ¬ k0_cond5 i = 1#1) (hc3 : ¬ k0_cond3 i (wrd c i xt0) = 1#1) :
    (runB c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.1 = mvPieces arg21 (padPiece :: (mwTail0 i arg21)) := rfl

theorem LS5_B (hc0 : k0_cond1 i = 1#1) (hc4 : ¬ k0_cond4 i = 1#1) (hc5 : ¬ k0_cond5 i = 1#1) (hc3 : ¬ k0_cond3 i (wrd c i xt0) = 1#1) :
    (runB c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.1 = [mssPiece0] := rfl

theorem L12_C (hc0 : ¬ k0_cond1 i = 1#1) (hc4 : ¬ k0_cond4 i = 1#1) (hc5 : ¬ k0_cond5 i = 1#1) (hc3 : k0_cond3 i (wrd c i xt0) = 1#1) :
    (runC c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.1 = xcPieces (xchunk arg3 (harg3.unread x0)) (cwTail arg17 (harg17.unread xs0)) arg17 28 (Nat.le_refl _) := rfl

theorem L13_C (hc0 : ¬ k0_cond1 i = 1#1) (hc4 : ¬ k0_cond4 i = 1#1) (hc5 : ¬ k0_cond5 i = 1#1) (hc3 : k0_cond3 i (wrd c i xt0) = 1#1) :
    (runC c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.1 = xsPieces (xchunk arg3 (harg3.unread x0)) (scTail arg18 (harg18.unread xs1)) arg18 := rfl

theorem LS0_C (hc0 : ¬ k0_cond1 i = 1#1) (hc4 : ¬ k0_cond4 i = 1#1) (hc5 : ¬ k0_cond5 i = 1#1) (hc3 : k0_cond3 i (wrd c i xt0) = 1#1) :
    (runC c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.1 = cwPieces (xchunk arg3 (harg3.unread x0)) (cwTail arg17 (harg17.unread xs0)) 28 (Nat.le_refl _) := rfl

theorem LS1_C (hc0 : ¬ k0_cond1 i = 1#1) (hc4 : ¬ k0_cond4 i = 1#1) (hc5 : ¬ k0_cond5 i = 1#1) (hc3 : k0_cond3 i (wrd c i xt0) = 1#1) :
    (runC c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.1 = scPieces (xchunk arg3 (harg3.unread x0)) (scTail arg18 (harg18.unread xs1)) := rfl

theorem LS4_C (hc0 : ¬ k0_cond1 i = 1#1) (hc4 : ¬ k0_cond4 i = 1#1) (hc5 : ¬ k0_cond5 i = 1#1) (hc3 : k0_cond3 i (wrd c i xt0) = 1#1) :
    (runC c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.1 = (mwPieces (k0_pay1 (wrd c i xt0) (Scalar.muli (Scalar.subi 15#32 (BitVec.ofNat 32 (i 1).val)) 256#32)) (xbAll (xchunk arg3 (harg3.unread x0)) arg19) (wchunk arg7 (harg7.unread x4)) (rowchunk arg8 (harg8.unread x5)) (rowchunk arg9 (harg9.unread x6)) arg20 (mwTail i arg21 (harg21.unread xs4)) 24 (Nat.le_refl _)) := rfl

theorem L10_C (hc0 : ¬ k0_cond1 i = 1#1) (hc4 : ¬ k0_cond4 i = 1#1) (hc5 : ¬ k0_cond5 i = 1#1) (hc3 : k0_cond3 i (wrd c i xt0) = 1#1) :
    (runC c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.1 = mvPieces arg21 (mwPieces (k0_pay1 (wrd c i xt0) (Scalar.muli (Scalar.subi 15#32 (BitVec.ofNat 32 (i 1).val)) 256#32)) (xbAll (xchunk arg3 (harg3.unread x0)) arg19) (wchunk arg7 (harg7.unread x4)) (rowchunk arg8 (harg8.unread x5)) (rowchunk arg9 (harg9.unread x6)) arg20 (mwTail i arg21 (harg21.unread xs4)) 24 (Nat.le_refl _)) := rfl

theorem LS5_C (hc0 : ¬ k0_cond1 i = 1#1) (hc4 : ¬ k0_cond4 i = 1#1) (hc5 : ¬ k0_cond5 i = 1#1) (hc3 : k0_cond3 i (wrd c i xt0) = 1#1) :
    (runC c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.1 = (mssPieces i (msP (k0_pay1 (wrd c i xt0) (Scalar.muli (Scalar.subi 15#32 (BitVec.ofNat 32 (i 1).val)) 256#32)) (xbAll (xchunk arg3 (harg3.unread x0)) arg19) (wchunk arg7 (harg7.unread x4)) (rowchunk arg8 (harg8.unread x5)) (rowchunk arg9 (harg9.unread x6))) arg22 [] (harg22.unread xs5)) := rfl

theorem L12_D (hc0 : ¬ k0_cond1 i = 1#1) (hc4 : ¬ k0_cond4 i = 1#1) (hc5 : ¬ k0_cond5 i = 1#1) (hc3 : ¬ k0_cond3 i (wrd c i xt0) = 1#1) :
    (runD c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.1 = xcPieces (xchunk arg3 (harg3.unread x0)) (cwTail arg17 (harg17.unread xs0)) arg17 28 (Nat.le_refl _) := rfl

theorem L13_D (hc0 : ¬ k0_cond1 i = 1#1) (hc4 : ¬ k0_cond4 i = 1#1) (hc5 : ¬ k0_cond5 i = 1#1) (hc3 : ¬ k0_cond3 i (wrd c i xt0) = 1#1) :
    (runD c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.1 = xsPieces (xchunk arg3 (harg3.unread x0)) (scTail arg18 (harg18.unread xs1)) arg18 := rfl

theorem LS0_D (hc0 : ¬ k0_cond1 i = 1#1) (hc4 : ¬ k0_cond4 i = 1#1) (hc5 : ¬ k0_cond5 i = 1#1) (hc3 : ¬ k0_cond3 i (wrd c i xt0) = 1#1) :
    (runD c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.1 = cwPieces (xchunk arg3 (harg3.unread x0)) (cwTail arg17 (harg17.unread xs0)) 28 (Nat.le_refl _) := rfl

theorem LS1_D (hc0 : ¬ k0_cond1 i = 1#1) (hc4 : ¬ k0_cond4 i = 1#1) (hc5 : ¬ k0_cond5 i = 1#1) (hc3 : ¬ k0_cond3 i (wrd c i xt0) = 1#1) :
    (runD c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.1 = scPieces (xchunk arg3 (harg3.unread x0)) (scTail arg18 (harg18.unread xs1)) := rfl

theorem LS4_D (hc0 : ¬ k0_cond1 i = 1#1) (hc4 : ¬ k0_cond4 i = 1#1) (hc5 : ¬ k0_cond5 i = 1#1) (hc3 : ¬ k0_cond3 i (wrd c i xt0) = 1#1) :
    (runD c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.1 = (padPiece :: (mwTail i arg21 (harg21.unread xs4))) := rfl

theorem L10_D (hc0 : ¬ k0_cond1 i = 1#1) (hc4 : ¬ k0_cond4 i = 1#1) (hc5 : ¬ k0_cond5 i = 1#1) (hc3 : ¬ k0_cond3 i (wrd c i xt0) = 1#1) :
    (runD c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).1 = mvPieces arg21 (padPiece :: (mwTail i arg21 (harg21.unread xs4))) := rfl

theorem L12_E (hc0 : ¬ k0_cond1 i = 1#1) (hc4 : k0_cond4 i = 1#1) (hc5 : ¬ k0_cond5 i = 1#1) (hc3 : k0_cond3 i (wrd c i xt0) = 1#1) :
    (runE c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.1 = xcPieces (xchunk arg3 (harg3.unread x0)) (cwTail arg17 (harg17.unread xs0)) arg17 28 (Nat.le_refl _) := rfl

theorem L13_E (hc0 : ¬ k0_cond1 i = 1#1) (hc4 : k0_cond4 i = 1#1) (hc5 : ¬ k0_cond5 i = 1#1) (hc3 : k0_cond3 i (wrd c i xt0) = 1#1) :
    (runE c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.1 = xsPieces (xchunk arg3 (harg3.unread x0)) (scTail arg18 (harg18.unread xs1)) arg18 := rfl

theorem LS0_E (hc0 : ¬ k0_cond1 i = 1#1) (hc4 : k0_cond4 i = 1#1) (hc5 : ¬ k0_cond5 i = 1#1) (hc3 : k0_cond3 i (wrd c i xt0) = 1#1) :
    (runE c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.1 = cwPieces (xchunk arg3 (harg3.unread x0)) (cwTail arg17 (harg17.unread xs0)) 28 (Nat.le_refl _) := rfl

theorem LS1_E (hc0 : ¬ k0_cond1 i = 1#1) (hc4 : k0_cond4 i = 1#1) (hc5 : ¬ k0_cond5 i = 1#1) (hc3 : k0_cond3 i (wrd c i xt0) = 1#1) :
    (runE c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.1 = scPieces (xchunk arg3 (harg3.unread x0)) (scTail arg18 (harg18.unread xs1)) := rfl

theorem LS4_E (hc0 : ¬ k0_cond1 i = 1#1) (hc4 : k0_cond4 i = 1#1) (hc5 : ¬ k0_cond5 i = 1#1) (hc3 : k0_cond3 i (wrd c i xt0) = 1#1) :
    (runE c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.1 = (mwPieces (k0_pay1 (wrd c i xt0) (Scalar.muli (Scalar.subi 15#32 (BitVec.ofNat 32 (i 1).val)) 256#32)) (xbAll (xchunk arg3 (harg3.unread x0)) arg19) (wchunk arg7 (harg7.unread x4)) (rowchunk arg8 (harg8.unread x5)) (rowchunk arg9 (harg9.unread x6)) arg20 (mwTail i arg21 (harg21.unread xs4)) 24 (Nat.le_refl _)) := rfl

theorem L10_E (hc0 : ¬ k0_cond1 i = 1#1) (hc4 : k0_cond4 i = 1#1) (hc5 : ¬ k0_cond5 i = 1#1) (hc3 : k0_cond3 i (wrd c i xt0) = 1#1) :
    (runE c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.1 = mvPieces arg21 (mwPieces (k0_pay1 (wrd c i xt0) (Scalar.muli (Scalar.subi 15#32 (BitVec.ofNat 32 (i 1).val)) 256#32)) (xbAll (xchunk arg3 (harg3.unread x0)) arg19) (wchunk arg7 (harg7.unread x4)) (rowchunk arg8 (harg8.unread x5)) (rowchunk arg9 (harg9.unread x6)) arg20 (mwTail i arg21 (harg21.unread xs4)) 24 (Nat.le_refl _)) := rfl

theorem LS5_E (hc0 : ¬ k0_cond1 i = 1#1) (hc4 : k0_cond4 i = 1#1) (hc5 : ¬ k0_cond5 i = 1#1) (hc3 : k0_cond3 i (wrd c i xt0) = 1#1) :
    (runE c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.2.1 = (mssPieces i (msP (k0_pay1 (wrd c i xt0) (Scalar.muli (Scalar.subi 15#32 (BitVec.ofNat 32 (i 1).val)) 256#32)) (xbAll (xchunk arg3 (harg3.unread x0)) arg19) (wchunk arg7 (harg7.unread x4)) (rowchunk arg8 (harg8.unread x5)) (rowchunk arg9 (harg9.unread x6))) arg22 [] (harg22.unread xs5)) := rfl

theorem L12_G (hc0 : ¬ k0_cond1 i = 1#1) (hc4 : k0_cond4 i = 1#1) (hc5 : ¬ k0_cond5 i = 1#1) (hc3 : ¬ k0_cond3 i (wrd c i xt0) = 1#1) :
    (runG c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.1 = xcPieces (xchunk arg3 (harg3.unread x0)) (cwTail arg17 (harg17.unread xs0)) arg17 28 (Nat.le_refl _) := rfl

theorem L13_G (hc0 : ¬ k0_cond1 i = 1#1) (hc4 : k0_cond4 i = 1#1) (hc5 : ¬ k0_cond5 i = 1#1) (hc3 : ¬ k0_cond3 i (wrd c i xt0) = 1#1) :
    (runG c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.1 = xsPieces (xchunk arg3 (harg3.unread x0)) (scTail arg18 (harg18.unread xs1)) arg18 := rfl

theorem LS0_G (hc0 : ¬ k0_cond1 i = 1#1) (hc4 : k0_cond4 i = 1#1) (hc5 : ¬ k0_cond5 i = 1#1) (hc3 : ¬ k0_cond3 i (wrd c i xt0) = 1#1) :
    (runG c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.1 = cwPieces (xchunk arg3 (harg3.unread x0)) (cwTail arg17 (harg17.unread xs0)) 28 (Nat.le_refl _) := rfl

theorem LS1_G (hc0 : ¬ k0_cond1 i = 1#1) (hc4 : k0_cond4 i = 1#1) (hc5 : ¬ k0_cond5 i = 1#1) (hc3 : ¬ k0_cond3 i (wrd c i xt0) = 1#1) :
    (runG c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.1 = scPieces (xchunk arg3 (harg3.unread x0)) (scTail arg18 (harg18.unread xs1)) := rfl

theorem LS4_G (hc0 : ¬ k0_cond1 i = 1#1) (hc4 : k0_cond4 i = 1#1) (hc5 : ¬ k0_cond5 i = 1#1) (hc3 : ¬ k0_cond3 i (wrd c i xt0) = 1#1) :
    (runG c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.1 = (padPiece :: (mwTail i arg21 (harg21.unread xs4))) := rfl

theorem L10_G (hc0 : ¬ k0_cond1 i = 1#1) (hc4 : k0_cond4 i = 1#1) (hc5 : ¬ k0_cond5 i = 1#1) (hc3 : ¬ k0_cond3 i (wrd c i xt0) = 1#1) :
    (runG c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.1 = mvPieces arg21 (padPiece :: (mwTail i arg21 (harg21.unread xs4))) := rfl

theorem L12_H (hc0 : ¬ k0_cond1 i = 1#1) (hc4 : k0_cond4 i = 1#1) (hc5 : k0_cond5 i = 1#1) (hc3 : k0_cond3 i (wrd c i xt0) = 1#1) :
    (runH c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.1 = xcPieces (xchunk arg3 (harg3.unread x0)) (cwTail arg17 (harg17.unread xs0)) arg17 28 (Nat.le_refl _) := rfl

theorem L13_H (hc0 : ¬ k0_cond1 i = 1#1) (hc4 : k0_cond4 i = 1#1) (hc5 : k0_cond5 i = 1#1) (hc3 : k0_cond3 i (wrd c i xt0) = 1#1) :
    (runH c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.1 = xsPieces (xchunk arg3 (harg3.unread x0)) (scTail arg18 (harg18.unread xs1)) arg18 := rfl

theorem LS0_H (hc0 : ¬ k0_cond1 i = 1#1) (hc4 : k0_cond4 i = 1#1) (hc5 : k0_cond5 i = 1#1) (hc3 : k0_cond3 i (wrd c i xt0) = 1#1) :
    (runH c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.1 = cwPieces (xchunk arg3 (harg3.unread x0)) (cwTail arg17 (harg17.unread xs0)) 28 (Nat.le_refl _) := rfl

theorem LS1_H (hc0 : ¬ k0_cond1 i = 1#1) (hc4 : k0_cond4 i = 1#1) (hc5 : k0_cond5 i = 1#1) (hc3 : k0_cond3 i (wrd c i xt0) = 1#1) :
    (runH c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.1 = scPieces (xchunk arg3 (harg3.unread x0)) (scTail arg18 (harg18.unread xs1)) := rfl

theorem LS4_H (hc0 : ¬ k0_cond1 i = 1#1) (hc4 : k0_cond4 i = 1#1) (hc5 : k0_cond5 i = 1#1) (hc3 : k0_cond3 i (wrd c i xt0) = 1#1) :
    (runH c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.2.1 = (mwPieces (k0_pay1 (wrd c i xt0) (Scalar.muli (Scalar.subi 15#32 (BitVec.ofNat 32 (i 1).val)) 256#32)) (xbAll (xchunk arg3 (harg3.unread x0)) arg19) (wchunk arg7 (harg7.unread x4)) (rowchunk arg8 (harg8.unread x5)) (rowchunk arg9 (harg9.unread x6)) arg20 (mwTail i arg21 (harg21.unread xs4)) 24 (Nat.le_refl _)) := rfl

theorem L10_H (hc0 : ¬ k0_cond1 i = 1#1) (hc4 : k0_cond4 i = 1#1) (hc5 : k0_cond5 i = 1#1) (hc3 : k0_cond3 i (wrd c i xt0) = 1#1) :
    (runH c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.1 = mvPieces arg21 (mwPieces (k0_pay1 (wrd c i xt0) (Scalar.muli (Scalar.subi 15#32 (BitVec.ofNat 32 (i 1).val)) 256#32)) (xbAll (xchunk arg3 (harg3.unread x0)) arg19) (wchunk arg7 (harg7.unread x4)) (rowchunk arg8 (harg8.unread x5)) (rowchunk arg9 (harg9.unread x6)) arg20 (mwTail i arg21 (harg21.unread xs4)) 24 (Nat.le_refl _)) := rfl

theorem LS5_H (hc0 : ¬ k0_cond1 i = 1#1) (hc4 : k0_cond4 i = 1#1) (hc5 : k0_cond5 i = 1#1) (hc3 : k0_cond3 i (wrd c i xt0) = 1#1) :
    (runH c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.2.2.1 = (mssPieces i (msP (k0_pay1 (wrd c i xt0) (Scalar.muli (Scalar.subi 15#32 (BitVec.ofNat 32 (i 1).val)) 256#32)) (xbAll (xchunk arg3 (harg3.unread x0)) arg19) (wchunk arg7 (harg7.unread x4)) (rowchunk arg8 (harg8.unread x5)) (rowchunk arg9 (harg9.unread x6))) arg22 [] (harg22.unread xs5)) := rfl

theorem L12_I (hc0 : ¬ k0_cond1 i = 1#1) (hc4 : k0_cond4 i = 1#1) (hc5 : k0_cond5 i = 1#1) (hc3 : ¬ k0_cond3 i (wrd c i xt0) = 1#1) :
    (runI c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.1 = xcPieces (xchunk arg3 (harg3.unread x0)) (cwTail arg17 (harg17.unread xs0)) arg17 28 (Nat.le_refl _) := rfl

theorem L13_I (hc0 : ¬ k0_cond1 i = 1#1) (hc4 : k0_cond4 i = 1#1) (hc5 : k0_cond5 i = 1#1) (hc3 : ¬ k0_cond3 i (wrd c i xt0) = 1#1) :
    (runI c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.1 = xsPieces (xchunk arg3 (harg3.unread x0)) (scTail arg18 (harg18.unread xs1)) arg18 := rfl

theorem LS0_I (hc0 : ¬ k0_cond1 i = 1#1) (hc4 : k0_cond4 i = 1#1) (hc5 : k0_cond5 i = 1#1) (hc3 : ¬ k0_cond3 i (wrd c i xt0) = 1#1) :
    (runI c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.1 = cwPieces (xchunk arg3 (harg3.unread x0)) (cwTail arg17 (harg17.unread xs0)) 28 (Nat.le_refl _) := rfl

theorem LS1_I (hc0 : ¬ k0_cond1 i = 1#1) (hc4 : k0_cond4 i = 1#1) (hc5 : k0_cond5 i = 1#1) (hc3 : ¬ k0_cond3 i (wrd c i xt0) = 1#1) :
    (runI c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.1 = scPieces (xchunk arg3 (harg3.unread x0)) (scTail arg18 (harg18.unread xs1)) := rfl

theorem LS4_I (hc0 : ¬ k0_cond1 i = 1#1) (hc4 : k0_cond4 i = 1#1) (hc5 : k0_cond5 i = 1#1) (hc3 : ¬ k0_cond3 i (wrd c i xt0) = 1#1) :
    (runI c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.1 = (padPiece :: (mwTail i arg21 (harg21.unread xs4))) := rfl

theorem L10_I (hc0 : ¬ k0_cond1 i = 1#1) (hc4 : k0_cond4 i = 1#1) (hc5 : k0_cond5 i = 1#1) (hc3 : ¬ k0_cond3 i (wrd c i xt0) = 1#1) :
    (runI c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.1 = mvPieces arg21 (padPiece :: (mwTail i arg21 (harg21.unread xs4))) := rfl

theorem L11_H (hc0 : ¬ k0_cond1 i = 1#1) (hc4 : k0_cond4 i = 1#1) (hc5 : k0_cond5 i = 1#1) (hc3 : k0_cond3 i (wrd c i xt0) = 1#1) :
    (runH c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.1 = [scalesPiece arg22 (arg22.view.writes (Elt F) (harg22.unread xs5) ((mssPieces i (msP (k0_pay1 (wrd c i xt0) (Scalar.muli (Scalar.subi 15#32 (BitVec.ofNat 32 (i 1).val)) 256#32)) (xbAll (xchunk arg3 (harg3.unread x0)) arg19) (wchunk arg7 (harg7.unread x4)) (rowchunk arg8 (harg8.unread x5)) (rowchunk arg9 (harg9.unread x6))) arg22 [] (harg22.unread xs5))))] := rfl

theorem L11_I (hc0 : ¬ k0_cond1 i = 1#1) (hc4 : k0_cond4 i = 1#1) (hc5 : k0_cond5 i = 1#1) (hc3 : ¬ k0_cond3 i (wrd c i xt0) = 1#1) :
    (runI c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.1 = [scalesPiece arg22 (harg22.unread xs5)] := rfl

end Cert.KernelIdeal.Hand

end
-- ==== Proof.Tight.lean ====
/- The kernel's body at any point, in `Cert.KernelIdeal`: its eight cases, each with what the body's stores leave as a parameter. -/
module

public import proofs.«01_k».proof.Proof.RunIdealA
public import proofs.«01_k».proof.Proof.RunIdealB
public import proofs.«01_k».proof.Proof.RunIdealC
public import proofs.«01_k».proof.Proof.RunIdealD
public import proofs.«01_k».proof.Proof.RunIdealE
public import proofs.«01_k».proof.Proof.RunIdealG
public import proofs.«01_k».proof.Proof.RunIdealH
public import proofs.«01_k».proof.Proof.RunIdealI

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point of the grid is neither a token-0 point nor the last. -/
theorem first_only (t : Fin 96) : k0_cond1 (grid0.coords t) = 1#1 → ¬ k0_cond4 (grid0.coords t) = 1#1 ∧ ¬ k0_cond5 (grid0.coords t) = 1#1 := by
  revert t; decide +kernel

/-- The last point of the grid is a token-0 point. -/
theorem last_cls (t : Fin 96) : k0_cond5 (grid0.coords t) = 1#1 → k0_cond4 (grid0.coords t) = 1#1 := by
  revert t; decide +kernel

/-- A buffer with stores written into it holds something of which everything true of the stores' result is true. -/
theorem rel_writes {S : Shape} {e : EltTy} {sp : Space} (c : Dev nD) (M : Memref sig .tc sp S e) (L : List (View.Piece (Elt F) S e))
    (R : (S.Idx → Elt F e) → Prop) (h : ∀ f, R (M.view.read (Elt F) (M.view.writes (Elt F) f L))) :
    (iprop(∃ f, M.view.loc (c : Thread nD τ) ↦[M.view.set]{fullShare} M.view.writes (Elt F) f L) : sProp 𝕄) ⊢ iprop(∃ d, ⌜R d⌝ ∗ owns (c : Thread nD τ) M fullShare d) := by
  unfold owns
  iintro ⟨%f, H⟩
  iexists _; isplitr; · ipureintro; exact h f
  iexists _; isplitr; swap; · iexact H
  ipureintro; rfl

theorem rel_writes' {S : Shape} {e : EltTy} {sp : Space} (c : Dev nD) (M : Memref sig .tc sp S e) (f) (L : List (View.Piece (Elt F) S e))
    (R : (S.Idx → Elt F e) → Prop) (h : R (M.view.read (Elt F) (M.view.writes (Elt F) f L))) :
    (iprop(M.view.loc (c : Thread nD τ) ↦[M.view.set]{fullShare} M.view.writes (Elt F) f L) : sProp 𝕄) ⊢ iprop(∃ d, ⌜R d⌝ ∗ owns (c : Thread nD τ) M fullShare d) := by
  unfold owns
  iintro H
  iexists _; isplitr; · ipureintro; exact h
  iexists _; isplitr; swap; · iexact H
  ipureintro; rfl

theorem rel_owns {S : Shape} {e : EltTy} {sp : Space} (c : Dev nD) (M : Memref sig .tc sp S e) (d : S.Idx → Elt F e)
    (R : (S.Idx → Elt F e) → Prop) (h : R d) :
    (iprop(owns (c : Thread nD τ) M fullShare d) : sProp 𝕄) ⊢ iprop(∃ d, ⌜R d⌝ ∗ owns (c : Thread nD τ) M fullShare d) := by
  iintro H
  iexists _; isplitr; · ipureintro; exact h
  iexact H

theorem rel_any {S : Shape} {e : EltTy} {sp : Space} (c : Dev nD) (M : Memref sig .tc sp S e)
    (R : (S.Idx → Elt F e) → Prop) (h : ∀ d, R d) :
    (iprop(∃ d, owns (c : Thread nD τ) M fullShare d) : sProp 𝕄) ⊢ iprop(∃ d, ⌜R d⌝ ∗ owns (c : Thread nD τ) M fullShare d) := by
  iintro ⟨%d, H⟩
  iexists _; isplitr; · ipureintro; exact h d
  iexact H

theorem any_writes {S : Shape} {e : EltTy} {sp : Space} (c : Dev nD) (M : Memref sig .tc sp S e) (L : List (View.Piece (Elt F) S e)) :
    (iprop(∃ f, M.view.loc (c : Thread nD τ) ↦[M.view.set]{fullShare} M.view.writes (Elt F) f L) : sProp 𝕄) ⊢ iprop(∃ d, owns (c : Thread nD τ) M fullShare d) := by
  unfold owns
  iintro ⟨%f, H⟩
  iexists _, _; isplitr; swap; · iexact H
  ipureintro; rfl

theorem any_writes' {S : Shape} {e : EltTy} {sp : Space} (c : Dev nD) (M : Memref sig .tc sp S e) (f) (L : List (View.Piece (Elt F) S e)) :
    (iprop(M.view.loc (c : Thread nD τ) ↦[M.view.set]{fullShare} M.view.writes (Elt F) f L) : sProp 𝕄) ⊢ iprop(∃ d, owns (c : Thread nD τ) M fullShare d) := by
  unfold owns
  iintro H
  iexists _, _; isplitr; swap; · iexact H
  ipureintro; rfl

variable (c : Dev nD) (i : grid0.Coords) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole)
variable (x0 : Vec F S1x256x3584 .bf16) (x1 : Vec F S6x4096 .i32) (x2 : Vec F S1x3584 .f32) (x3 : Vec F S1 .f32) (x4 : Vec F S3584x3072 .fp8e4m3) (x5 : Vec F S1x3072 .f32) (x6 : Vec F S1x3072 .f32) (xt0 : TbBuf0 (F := F) c tbM0_0) (xo7 : Vec F S6x3584 .f32) (xo8 : Vec F S6x4096 .f32) (xo9 : Vec F S6x4096 .f32) (xs0 : Vec F S288x3584 .fp8e4m3) (xs1 : Vec F S264x128 .f32) (xs4 : Vec F S288x3072 .fp8e4m3) (xs5 : Vec F S6x4096 .f32)
variable (Q10 : Vec F S1x256x3072 .fp8e4m3 → Prop) (Q11 : Vec F S6x4095 .f32 → Prop) (Q12 : Vec F S1x256x3584 .fp8e4m3 → Prop) (Q13 : Vec F S1x256x28 .f32 → Prop) (QS0 : Vec F S288x3584 .fp8e4m3 → Prop) (QS1 : Vec F S264x128 .f32 → Prop) (QS4 : Vec F S288x3072 .fp8e4m3 → Prop) (QS5 : Vec F S6x4096 .f32 → Prop)

/-- What the body is handed, -/
def tightPre : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ tbPt0 c tbM0_0 xt0)

/-- and what it leaves. -/
def tightPost : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, ⌜Q10 d⌝ ∗ owns (c : Thread nD τ) arg13 fullShare d) ∗ (∃ d, ⌜Q11 d⌝ ∗ owns (c : Thread nD τ) arg14 fullShare d) ∗ (∃ d, ⌜Q12 d⌝ ∗ owns (c : Thread nD τ) arg15 fullShare d) ∗ (∃ d, ⌜Q13 d⌝ ∗ owns (c : Thread nD τ) arg16 fullShare d) ∗ (∃ d, ⌜QS0 d⌝ ∗ owns (c : Thread nD τ) arg17 fullShare d) ∗ (∃ d, ⌜QS1 d⌝ ∗ owns (c : Thread nD τ) arg18 fullShare d) ∗ (∃ d, owns (c : Thread nD τ) arg19 fullShare d) ∗ (∃ d, owns (c : Thread nD τ) arg20 fullShare d) ∗ (∃ d, ⌜QS4 d⌝ ∗ owns (c : Thread nD τ) arg21 fullShare d) ∗ (∃ d, ⌜QS5 d⌝ ∗ owns (c : Thread nD τ) arg22 fullShare d) ∗ tbPt0 c tbM0_0 xt0)

/-- The triple of the body from the one to the other. -/
def Tight : Prop :=
  ∀ (E : Set ℕ) (K : PUnit → sProp 𝕄),
    iprop(tightPre c arg3 arg4 arg5 arg6 arg7 arg8 arg9 arg10 arg11 arg12 arg13 arg14 arg15 arg16 arg17 arg18 arg19 arg20 arg21 arg22 x0 x1 x2 x3 x4 x5 x6 xt0 xo7 xo8 xo9 xs0 xs1 xs4 xs5 ∗ (tightPost c arg3 arg4 arg5 arg6 arg7 arg8 arg9 arg10 arg11 arg12 arg13 arg14 arg15 arg16 arg17 arg18 arg19 arg20 arg21 arg22 x0 x1 x2 x3 x4 x5 x6 xt0 Q10 Q11 Q12 Q13 QS0 QS1 QS4 QS5 -∗ K ⟨⟩))
      ⊢ wp frame (wpE (defs₀ (F := F)) Variants.none c none) E (cc0_bge_heads i tbM0_0 htbM0_0 _ harg3 _ harg4 _ harg5 _ harg6 _ harg7 _ harg8 _ harg9 _ harg10 _ harg11 _ harg12 _ harg13 _ harg14 _ harg15 _ harg16 _ harg17 _ harg18 _ harg19 _ harg20 _ harg21 _ harg22) K

theorem tightA (hc0 : k0_cond1 i = 1#1) (hc4 : ¬ k0_cond4 i = 1#1) (hc5 : ¬ k0_cond5 i = 1#1) (hc3 : k0_cond3 i (wrd c i xt0) = 1#1)
    (h10 : ∀ f, Q10 (arg13.view.read (Elt F) (arg13.view.writes (Elt F) f (runA c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.1)))
    (h11 : ∀ d, Q11 d)
    (h12 : ∀ f, Q12 (arg15.view.read (Elt F) (arg15.view.writes (Elt F) f (runA c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.1)))
    (h13 : ∀ f, Q13 (arg16.view.read (Elt F) (arg16.view.writes (Elt F) f (runA c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.1)))
    (hS0 : ∀ f, QS0 (arg17.view.read (Elt F) (arg17.view.writes (Elt F) f (runA c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.1)))
    (hS1 : ∀ f, QS1 (arg18.view.read (Elt F) (arg18.view.writes (Elt F) f (runA c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.1)))
    (hS4 : ∀ f, QS4 (arg21.view.read (Elt F) (arg21.view.writes (Elt F) f (runA c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.1)))
    (hS5 : ∀ f, QS5 (arg22.view.read (Elt F) (arg22.view.writes (Elt F) f (runA c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.1))) :
    Tight c i _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 Q10 Q11 Q12 Q13 QS0 QS1 QS4 QS5 := by
  intro E K
  unfold tightPre tightPost
  iintro ⟨⟨H0, H1, H2, H3, H4, H5, H6, H7, H8, H9, H10, H11, H12, H13, HS0, HS1, HS2, HS3, HS4, HS5, HT⟩, Hk⟩
  iapply ((runA c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, H9, H10, H11, H12, H13, HS0, HS1, HS2, HS3, HS4, HS5, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iapply (any_writes c _ _); iexact H8
  isplitl [H9]; · iapply (any_writes c _ _); iexact H9
  isplitl [H10]; · iapply (rel_writes c _ _ _ h10); iexact H10
  isplitl [H11]; · iapply (rel_any c _ _ h11); iexact H11
  isplitl [H12]; · iapply (rel_writes c _ _ _ h12); iexact H12
  isplitl [H13]; · iapply (rel_writes c _ _ _ h13); iexact H13
  isplitl [HS0]; · iapply (rel_writes c _ _ _ hS0); iexact HS0
  isplitl [HS1]; · iapply (rel_writes c _ _ _ hS1); iexact HS1
  isplitl [HS2]; · iexact HS2
  isplitl [HS3]; · iexact HS3
  isplitl [HS4]; · iapply (rel_writes c _ _ _ hS4); iexact HS4
  isplitl [HS5]; · iapply (rel_writes c _ _ _ hS5); iexact HS5
  iexact HT

theorem tightB (hc0 : k0_cond1 i = 1#1) (hc4 : ¬ k0_cond4 i = 1#1) (hc5 : ¬ k0_cond5 i = 1#1) (hc3 : ¬ k0_cond3 i (wrd c i xt0) = 1#1)
    (h10 : ∀ f, Q10 (arg13.view.read (Elt F) (arg13.view.writes (Elt F) f (runB c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.1)))
    (h11 : ∀ d, Q11 d)
    (h12 : ∀ f, Q12 (arg15.view.read (Elt F) (arg15.view.writes (Elt F) f (runB c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.1)))
    (h13 : ∀ f, Q13 (arg16.view.read (Elt F) (arg16.view.writes (Elt F) f (runB c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.1)))
    (hS0 : ∀ f, QS0 (arg17.view.read (Elt F) (arg17.view.writes (Elt F) f (runB c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.1)))
    (hS1 : ∀ f, QS1 (arg18.view.read (Elt F) (arg18.view.writes (Elt F) f (runB c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.1)))
    (hS4 : ∀ f, QS4 (arg21.view.read (Elt F) (arg21.view.writes (Elt F) f (runB c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.1)))
    (hS5 : ∀ f, QS5 (arg22.view.read (Elt F) (arg22.view.writes (Elt F) f (runB c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.1))) :
    Tight c i _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 Q10 Q11 Q12 Q13 QS0 QS1 QS4 QS5 := by
  intro E K
  unfold tightPre tightPost
  iintro ⟨⟨H0, H1, H2, H3, H4, H5, H6, H7, H8, H9, H10, H11, H12, H13, HS0, HS1, HS2, HS3, HS4, HS5, HT⟩, Hk⟩
  iapply ((runB c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, H9, H10, H11, H12, H13, HS0, HS1, HS2, HS3, HS4, HS5, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iapply (any_writes c _ _); iexact H8
  isplitl [H9]; · iapply (any_writes c _ _); iexact H9
  isplitl [H10]; · iapply (rel_writes c _ _ _ h10); iexact H10
  isplitl [H11]; · iapply (rel_any c _ _ h11); iexact H11
  isplitl [H12]; · iapply (rel_writes c _ _ _ h12); iexact H12
  isplitl [H13]; · iapply (rel_writes c _ _ _ h13); iexact H13
  isplitl [HS0]; · iapply (rel_writes c _ _ _ hS0); iexact HS0
  isplitl [HS1]; · iapply (rel_writes c _ _ _ hS1); iexact HS1
  isplitl [HS2]; · iexact HS2
  isplitl [HS3]; · iexact HS3
  isplitl [HS4]; · iapply (rel_writes c _ _ _ hS4); iexact HS4
  isplitl [HS5]; · iapply (rel_writes c _ _ _ hS5); iexact HS5
  iexact HT

theorem tightC (hc0 : ¬ k0_cond1 i = 1#1) (hc4 : ¬ k0_cond4 i = 1#1) (hc5 : ¬ k0_cond5 i = 1#1) (hc3 : k0_cond3 i (wrd c i xt0) = 1#1)
    (h10 : ∀ f, Q10 (arg13.view.read (Elt F) (arg13.view.writes (Elt F) f (runC c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.1)))
    (h11 : ∀ d, Q11 d)
    (h12 : ∀ f, Q12 (arg15.view.read (Elt F) (arg15.view.writes (Elt F) f (runC c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.1)))
    (h13 : ∀ f, Q13 (arg16.view.read (Elt F) (arg16.view.writes (Elt F) f (runC c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.1)))
    (hS0 : ∀ f, QS0 (arg17.view.read (Elt F) (arg17.view.writes (Elt F) f (runC c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.1)))
    (hS1 : ∀ f, QS1 (arg18.view.read (Elt F) (arg18.view.writes (Elt F) f (runC c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.1)))
    (hS4 : ∀ f, QS4 (arg21.view.read (Elt F) (arg21.view.writes (Elt F) f (runC c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.1)))
    (hS5 : QS5 (arg22.view.read (Elt F) (arg22.view.writes (Elt F) (harg22.unread xs5) (runC c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.1))) :
    Tight c i _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 Q10 Q11 Q12 Q13 QS0 QS1 QS4 QS5 := by
  intro E K
  unfold tightPre tightPost
  iintro ⟨⟨H0, H1, H2, H3, H4, H5, H6, H7, H8, H9, H10, H11, H12, H13, HS0, HS1, HS2, HS3, HS4, HS5, HT⟩, Hk⟩
  iapply ((runC c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, H9, H10, H11, H12, H13, HS0, HS1, HS2, HS3, HS4, HS5, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iapply (any_writes' c _ _ _); iexact H8
  isplitl [H9]; · iapply (any_writes' c _ _ _); iexact H9
  isplitl [H10]; · iapply (rel_writes c _ _ _ h10); iexact H10
  isplitl [H11]; · iapply (rel_any c _ _ h11); iexact H11
  isplitl [H12]; · iapply (rel_writes c _ _ _ h12); iexact H12
  isplitl [H13]; · iapply (rel_writes c _ _ _ h13); iexact H13
  isplitl [HS0]; · iapply (rel_writes c _ _ _ hS0); iexact HS0
  isplitl [HS1]; · iapply (rel_writes c _ _ _ hS1); iexact HS1
  isplitl [HS2]; · iexact HS2
  isplitl [HS3]; · iexact HS3
  isplitl [HS4]; · iapply (rel_writes c _ _ _ hS4); iexact HS4
  isplitl [HS5]; · iapply (rel_writes' c _ _ _ _ hS5); iexact HS5
  iexact HT

theorem tightD (hc0 : ¬ k0_cond1 i = 1#1) (hc4 : ¬ k0_cond4 i = 1#1) (hc5 : ¬ k0_cond5 i = 1#1) (hc3 : ¬ k0_cond3 i (wrd c i xt0) = 1#1)
    (h10 : ∀ f, Q10 (arg13.view.read (Elt F) (arg13.view.writes (Elt F) f (runD c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).1)))
    (h11 : ∀ d, Q11 d)
    (h12 : ∀ f, Q12 (arg15.view.read (Elt F) (arg15.view.writes (Elt F) f (runD c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.1)))
    (h13 : ∀ f, Q13 (arg16.view.read (Elt F) (arg16.view.writes (Elt F) f (runD c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.1)))
    (hS0 : ∀ f, QS0 (arg17.view.read (Elt F) (arg17.view.writes (Elt F) f (runD c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.1)))
    (hS1 : ∀ f, QS1 (arg18.view.read (Elt F) (arg18.view.writes (Elt F) f (runD c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.1)))
    (hS4 : ∀ f, QS4 (arg21.view.read (Elt F) (arg21.view.writes (Elt F) f (runD c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.1)))
    (hS5 : QS5 xs5) :
    Tight c i _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 Q10 Q11 Q12 Q13 QS0 QS1 QS4 QS5 := by
  intro E K
  unfold tightPre tightPost
  iintro ⟨⟨H0, H1, H2, H3, H4, H5, H6, H7, H8, H9, H10, H11, H12, H13, HS0, HS1, HS2, HS3, HS4, HS5, HT⟩, Hk⟩
  iapply ((runD c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, H9, H10, H11, H12, H13, HS0, HS1, HS2, HS3, HS4, HS5, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iapply (rel_writes c _ _ _ h10); iexact H10
  isplitl [H11]; · iapply (rel_any c _ _ h11); iexact H11
  isplitl [H12]; · iapply (rel_writes c _ _ _ h12); iexact H12
  isplitl [H13]; · iapply (rel_writes c _ _ _ h13); iexact H13
  isplitl [HS0]; · iapply (rel_writes c _ _ _ hS0); iexact HS0
  isplitl [HS1]; · iapply (rel_writes c _ _ _ hS1); iexact HS1
  isplitl [HS2]; · iexact HS2
  isplitl [HS3]; · iexact HS3
  isplitl [HS4]; · iapply (rel_writes c _ _ _ hS4); iexact HS4
  isplitl [HS5]; · iapply (rel_owns c _ _ _ hS5); iexact HS5
  iexact HT

theorem tightE (hc0 : ¬ k0_cond1 i = 1#1) (hc4 : k0_cond4 i = 1#1) (hc5 : ¬ k0_cond5 i = 1#1) (hc3 : k0_cond3 i (wrd c i xt0) = 1#1)
    (h10 : ∀ f, Q10 (arg13.view.read (Elt F) (arg13.view.writes (Elt F) f (runE c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.1)))
    (h11 : ∀ d, Q11 d)
    (h12 : ∀ f, Q12 (arg15.view.read (Elt F) (arg15.view.writes (Elt F) f (runE c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.1)))
    (h13 : ∀ f, Q13 (arg16.view.read (Elt F) (arg16.view.writes (Elt F) f (runE c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.1)))
    (hS0 : ∀ f, QS0 (arg17.view.read (Elt F) (arg17.view.writes (Elt F) f (runE c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.1)))
    (hS1 : ∀ f, QS1 (arg18.view.read (Elt F) (arg18.view.writes (Elt F) f (runE c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.1)))
    (hS4 : ∀ f, QS4 (arg21.view.read (Elt F) (arg21.view.writes (Elt F) f (runE c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.1)))
    (hS5 : QS5 (arg22.view.read (Elt F) (arg22.view.writes (Elt F) (harg22.unread xs5) (runE c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.2.1))) :
    Tight c i _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 Q10 Q11 Q12 Q13 QS0 QS1 QS4 QS5 := by
  intro E K
  unfold tightPre tightPost
  iintro ⟨⟨H0, H1, H2, H3, H4, H5, H6, H7, H8, H9, H10, H11, H12, H13, HS0, HS1, HS2, HS3, HS4, HS5, HT⟩, Hk⟩
  iapply ((runE c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, H9, H10, H11, H12, H13, HS0, HS1, HS2, HS3, HS4, HS5, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (any_writes' c _ _ _); iexact H7
  isplitl [H8]; · iapply (any_writes' c _ _ _); iexact H8
  isplitl [H9]; · iapply (any_writes' c _ _ _); iexact H9
  isplitl [H10]; · iapply (rel_writes c _ _ _ h10); iexact H10
  isplitl [H11]; · iapply (rel_any c _ _ h11); iexact H11
  isplitl [H12]; · iapply (rel_writes c _ _ _ h12); iexact H12
  isplitl [H13]; · iapply (rel_writes c _ _ _ h13); iexact H13
  isplitl [HS0]; · iapply (rel_writes c _ _ _ hS0); iexact HS0
  isplitl [HS1]; · iapply (rel_writes c _ _ _ hS1); iexact HS1
  isplitl [HS2]; · iexact HS2
  isplitl [HS3]; · iexact HS3
  isplitl [HS4]; · iapply (rel_writes c _ _ _ hS4); iexact HS4
  isplitl [HS5]; · iapply (rel_writes' c _ _ _ _ hS5); iexact HS5
  iexact HT

theorem tightG (hc0 : ¬ k0_cond1 i = 1#1) (hc4 : k0_cond4 i = 1#1) (hc5 : ¬ k0_cond5 i = 1#1) (hc3 : ¬ k0_cond3 i (wrd c i xt0) = 1#1)
    (h10 : ∀ f, Q10 (arg13.view.read (Elt F) (arg13.view.writes (Elt F) f (runG c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.1)))
    (h11 : ∀ d, Q11 d)
    (h12 : ∀ f, Q12 (arg15.view.read (Elt F) (arg15.view.writes (Elt F) f (runG c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.1)))
    (h13 : ∀ f, Q13 (arg16.view.read (Elt F) (arg16.view.writes (Elt F) f (runG c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.1)))
    (hS0 : ∀ f, QS0 (arg17.view.read (Elt F) (arg17.view.writes (Elt F) f (runG c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.1)))
    (hS1 : ∀ f, QS1 (arg18.view.read (Elt F) (arg18.view.writes (Elt F) f (runG c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.1)))
    (hS4 : ∀ f, QS4 (arg21.view.read (Elt F) (arg21.view.writes (Elt F) f (runG c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.1)))
    (hS5 : QS5 xs5) :
    Tight c i _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 Q10 Q11 Q12 Q13 QS0 QS1 QS4 QS5 := by
  intro E K
  unfold tightPre tightPost
  iintro ⟨⟨H0, H1, H2, H3, H4, H5, H6, H7, H8, H9, H10, H11, H12, H13, HS0, HS1, HS2, HS3, HS4, HS5, HT⟩, Hk⟩
  iapply ((runG c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, H9, H10, H11, H12, H13, HS0, HS1, HS2, HS3, HS4, HS5, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (any_writes' c _ _ _); iexact H7
  isplitl [H8]; · iexists _; iexact H8
  isplitl [H9]; · iexists _; iexact H9
  isplitl [H10]; · iapply (rel_writes c _ _ _ h10); iexact H10
  isplitl [H11]; · iapply (rel_any c _ _ h11); iexact H11
  isplitl [H12]; · iapply (rel_writes c _ _ _ h12); iexact H12
  isplitl [H13]; · iapply (rel_writes c _ _ _ h13); iexact H13
  isplitl [HS0]; · iapply (rel_writes c _ _ _ hS0); iexact HS0
  isplitl [HS1]; · iapply (rel_writes c _ _ _ hS1); iexact HS1
  isplitl [HS2]; · iexact HS2
  isplitl [HS3]; · iexact HS3
  isplitl [HS4]; · iapply (rel_writes c _ _ _ hS4); iexact HS4
  isplitl [HS5]; · iapply (rel_owns c _ _ _ hS5); iexact HS5
  iexact HT

theorem tightH (hc0 : ¬ k0_cond1 i = 1#1) (hc4 : k0_cond4 i = 1#1) (hc5 : k0_cond5 i = 1#1) (hc3 : k0_cond3 i (wrd c i xt0) = 1#1)
    (h10 : ∀ f, Q10 (arg13.view.read (Elt F) (arg13.view.writes (Elt F) f (runH c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.1)))
    (h11 : ∀ f, Q11 (arg14.view.read (Elt F) (arg14.view.writes (Elt F) f (runH c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.1)))
    (h12 : ∀ f, Q12 (arg15.view.read (Elt F) (arg15.view.writes (Elt F) f (runH c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.1)))
    (h13 : ∀ f, Q13 (arg16.view.read (Elt F) (arg16.view.writes (Elt F) f (runH c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.1)))
    (hS0 : ∀ f, QS0 (arg17.view.read (Elt F) (arg17.view.writes (Elt F) f (runH c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.1)))
    (hS1 : ∀ f, QS1 (arg18.view.read (Elt F) (arg18.view.writes (Elt F) f (runH c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.1)))
    (hS4 : ∀ f, QS4 (arg21.view.read (Elt F) (arg21.view.writes (Elt F) f (runH c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.2.1)))
    (hS5 : QS5 (arg22.view.read (Elt F) (arg22.view.writes (Elt F) (harg22.unread xs5) (runH c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.2.2.1))) :
    Tight c i _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 Q10 Q11 Q12 Q13 QS0 QS1 QS4 QS5 := by
  intro E K
  unfold tightPre tightPost
  iintro ⟨⟨H0, H1, H2, H3, H4, H5, H6, H7, H8, H9, H10, H11, H12, H13, HS0, HS1, HS2, HS3, HS4, HS5, HT⟩, Hk⟩
  iapply ((runH c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, H9, H10, H11, H12, H13, HS0, HS1, HS2, HS3, HS4, HS5, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (any_writes' c _ _ _); iexact H7
  isplitl [H8]; · iapply (any_writes' c _ _ _); iexact H8
  isplitl [H9]; · iapply (any_writes' c _ _ _); iexact H9
  isplitl [H10]; · iapply (rel_writes c _ _ _ h10); iexact H10
  isplitl [H11]; · iapply (rel_writes c _ _ _ h11); iexact H11
  isplitl [H12]; · iapply (rel_writes c _ _ _ h12); iexact H12
  isplitl [H13]; · iapply (rel_writes c _ _ _ h13); iexact H13
  isplitl [HS0]; · iapply (rel_writes c _ _ _ hS0); iexact HS0
  isplitl [HS1]; · iapply (rel_writes c _ _ _ hS1); iexact HS1
  isplitl [HS2]; · iexact HS2
  isplitl [HS3]; · iexact HS3
  isplitl [HS4]; · iapply (rel_writes c _ _ _ hS4); iexact HS4
  isplitl [HS5]; · iapply (rel_writes' c _ _ _ _ hS5); iexact HS5
  iexact HT

theorem tightI (hc0 : ¬ k0_cond1 i = 1#1) (hc4 : k0_cond4 i = 1#1) (hc5 : k0_cond5 i = 1#1) (hc3 : ¬ k0_cond3 i (wrd c i xt0) = 1#1)
    (h10 : ∀ f, Q10 (arg13.view.read (Elt F) (arg13.view.writes (Elt F) f (runI c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.1)))
    (h11 : ∀ f, Q11 (arg14.view.read (Elt F) (arg14.view.writes (Elt F) f (runI c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.1)))
    (h12 : ∀ f, Q12 (arg15.view.read (Elt F) (arg15.view.writes (Elt F) f (runI c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.1)))
    (h13 : ∀ f, Q13 (arg16.view.read (Elt F) (arg16.view.writes (Elt F) f (runI c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.1)))
    (hS0 : ∀ f, QS0 (arg17.view.read (Elt F) (arg17.view.writes (Elt F) f (runI c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.1)))
    (hS1 : ∀ f, QS1 (arg18.view.read (Elt F) (arg18.view.writes (Elt F) f (runI c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.1)))
    (hS4 : ∀ f, QS4 (arg21.view.read (Elt F) (arg21.view.writes (Elt F) f (runI c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.1)))
    (hS5 : QS5 xs5) :
    Tight c i _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 Q10 Q11 Q12 Q13 QS0 QS1 QS4 QS5 := by
  intro E K
  unfold tightPre tightPost
  iintro ⟨⟨H0, H1, H2, H3, H4, H5, H6, H7, H8, H9, H10, H11, H12, H13, HS0, HS1, HS2, HS3, HS4, HS5, HT⟩, Hk⟩
  iapply ((runI c i _ harg3 _ harg4 _ harg5 _ harg6 _ harg7 _ harg8 _ harg9 _ harg10 _ harg11 _ harg12 _ harg13 _ harg14 _ harg15 _ harg16 _ harg17 _ harg18 _ harg19 _ harg20 _ harg21 _ harg22 hc0 hc4 hc5 x0 x1 x2 x3 x4 x5 x6 xt0 xo7 xo8 xo9 xs0 xs1 xs4 xs5 hc3).2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HT]; · iexact HT
  iintro ⟨H0, H1, H2, H3, H4, H5, H6, H7, H8, H9, H10, H11, H12, H13, HS0, HS1, HS2, HS3, HS4, HS5, HT⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (any_writes' c _ _ _); iexact H7
  isplitl [H8]; · iexists _; iexact H8
  isplitl [H9]; · iexists _; iexact H9
  isplitl [H10]; · iapply (rel_writes c _ _ _ h10); iexact H10
  isplitl [H11]; · iapply (rel_writes c _ _ _ h11); iexact H11
  isplitl [H12]; · iapply (rel_writes c _ _ _ h12); iexact H12
  isplitl [H13]; · iapply (rel_writes c _ _ _ h13); iexact H13
  isplitl [HS0]; · iapply (rel_writes c _ _ _ hS0); iexact HS0
  isplitl [HS1]; · iapply (rel_writes c _ _ _ hS1); iexact HS1
  isplitl [HS2]; · iexact HS2
  isplitl [HS3]; · iexact HS3
  isplitl [HS4]; · iapply (rel_writes c _ _ _ hS4); iexact HS4
  isplitl [HS5]; · iapply (rel_owns c _ _ _ hS5); iexact HS5
  iexact HT

end Cert.KernelIdeal.Hand

end
-- ==== Proof.Cases.lean ====
/- The body at every point, with what the stores of its tile leave: the block results, the carried rows and the kept scales. -/
module

public import proofs.«01_k».proof.Proof.Mss
public import proofs.«01_k».proof.Proof.Lists
public import proofs.«01_k».proof.Proof.Tight

@[expose] public section

set_option maxRecDepth 16384

noncomputable section

namespace Cert.KernelIdeal.Hand

open Cert.KernelIdeal.Gen
open Idealize.ShloMosaic Idealize.ShloMosaic.TcCoe

/-- The result of the scales, at the last point: every token's but the first. -/
def R11 (i : grid0.Coords) (Y : ℕ → Fin 3072 → EReal) (base : Vec Ideal S6x4096 .f32) (X : Vec Ideal S6x4095 .f32) : Prop :=
  k0_cond5 i = 1#1 → ∀ (b : Fin 6) (s : Fin 4095),
    X (ix2 b s) = if b.val = (i 0).val ∧ (s.val + 1) / 256 = tn i then Spec.unitScale (Y ((s.val + 1) % 256)) else base (ix2 b ⟨s.val + 1, by omega⟩)

theorem r11_of (i : grid0.Coords) (Y : ℕ → Fin 3072 → EReal) (base : Vec Ideal S6x4096 .f32) (w : View sig .tc .vmem S6x4095 .f32) (g : w.ty.Contents (Elt Ideal))
    (arg22 : Memref sig .tc .vmem S6x4096 .f32) (f : arg22.view.ty.Contents (Elt Ideal)) (h : M5 i Y base (arg22.view.read (Elt Ideal) f)) :
    R11 i Y base (w.read (Elt Ideal) (w.writes (Elt Ideal) g [scalesPiece (F := Ideal) arg22 f])) := fun _ b s => by
  unfold scalesPiece
  rw [View.read_writes_cons_unit_of_mem w g inb_S6x4095_S6x4095_0_0 _ _ _ (ix2 b s) rfl]
  · rw [View.readAt_apply, ← h b ⟨s.val + 1, by omega⟩]
    congr 1
    funext a
    apply Fin.ext
    match a with
    | 0 => show 0 + 1 * b.val = b.val; omega
    | 1 => show 1 + 1 * s.val = s.val + 1; omega
  · intro a
    match a with
    | 0 => show b.val = 0 + b.val; omega
    | 1 => show s.val = 0 + s.val; omega

theorem first_row (t : Fin 96) : k0_cond1 (grid0.coords t) = 1#1 → (grid0.coords t 1).val = 0 := by
  revert t; decide +kernel

variable (c : Dev nD) (t : Fin 96) (arg3 : Memref sig .tc .vmem S1x256x3584 .bf16) (harg3 : arg3.IsWhole) (arg4 : Memref sig .tc .vmem S6x4096 .i32) (harg4 : arg4.IsWhole) (arg5 : Memref sig .tc .vmem S1x3584 .f32) (harg5 : arg5.IsWhole) (arg6 : Memref sig .tc .smem S1 .f32) (harg6 : arg6.IsWhole) (arg7 : Memref sig .tc .vmem S3584x3072 .fp8e4m3) (harg7 : arg7.IsWhole) (arg8 : Memref sig .tc .vmem S1x3072 .f32) (harg8 : arg8.IsWhole) (arg9 : Memref sig .tc .vmem S1x3072 .f32) (harg9 : arg9.IsWhole) (arg10 : Memref sig .tc .vmem S6x3584 .f32) (harg10 : arg10.IsWhole) (arg11 : Memref sig .tc .vmem S6x4096 .f32) (harg11 : arg11.IsWhole) (arg12 : Memref sig .tc .vmem S6x4096 .f32) (harg12 : arg12.IsWhole) (arg13 : Memref sig .tc .vmem S1x256x3072 .fp8e4m3) (harg13 : arg13.IsWhole) (arg14 : Memref sig .tc .vmem S6x4095 .f32) (harg14 : arg14.IsWhole) (arg15 : Memref sig .tc .vmem S1x256x3584 .fp8e4m3) (harg15 : arg15.IsWhole) (arg16 : Memref sig .tc .vmem S1x256x28 .f32) (harg16 : arg16.IsWhole) (arg17 : Memref sig .tc .vmem S288x3584 .fp8e4m3) (harg17 : arg17.IsWhole) (arg18 : Memref sig .tc .vmem S264x128 .f32) (harg18 : arg18.IsWhole) (arg19 : Memref sig .tc .vmem S256x3584 .bf16) (harg19 : arg19.IsWhole) (arg20 : Memref sig .tc .vmem S256x3072 .f32) (harg20 : arg20.IsWhole) (arg21 : Memref sig .tc .vmem S288x3072 .fp8e4m3) (harg21 : arg21.IsWhole) (arg22 : Memref sig .tc .vmem S6x4096 .f32) (harg22 : arg22.IsWhole)
variable (x0 : Vec Ideal S1x256x3584 .bf16) (x1 : Vec Ideal S6x4096 .i32) (x2 : Vec Ideal S1x3584 .f32) (x3 : Vec Ideal S1 .f32) (x4 : Vec Ideal S3584x3072 .fp8e4m3) (x5 : Vec Ideal S1x3072 .f32) (x6 : Vec Ideal S1x3072 .f32) (xt0 : TbBuf0 (F := Ideal) c tbM0_0) (xo7 : Vec Ideal S6x3584 .f32) (xo8 : Vec Ideal S6x4096 .f32) (xo9 : Vec Ideal S6x4096 .f32) (xs0 : Vec Ideal S288x3584 .fp8e4m3) (xs1 : Vec Ideal S264x128 .f32) (xs4 : Vec Ideal S288x3072 .fp8e4m3) (xs5 : Vec Ideal S6x4096 .f32)

variable (T : ℕ → Fin 3584 → EReal) (Y : ℕ → Fin 3072 → EReal) (base : Vec Ideal S6x4096 .f32)
  (hT : ∀ r : Fin 256, trow x0 r = T r.val)
  (hYT : ∀ n, Y n = yRow (T n) (wrd c (grid0.coords t) xt0) (256 * tn (grid0.coords t) + n) x4 x5 x6)
  (hC0 : ((grid0.coords t) 1).val ≠ 0 → C0 (T 256) xs0) (hC1 : ((grid0.coords t) 1).val ≠ 0 → C1 (T 256) xs1) (hC4 : ((grid0.coords t) 1).val ≠ 0 → C4 (Y 256) xs4)
  (hbase1 : k0_cond1 (grid0.coords t) = 1#1 → ∀ b s, base (ix2 b s) = 1)
  (hbase : ¬ k0_cond1 (grid0.coords t) = 1#1 → base = xs5)
  (htile : ∀ (b : Fin 6) (s : Fin 4096), b.val = ((grid0.coords t) 0).val → s.val / 256 = tn (grid0.coords t) → base (ix2 b s) = 1)

include hYT in
theorem dead_rows (hc3 : ¬ k0_cond3 (grid0.coords t) (wrd c (grid0.coords t) xt0) = 1#1) : ∀ n < 256, Y n = fun _ => 0 := fun n _ => by
  rw [hYT]; exact yRow_dead (not_live hc3 n) _ _ _

include hYT hbase htile in
theorem pad_scales (hc3 : ¬ k0_cond3 (grid0.coords t) (wrd c (grid0.coords t) xt0) = 1#1) (hc0 : ¬ k0_cond1 (grid0.coords t) = 1#1) : M5 (grid0.coords t) Y base xs5 := fun b s => by
  by_cases h : b.val = ((grid0.coords t) 0).val ∧ s.val / 256 = tn (grid0.coords t)
  · rw [if_pos h, dead_rows c t x4 x5 x6 xt0 T Y hYT hc3 _ (by omega), unitScale_zero, ← hbase hc0]
    exact htile b s h.1 h.2
  · rw [if_neg h, hbase hc0]

include hT hYT in
theorem tile_scales (r : Fin 256) :
    msP (F := Ideal) (k0_pay1 (F := Ideal) (wrd c (grid0.coords t) xt0) (Scalar.muli (Scalar.subi 15#32 (BitVec.ofNat 32 ((grid0.coords t) 1).val)) 256#32)) (xbAll (xcOf _ harg3 x0) arg19)
      (wchunk arg7 (harg7.unread x4)) (rowchunk arg8 (harg8.unread x5)) (rowchunk arg9 (harg9.unread x6)) (ix2 r 0) = Spec.unitScale (Y r.val) :=
  msP_at _ _ _ _ _ (fun r => Y r.val) (y_at (grid0.coords t) (wrd c (grid0.coords t) xt0) T Y _ harg3 x0 _ harg7 x4 _ harg8 x5 _ harg9 x6 arg19 hT hYT) r 0

include hT hYT hC0 hC1 hC4 hbase1 hbase htile in
theorem caseA (hc0 : k0_cond1 (grid0.coords t) = 1#1) (hc4 : ¬ k0_cond4 (grid0.coords t) = 1#1) (hc5 : ¬ k0_cond5 (grid0.coords t) = 1#1) (hc3 : k0_cond3 (grid0.coords t) (wrd c (grid0.coords t) xt0) = 1#1) :
    Tight (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 (RM (grid0.coords t) Y) (R11 (grid0.coords t) Y base) (RC (grid0.coords t) T) (RS (grid0.coords t) T) (C0 (T 0)) (C1 (T 0)) (C4 (Y 0)) (M5 (grid0.coords t) Y base) := by
  have hms := tile_scales c t _ harg3 _ harg7 _ harg8 _ harg9 arg19 x0 x4 x5 x6 xt0 T Y hT hYT
  have hi := first_row t hc0
  have hone : ∀ f b s, arg22.view.read (Elt Ideal) (arg22.view.writes (Elt Ideal) f [mssPiece0 (F := Ideal)]) (ix2 b s) = base (ix2 b s) := fun f b s => by
    rw [mssPiece0_at, hbase1 hc0]
  refine tightA (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 _ _ _ _ _ _ _ _ hc0 hc4 hc5 hc3 ?_ ?_ ?_ ?_ ?_ ?_ ?_ ?_
  · intro f; rw [L10_A (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rm_first (grid0.coords t) Y _ _ _ _ _ (y_at (grid0.coords t) (wrd c (grid0.coords t) xt0) T Y _ harg3 x0 _ harg7 x4 _ harg8 x5 _ harg9 x6 arg19 hT hYT) hi _ _ _ _ _
  · exact fun d h => absurd h hc5
  · intro f; rw [L12_A (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rc_first (grid0.coords t) T _ harg3 x0 hT hi _ _ _ _
  · intro f; rw [L13_A (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rs_first (grid0.coords t) T _ harg3 x0 hT hi _ _ _ _
  · intro f; rw [LS0_A (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c0_cw T _ harg3 x0 hT _ _ _
  · intro f; rw [LS1_A (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c1_sc T _ harg3 x0 hT _ _ _
  · intro f; rw [LS4_A (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c4_mw Y _ _ _ _ _ (y_at (grid0.coords t) (wrd c (grid0.coords t) xt0) T Y _ harg3 x0 _ harg7 x4 _ harg8 x5 _ harg9 x6 arg19 hT hYT) _ _ _ _
  · intro f; rw [LS5_A (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact mss_at (grid0.coords t) _ arg22 _ _ _ base Y hms (hone _) (hone _)

include hT hYT hC0 hC1 hC4 hbase1 hbase htile in
theorem caseB (hc0 : k0_cond1 (grid0.coords t) = 1#1) (hc4 : ¬ k0_cond4 (grid0.coords t) = 1#1) (hc5 : ¬ k0_cond5 (grid0.coords t) = 1#1) (hc3 : ¬ k0_cond3 (grid0.coords t) (wrd c (grid0.coords t) xt0) = 1#1) :
    Tight (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 (RM (grid0.coords t) Y) (R11 (grid0.coords t) Y base) (RC (grid0.coords t) T) (RS (grid0.coords t) T) (C0 (T 0)) (C1 (T 0)) (C4 (Y 0)) (M5 (grid0.coords t) Y base) := by
  have hZ := dead_rows c t x4 x5 x6 xt0 T Y hYT hc3
  have hi := first_row t hc0
  refine tightB (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 _ _ _ _ _ _ _ _ hc0 hc4 hc5 hc3 ?_ ?_ ?_ ?_ ?_ ?_ ?_ ?_
  · intro f; rw [L10_B (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rm_pad_first (grid0.coords t) Y hZ hi _ _ _ _
  · exact fun d h => absurd h hc5
  · intro f; rw [L12_B (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rc_first (grid0.coords t) T _ harg3 x0 hT hi _ _ _ _
  · intro f; rw [L13_B (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rs_first (grid0.coords t) T _ harg3 x0 hT hi _ _ _ _
  · intro f; rw [LS0_B (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c0_cw T _ harg3 x0 hT _ _ _
  · intro f; rw [LS1_B (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c1_sc T _ harg3 x0 hT _ _ _
  · intro f; rw [LS4_B (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c4_pad Y hZ _ _ _
  · intro f; rw [LS5_B (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact fun b s => by
      rw [mssPiece0_at, hZ _ (by omega), unitScale_zero, hbase1 hc0]; exact (ite_self _).symm

include hT hYT hC0 hC1 hC4 hbase1 hbase htile in
theorem caseC (hc0 : ¬ k0_cond1 (grid0.coords t) = 1#1) (hc4 : ¬ k0_cond4 (grid0.coords t) = 1#1) (hc5 : ¬ k0_cond5 (grid0.coords t) = 1#1) (hc3 : k0_cond3 (grid0.coords t) (wrd c (grid0.coords t) xt0) = 1#1) :
    Tight (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 (RM (grid0.coords t) Y) (R11 (grid0.coords t) Y base) (RC (grid0.coords t) T) (RS (grid0.coords t) T) (C0 (T 0)) (C1 (T 0)) (C4 (Y 0)) (M5 (grid0.coords t) Y base) := by
  have hms := tile_scales c t _ harg3 _ harg7 _ harg8 _ harg9 arg19 x0 x4 x5 x6 xt0 T Y hT hYT
  have hb : ∀ b s, arg22.view.read (Elt Ideal) (arg22.view.writes (Elt Ideal) (harg22.unread xs5) []) (ix2 b s) = base (ix2 b s) := fun b s => by
    rw [hbase hc0, View.writes, harg22.read_unread]
  refine tightC (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 _ _ _ _ _ _ _ _ hc0 hc4 hc5 hc3 ?_ ?_ ?_ ?_ ?_ ?_ ?_ ?_
  · intro f; rw [L10_C (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rm_next (grid0.coords t) Y _ _ _ _ _ (y_at (grid0.coords t) (wrd c (grid0.coords t) xt0) T Y _ harg3 x0 _ harg7 x4 _ harg8 x5 _ harg9 x6 arg19 hT hYT) _ _ _ _ harg21 xs4 hC4
  · exact fun d h => absurd h hc5
  · intro f; rw [L12_C (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rc_next (grid0.coords t) T _ harg3 x0 hT _ _ _ harg17 xs0 hC0
  · intro f; rw [L13_C (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rs_next (grid0.coords t) T _ harg3 x0 hT _ _ _ harg18 xs1 hC1
  · intro f; rw [LS0_C (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c0_cw T _ harg3 x0 hT _ _ _
  · intro f; rw [LS1_C (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c1_sc T _ harg3 x0 hT _ _ _
  · intro f; rw [LS4_C (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c4_mw Y _ _ _ _ _ (y_at (grid0.coords t) (wrd c (grid0.coords t) xt0) T Y _ harg3 x0 _ harg7 x4 _ harg8 x5 _ harg9 x6 arg19 hT hYT) _ _ _ _
  · rw [LS5_C (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact mss_at (grid0.coords t) _ arg22 _ _ _ base Y hms hb hb

include hT hYT hC0 hC1 hC4 hbase1 hbase htile in
theorem caseD (hc0 : ¬ k0_cond1 (grid0.coords t) = 1#1) (hc4 : ¬ k0_cond4 (grid0.coords t) = 1#1) (hc5 : ¬ k0_cond5 (grid0.coords t) = 1#1) (hc3 : ¬ k0_cond3 (grid0.coords t) (wrd c (grid0.coords t) xt0) = 1#1) :
    Tight (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 (RM (grid0.coords t) Y) (R11 (grid0.coords t) Y base) (RC (grid0.coords t) T) (RS (grid0.coords t) T) (C0 (T 0)) (C1 (T 0)) (C4 (Y 0)) (M5 (grid0.coords t) Y base) := by
  have hZ := dead_rows c t x4 x5 x6 xt0 T Y hYT hc3
  have hpad := pad_scales c t x4 x5 x6 xt0 xs5 T Y base hYT hbase htile hc3 hc0
  refine tightD (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 _ _ _ _ _ _ _ _ hc0 hc4 hc5 hc3 ?_ ?_ ?_ ?_ ?_ ?_ ?_ ?_
  · intro f; rw [L10_D (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rm_pad_next (grid0.coords t) Y hZ _ _ _ harg21 xs4 hC4
  · exact fun d h => absurd h hc5
  · intro f; rw [L12_D (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rc_next (grid0.coords t) T _ harg3 x0 hT _ _ _ harg17 xs0 hC0
  · intro f; rw [L13_D (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rs_next (grid0.coords t) T _ harg3 x0 hT _ _ _ harg18 xs1 hC1
  · intro f; rw [LS0_D (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c0_cw T _ harg3 x0 hT _ _ _
  · intro f; rw [LS1_D (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c1_sc T _ harg3 x0 hT _ _ _
  · intro f; rw [LS4_D (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c4_pad Y hZ _ _ _
  · exact hpad

include hT hYT hC0 hC1 hC4 hbase1 hbase htile in
theorem caseE (hc0 : ¬ k0_cond1 (grid0.coords t) = 1#1) (hc4 : k0_cond4 (grid0.coords t) = 1#1) (hc5 : ¬ k0_cond5 (grid0.coords t) = 1#1) (hc3 : k0_cond3 (grid0.coords t) (wrd c (grid0.coords t) xt0) = 1#1) :
    Tight (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 (RM (grid0.coords t) Y) (R11 (grid0.coords t) Y base) (RC (grid0.coords t) T) (RS (grid0.coords t) T) (C0 (T 0)) (C1 (T 0)) (C4 (Y 0)) (M5 (grid0.coords t) Y base) := by
  have hms := tile_scales c t _ harg3 _ harg7 _ harg8 _ harg9 arg19 x0 x4 x5 x6 xt0 T Y hT hYT
  have hb : ∀ b s, arg22.view.read (Elt Ideal) (arg22.view.writes (Elt Ideal) (harg22.unread xs5) []) (ix2 b s) = base (ix2 b s) := fun b s => by
    rw [hbase hc0, View.writes, harg22.read_unread]
  refine tightE (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 _ _ _ _ _ _ _ _ hc0 hc4 hc5 hc3 ?_ ?_ ?_ ?_ ?_ ?_ ?_ ?_
  · intro f; rw [L10_E (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rm_next (grid0.coords t) Y _ _ _ _ _ (y_at (grid0.coords t) (wrd c (grid0.coords t) xt0) T Y _ harg3 x0 _ harg7 x4 _ harg8 x5 _ harg9 x6 arg19 hT hYT) _ _ _ _ harg21 xs4 hC4
  · exact fun d h => absurd h hc5
  · intro f; rw [L12_E (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rc_next (grid0.coords t) T _ harg3 x0 hT _ _ _ harg17 xs0 hC0
  · intro f; rw [L13_E (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rs_next (grid0.coords t) T _ harg3 x0 hT _ _ _ harg18 xs1 hC1
  · intro f; rw [LS0_E (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c0_cw T _ harg3 x0 hT _ _ _
  · intro f; rw [LS1_E (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c1_sc T _ harg3 x0 hT _ _ _
  · intro f; rw [LS4_E (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c4_mw Y _ _ _ _ _ (y_at (grid0.coords t) (wrd c (grid0.coords t) xt0) T Y _ harg3 x0 _ harg7 x4 _ harg8 x5 _ harg9 x6 arg19 hT hYT) _ _ _ _
  · rw [LS5_E (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact mss_at (grid0.coords t) _ arg22 _ _ _ base Y hms hb hb

include hT hYT hC0 hC1 hC4 hbase1 hbase htile in
theorem caseG (hc0 : ¬ k0_cond1 (grid0.coords t) = 1#1) (hc4 : k0_cond4 (grid0.coords t) = 1#1) (hc5 : ¬ k0_cond5 (grid0.coords t) = 1#1) (hc3 : ¬ k0_cond3 (grid0.coords t) (wrd c (grid0.coords t) xt0) = 1#1) :
    Tight (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 (RM (grid0.coords t) Y) (R11 (grid0.coords t) Y base) (RC (grid0.coords t) T) (RS (grid0.coords t) T) (C0 (T 0)) (C1 (T 0)) (C4 (Y 0)) (M5 (grid0.coords t) Y base) := by
  have hZ := dead_rows c t x4 x5 x6 xt0 T Y hYT hc3
  have hpad := pad_scales c t x4 x5 x6 xt0 xs5 T Y base hYT hbase htile hc3 hc0
  refine tightG (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 _ _ _ _ _ _ _ _ hc0 hc4 hc5 hc3 ?_ ?_ ?_ ?_ ?_ ?_ ?_ ?_
  · intro f; rw [L10_G (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rm_pad_next (grid0.coords t) Y hZ _ _ _ harg21 xs4 hC4
  · exact fun d h => absurd h hc5
  · intro f; rw [L12_G (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rc_next (grid0.coords t) T _ harg3 x0 hT _ _ _ harg17 xs0 hC0
  · intro f; rw [L13_G (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rs_next (grid0.coords t) T _ harg3 x0 hT _ _ _ harg18 xs1 hC1
  · intro f; rw [LS0_G (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c0_cw T _ harg3 x0 hT _ _ _
  · intro f; rw [LS1_G (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c1_sc T _ harg3 x0 hT _ _ _
  · intro f; rw [LS4_G (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c4_pad Y hZ _ _ _
  · exact hpad

include hT hYT hC0 hC1 hC4 hbase1 hbase htile in
theorem caseH (hc0 : ¬ k0_cond1 (grid0.coords t) = 1#1) (hc4 : k0_cond4 (grid0.coords t) = 1#1) (hc5 : k0_cond5 (grid0.coords t) = 1#1) (hc3 : k0_cond3 (grid0.coords t) (wrd c (grid0.coords t) xt0) = 1#1) :
    Tight (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 (RM (grid0.coords t) Y) (R11 (grid0.coords t) Y base) (RC (grid0.coords t) T) (RS (grid0.coords t) T) (C0 (T 0)) (C1 (T 0)) (C4 (Y 0)) (M5 (grid0.coords t) Y base) := by
  have hms := tile_scales c t _ harg3 _ harg7 _ harg8 _ harg9 arg19 x0 x4 x5 x6 xt0 T Y hT hYT
  have hb : ∀ b s, arg22.view.read (Elt Ideal) (arg22.view.writes (Elt Ideal) (harg22.unread xs5) []) (ix2 b s) = base (ix2 b s) := fun b s => by
    rw [hbase hc0, View.writes, harg22.read_unread]
  refine tightH (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 _ _ _ _ _ _ _ _ hc0 hc4 hc5 hc3 ?_ ?_ ?_ ?_ ?_ ?_ ?_ ?_
  · intro f; rw [L10_H (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rm_next (grid0.coords t) Y _ _ _ _ _ (y_at (grid0.coords t) (wrd c (grid0.coords t) xt0) T Y _ harg3 x0 _ harg7 x4 _ harg8 x5 _ harg9 x6 arg19 hT hYT) _ _ _ _ harg21 xs4 hC4
  · intro f; rw [L11_H (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact r11_of (grid0.coords t) Y base _ _ arg22 _ (mss_at (grid0.coords t) _ arg22 _ _ _ base Y hms hb hb)
  · intro f; rw [L12_H (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rc_next (grid0.coords t) T _ harg3 x0 hT _ _ _ harg17 xs0 hC0
  · intro f; rw [L13_H (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rs_next (grid0.coords t) T _ harg3 x0 hT _ _ _ harg18 xs1 hC1
  · intro f; rw [LS0_H (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c0_cw T _ harg3 x0 hT _ _ _
  · intro f; rw [LS1_H (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c1_sc T _ harg3 x0 hT _ _ _
  · intro f; rw [LS4_H (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c4_mw Y _ _ _ _ _ (y_at (grid0.coords t) (wrd c (grid0.coords t) xt0) T Y _ harg3 x0 _ harg7 x4 _ harg8 x5 _ harg9 x6 arg19 hT hYT) _ _ _ _
  · rw [LS5_H (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact mss_at (grid0.coords t) _ arg22 _ _ _ base Y hms hb hb

include hT hYT hC0 hC1 hC4 hbase1 hbase htile in
theorem caseI (hc0 : ¬ k0_cond1 (grid0.coords t) = 1#1) (hc4 : k0_cond4 (grid0.coords t) = 1#1) (hc5 : k0_cond5 (grid0.coords t) = 1#1) (hc3 : ¬ k0_cond3 (grid0.coords t) (wrd c (grid0.coords t) xt0) = 1#1) :
    Tight (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 (RM (grid0.coords t) Y) (R11 (grid0.coords t) Y base) (RC (grid0.coords t) T) (RS (grid0.coords t) T) (C0 (T 0)) (C1 (T 0)) (C4 (Y 0)) (M5 (grid0.coords t) Y base) := by
  have hZ := dead_rows c t x4 x5 x6 xt0 T Y hYT hc3
  have hpad := pad_scales c t x4 x5 x6 xt0 xs5 T Y base hYT hbase htile hc3 hc0
  refine tightI (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 _ _ _ _ _ _ _ _ hc0 hc4 hc5 hc3 ?_ ?_ ?_ ?_ ?_ ?_ ?_ ?_
  · intro f; rw [L10_I (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rm_pad_next (grid0.coords t) Y hZ _ _ _ harg21 xs4 hC4
  · intro f; rw [L11_I (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact r11_of (grid0.coords t) Y base _ _ arg22 _ (by rw [harg22.read_unread]; exact hpad)
  · intro f; rw [L12_I (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rc_next (grid0.coords t) T _ harg3 x0 hT _ _ _ harg17 xs0 hC0
  · intro f; rw [L13_I (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact rs_next (grid0.coords t) T _ harg3 x0 hT _ _ _ harg18 xs1 hC1
  · intro f; rw [LS0_I (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c0_cw T _ harg3 x0 hT _ _ _
  · intro f; rw [LS1_I (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c1_sc T _ harg3 x0 hT _ _ _
  · intro f; rw [LS4_I (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 hc0 hc4 hc5 hc3]; exact c4_pad Y hZ _ _ _
  · exact hpad

include hT hYT hC0 hC1 hC4 hbase1 hbase htile in
/-- The body at any point. -/
theorem tight_at :
    Tight (F := Ideal) c (grid0.coords t) _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 (RM (grid0.coords t) Y) (R11 (grid0.coords t) Y base) (RC (grid0.coords t) T) (RS (grid0.coords t) T) (C0 (T 0)) (C1 (T 0)) (C4 (Y 0)) (M5 (grid0.coords t) Y base) := by
  by_cases h3 : k0_cond3 (grid0.coords t) (wrd c (grid0.coords t) xt0) = 1#1 <;> by_cases h0 : k0_cond1 (grid0.coords t) = 1#1
  · exact caseA c t _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 T Y base hT hYT hC0 hC1 hC4 hbase1 hbase htile h0 (first_only t h0).1 (first_only t h0).2 h3
  · by_cases h4 : k0_cond4 (grid0.coords t) = 1#1
    · by_cases h5 : k0_cond5 (grid0.coords t) = 1#1
      · exact caseH c t _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 T Y base hT hYT hC0 hC1 hC4 hbase1 hbase htile h0 h4 h5 h3
      · exact caseE c t _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 T Y base hT hYT hC0 hC1 hC4 hbase1 hbase htile h0 h4 h5 h3
    · exact caseC c t _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 T Y base hT hYT hC0 hC1 hC4 hbase1 hbase htile h0 h4 (fun h => h4 (last_cls t h)) h3
  · exact caseB c t _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 T Y base hT hYT hC0 hC1 hC4 hbase1 hbase htile h0 (first_only t h0).1 (first_only t h0).2 h3
  · by_cases h4 : k0_cond4 (grid0.coords t) = 1#1
    · by_cases h5 : k0_cond5 (grid0.coords t) = 1#1
      · exact caseI c t _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 T Y base hT hYT hC0 hC1 hC4 hbase1 hbase htile h0 h4 h5 h3
      · exact caseG c t _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 T Y base hT hYT hC0 hC1 hC4 hbase1 hbase htile h0 h4 h5 h3
    · exact caseD c t _ harg3 _ harg4 _ harg5 _ harg6 _ harg7 _ harg8 _ harg9 _ harg10 _ harg11 _ harg12 _ harg13 _ harg14 _ harg15 _ harg16 _ harg17 _ harg18 _ harg19 _ harg20 _ harg21 _ harg22 x0 x1 x2 x3 x4 x5 x6 xt0 xo7 xo8 xo9 xs0 xs1 xs4 xs5 T Y base hT hYT hC0 hC1 hC4 hbase1 hbase htile h0 h4 (fun h => h4 (last_cls t h)) h3

end Cert.KernelIdeal.Hand

end
-- ==== Proof.Inputs.lean ====
/- What the windows' blocks of the arguments hold, element by element. -/
module

public import proofs.«01_k».proof.Proof.Cases

@[expose] public section

set_option maxRecDepth 16384

noncomputable section

namespace Cert.KernelIdeal.Hand

open Cert.KernelIdeal.Gen
open Idealize.ShloMosaic Idealize.ShloMosaic.TcCoe

variable (m : (ℓ : Loc nD τ sig) → Buf (Elt Ideal) ℓ)

/-- The tokens' vectors, the weights, their scales and the bias, as the grid finds them. -/
def X0 (c : Dev nD) : Vec Ideal S6x4096x3584 .bf16 := V m c (Pipeline.arrRef spec0 0)
def X4 (c : Dev nD) : Vec Ideal S3584x3072 .fp8e4m3 := V m c (Pipeline.arrRef spec0 4)
def X5 (c : Dev nD) : Vec Ideal S1x3072 .f32 := V m c (Pipeline.arrRef spec0 5)
def X6 (c : Dev nD) : Vec Ideal S1x3072 .f32 := V m c (Pipeline.arrRef spec0 6)

theorem t_lt (t : Fin grid0.N) : t.val < 96 := t.isLt

theorem coord0 (t : Fin grid0.N) : (grid0.coords t 0).val = t.val / 16 := by revert t; decide +kernel
theorem coord1 (t : Fin grid0.N) : (grid0.coords t 1).val = t.val % 16 := by revert t; decide +kernel

theorem tr0 (t : Fin grid0.N) : cc0_transform_0 (grid0.coords t) 0 = t.val / 16 ∧ cc0_transform_0 (grid0.coords t) 1 = 15 - t.val % 16 ∧ cc0_transform_0 (grid0.coords t) 2 = 0 := by
  revert t; decide +kernel
theorem tr10 (t : Fin grid0.N) : cc0_transform_10 (grid0.coords t) 0 = t.val / 16 ∧ cc0_transform_10 (grid0.coords t) 1 = 15 - t.val % 16 ∧ cc0_transform_10 (grid0.coords t) 2 = 0 := by
  revert t; decide +kernel
theorem tr12 (t : Fin grid0.N) : cc0_transform_12 (grid0.coords t) 0 = t.val / 16 ∧ cc0_transform_12 (grid0.coords t) 1 = 15 - t.val % 16 ∧ cc0_transform_12 (grid0.coords t) 2 = 0 := by
  revert t; decide +kernel
theorem tr13 (t : Fin grid0.N) : cc0_transform_13 (grid0.coords t) 0 = t.val / 16 ∧ cc0_transform_13 (grid0.coords t) 1 = 15 - t.val % 16 ∧ cc0_transform_13 (grid0.coords t) 2 = 0 := by
  revert t; decide +kernel

theorem iblk0_at (hO : Ok m) (c : Dev nD) (t : Fin (cfgM m hO).N) (r : Fin 256) (d : Fin 3584) :
    (iblk m hO c 0 t : Vec Ideal S1x256x3584 .bf16) (ix3 0 r d) = X0 m c (ix3 (⟨t.val / 16, by have := t_lt t; omega⟩ : Fin 6) (⟨256 * (15 - t.val % 16) + r.val, by omega⟩ : Fin 4096) d) := by
  have hi := tr0 t
  unfold iblk X0
  refine (View.read_apply ..).trans ?_
  show V m c (Pipeline.arrRef spec0 0) _ = V m c (Pipeline.arrRef spec0 0) _
  congr 1
  funext a
  apply Fin.ext
  match a with
  | ⟨0, _⟩ => show cc0_transform_0 (grid0.coords t) 0 * 1 + 1 * 0 = t.val / 16; rw [hi.1]; omega
  | ⟨1, _⟩ => show cc0_transform_0 (grid0.coords t) 1 * 256 + 1 * r.val = 256 * (15 - t.val % 16) + r.val; rw [hi.2.1]; omega
  | ⟨2, _⟩ => show cc0_transform_0 (grid0.coords t) 2 * 3584 + 1 * d.val = d.val; rw [hi.2.2]; omega

theorem iblk4_at (hO : Ok m) (c : Dev nD) (t : Fin (cfgM m hO).N) (k : Fin 3584) (d : Fin 3072) :
    (iblk m hO c 4 t : Vec Ideal S3584x3072 .fp8e4m3) (ix2 k d) = X4 m c (ix2 k d) := by
  unfold iblk X4
  refine (View.read_apply ..).trans ?_
  show V m c (Pipeline.arrRef spec0 4) _ = V m c (Pipeline.arrRef spec0 4) _
  congr 1
  funext a
  apply Fin.ext
  match a with
  | ⟨0, _⟩ => show 0 * 3584 + 1 * k.val = k.val; omega
  | ⟨1, _⟩ => show 0 * 3072 + 1 * d.val = d.val; omega

theorem iblk5_at (hO : Ok m) (c : Dev nD) (t : Fin (cfgM m hO).N) (d : Fin 3072) :
    (iblk m hO c 5 t : Vec Ideal S1x3072 .f32) (ix2 0 d) = X5 m c (ix2 0 d) := by
  unfold iblk X5
  refine (View.read_apply ..).trans ?_
  show V m c (Pipeline.arrRef spec0 5) _ = V m c (Pipeline.arrRef spec0 5) _
  congr 1
  funext a
  apply Fin.ext
  match a with
  | ⟨0, _⟩ => show 0 * 1 + 1 * 0 = 0; omega
  | ⟨1, _⟩ => show 0 * 3072 + 1 * d.val = d.val; omega

theorem iblk6_at (hO : Ok m) (c : Dev nD) (t : Fin (cfgM m hO).N) (d : Fin 3072) :
    (iblk m hO c 6 t : Vec Ideal S1x3072 .f32) (ix2 0 d) = X6 m c (ix2 0 d) := by
  unfold iblk X6
  refine (View.read_apply ..).trans ?_
  show V m c (Pipeline.arrRef spec0 6) _ = V m c (Pipeline.arrRef spec0 6) _
  congr 1
  funext a
  apply Fin.ext
  match a with
  | ⟨0, _⟩ => show 0 * 1 + 1 * 0 = 0; omega
  | ⟨1, _⟩ => show 0 * 3072 + 1 * d.val = d.val; omega

/-- The length of a row of tokens. -/
def len (c : Dev nD) (b : ℕ) : BitVec 32 := if h : b < 6 then (tbl m 0 : Vec Ideal S6 .i32) (ix1 (⟨b, h⟩ : Fin 6)) else 0#32

theorem off1 (t : Fin grid0.N) : k0_off1 (grid0.coords t) 0 = t.val / 16 := by revert t; decide +kernel

theorem wrd_at (c : Dev nD) (t : Fin grid0.N) : wrd (F := Ideal) c (grid0.coords t) (tbl m 0) = len m c (t.val / 16) := by
  have e := off1 t
  unfold wrd len
  have h : t.val / 16 < 6 := by have := t_lt t; omega
  refine (View.readAt_apply ..).trans (Eq.trans ?_ (dif_pos h).symm)
  show (tbl m 0 : Vec Ideal S6 .i32) _ = (tbl m 0 : Vec Ideal S6 .i32) _
  congr 1
  funext a
  apply Fin.ext
  match a with
  | ⟨0, _⟩ => show k0_off1 (grid0.coords t) 0 + 1 * 0 = t.val / 16; omega

/-- Token `s` of row `b`, -/
def tok (c : Dev nD) (b s : ℕ) : Fin 3584 → EReal := fun d => if h : b < 6 ∧ s < 4096 then X0 m c (ix3 ⟨b, h.1⟩ ⟨s, h.2⟩ d) else 0
/-- and its vector before it is scaled to length one. -/
def yv (c : Dev nD) (b s : ℕ) : Fin 3072 → EReal := yRow (tok m c b s) (len m c b) s (X4 m c) (X5 m c) (X6 m c)

theorem trow_tok (hO : Ok m) (c : Dev nD) (t : Fin (cfgM m hO).N) (r : Fin 256) : trow (iblk m hO c 0 t : Vec Ideal S1x256x3584 .bf16) r = tok m c (t.val / 16) (256 * (15 - t.val % 16) + r.val) := by
  funext d
  unfold trow tok
  rw [dif_pos ⟨by have := t_lt t; omega, by omega⟩]
  exact iblk0_at m hO c t r d

theorem y_tok (hO : Ok m) (c : Dev nD) (t : Fin (cfgM m hO).N) (n : ℕ) :
    yv m c (t.val / 16) (256 * (15 - t.val % 16) + n) = yRow (tok m c (t.val / 16) (256 * (15 - t.val % 16) + n)) (wrd (F := Ideal) c (grid0.coords t) (tbl m 0)) (256 * tn (grid0.coords t) + n)
      (iblk m hO c 4 t) (iblk m hO c 5 t) (iblk m hO c 6 t) := by
  rw [wrd_at]
  have : tn (grid0.coords t) = 15 - t.val % 16 := by unfold tn; rw [coord1]
  rw [this]
  unfold yv yRow
  congr 1
  · funext k d; exact (iblk4_at m hO c t k d).symm
  · funext d; exact (iblk5_at m hO c t d).symm
  · funext d; exact (iblk6_at m hO c t d).symm

end Cert.KernelIdeal.Hand

end
-- ==== Proof.Carry.lean ====
/- What one grid point hands the next: the first rows of its tile, and the scales written so far. -/
module

public import proofs.«01_k».proof.Proof.Inputs

@[expose] public section

set_option maxRecDepth 16384

noncomputable section

namespace Cert.KernelIdeal.Hand

open Cert.KernelIdeal.Gen
open Idealize.ShloMosaic Idealize.ShloMosaic.TcCoe

variable (m : (ℓ : Loc nD τ sig) → Buf (Elt Ideal) ℓ)

/-- The scale of every token whose tile comes before point `t`, and one elsewhere. -/
def ubase (c : Dev nD) (t : ℕ) : Vec Ideal S6x4096 .f32 := fun j =>
  if 16 * (j 0).val + (15 - (j 1).val / 256) < t then Spec.unitScale (yv m c (j 0).val (j 1).val) else 1

/-- The tokens of the tile at point `t`, and their vectors. -/
def Tt (c : Dev nD) (t n : ℕ) : Fin 3584 → EReal := tok m c (t / 16) (256 * (15 - t % 16) + n)
def Yt (c : Dev nD) (t n : ℕ) : Fin 3072 → EReal := yv m c (t / 16) (256 * (15 - t % 16) + n)

/-- What the kept buffers hold before point `t`. -/
def Inv (c : Dev nD) (t : ℕ) (xs0 : Vec Ideal S288x3584 .fp8e4m3) (xs1 : Vec Ideal S264x128 .f32) (xs4 : Vec Ideal S288x3072 .fp8e4m3)
    (xs5 : Vec Ideal S6x4096 .f32) : Prop :=
  (t % 16 ≠ 0 → C0 (Tt m c t 256) xs0 ∧ C1 (Tt m c t 256) xs1 ∧ C4 (Yt m c t 256) xs4) ∧ (t ≠ 0 → xs5 = ubase m c t)

theorem inv_zero (c : Dev nD) (xs0 xs1 xs4 xs5) : Inv m c 0 xs0 xs1 xs4 xs5 := ⟨fun h => absurd rfl h, fun h => absurd rfl h⟩

theorem Tt_next (c : Dev nD) (t : ℕ) (h : (t + 1) % 16 ≠ 0) : Tt m c (t + 1) 256 = Tt m c t 0 := by
  have e1 : (t + 1) / 16 = t / 16 := by omega
  have e2 : 256 * (15 - (t + 1) % 16) + 256 = 256 * (15 - t % 16) + 0 := by omega
  unfold Tt; rw [e1, e2]

theorem Yt_next (c : Dev nD) (t : ℕ) (h : (t + 1) % 16 ≠ 0) : Yt m c (t + 1) 256 = Yt m c t 0 := by
  have e1 : (t + 1) / 16 = t / 16 := by omega
  have e2 : 256 * (15 - (t + 1) % 16) + 256 = 256 * (15 - t % 16) + 0 := by omega
  unfold Yt; rw [e1, e2]

theorem inv_succ (c : Dev nD) (t : Fin grid0.N) (xs0 xs1 xs4 xs5) (h0 : C0 (Tt m c t.val 0) xs0) (h1 : C1 (Tt m c t.val 0) xs1)
    (h4 : C4 (Yt m c t.val 0) xs4) (h5 : M5 (grid0.coords t) (Yt m c t.val) (ubase m c t.val) xs5) : Inv m c (t.val + 1) xs0 xs1 xs4 xs5 := by
  refine ⟨fun h => ?_, fun _ => ?_⟩
  · rw [Tt_next m c _ h, Yt_next m c _ h]; exact ⟨h0, h1, h4⟩
  · funext j
    obtain ⟨b, s, rfl⟩ : ∃ (b : Fin 6) (s : Fin 4096), j = ix2 b s := ⟨j 0, j 1, by funext a; match a with | ⟨0, _⟩ => rfl | ⟨1, _⟩ => rfl⟩
    have e : tn (grid0.coords t) = 15 - t.val % 16 := by unfold tn; rw [coord1]
    rw [h5 b s, coord0, e]
    show (if _ then _ else (if 16 * b.val + (15 - s.val / 256) < t.val then Spec.unitScale (yv m c b.val s.val) else 1)) = (if 16 * b.val + (15 - s.val / 256) < t.val + 1 then Spec.unitScale (yv m c b.val s.val) else 1)
    have := t_lt t
    by_cases hc : b.val = t.val / 16 ∧ s.val / 256 = 15 - t.val % 16
    · rw [if_pos hc, if_pos (by omega)]
      unfold Yt
      rw [show t.val / 16 = b.val by omega, show 256 * (15 - t.val % 16) + s.val % 256 = s.val by omega]
    · rw [if_neg hc]
      by_cases hl : 16 * b.val + (15 - s.val / 256) < t.val
      · rw [if_pos hl, if_pos (by omega)]
      · rw [if_neg hl, if_neg (by omega)]

theorem cond1_zero (t : Fin grid0.N) : k0_cond1 (grid0.coords t) = 1#1 ↔ t.val = 0 := by revert t; decide +kernel

/-- The body at point `t`, from what the point before left. -/
theorem point_at (hO : Ok m) (c : Dev nD) (t : Fin (cfgM m hO).N) (x7 x8 x9 xs0 xs1 xs4 xs5) (hI : Inv m c t.val xs0 xs1 xs4 xs5) :
    Tight (F := Ideal) c (grid0.coords t) (ms0_0 m hO t) (hs0_0 m hO t) (ms0_1 m hO t) (hs0_1 m hO t) (ms0_2 m hO t) (hs0_2 m hO t) (ms0_3 m hO t) (hs0_3 m hO t)
      (ms0_4 m hO t) (hs0_4 m hO t) (ms0_5 m hO t) (hs0_5 m hO t) (ms0_6 m hO t) (hs0_6 m hO t) (ms0_7 m hO t) (hs0_7 m hO t) (ms0_8 m hO t) (hs0_8 m hO t)
      (ms0_9 m hO t) (hs0_9 m hO t) (ms0_10 m hO t) (hs0_10 m hO t) (ms0_11 m hO t) (hs0_11 m hO t) (ms0_12 m hO t) (hs0_12 m hO t) (ms0_13 m hO t) (hs0_13 m hO t)
      scM0_0 (Memref.isWhole_whole _) scM0_1 (Memref.isWhole_whole _) scM0_2 (Memref.isWhole_whole _) scM0_3 (Memref.isWhole_whole _) scM0_4 (Memref.isWhole_whole _) scM0_5 (Memref.isWhole_whole _)
      (iblk m hO c 0 t) (iblk m hO c 1 t) (iblk m hO c 2 t) (iblk m hO c 3 t) (iblk m hO c 4 t) (iblk m hO c 5 t) (iblk m hO c 6 t) (tbl m 0) x7 x8 x9 xs0 xs1 xs4 xs5
      (RM (grid0.coords t) (Yt m c t.val)) (R11 (grid0.coords t) (Yt m c t.val) (ubase m c t.val)) (RC (grid0.coords t) (Tt m c t.val)) (RS (grid0.coords t) (Tt m c t.val))
      (C0 (Tt m c t.val 0)) (C1 (Tt m c t.val 0)) (C4 (Yt m c t.val 0)) (M5 (grid0.coords t) (Yt m c t.val) (ubase m c t.val)) := by
  have e : tn (grid0.coords t) = 15 - t.val % 16 := by unfold tn; rw [coord1]
  have := t_lt t
  refine tight_at c t _ _ _ _ _ _ _ _ _ _ _ _ _ _ _ _ _ _ _ _ _ _ _ _ _ _ _ _ _ _ _ _ _ _ _ _ _ _ _ _ _ _ _ _ _ _ _ _ _ _ _ _ _ _ _ (Tt m c t.val) (Yt m c t.val) (ubase m c t.val) ?_ ?_ ?_ ?_ ?_ ?_ ?_ ?_
  · exact fun r => trow_tok m hO c t r
  · exact fun n => y_tok m hO c t n
  · intro h; rw [coord1] at h; exact (hI.1 h).1
  · intro h; rw [coord1] at h; exact (hI.1 h).2.1
  · intro h; rw [coord1] at h; exact (hI.1 h).2.2
  · intro h b s
    have h0 := (cond1_zero t).mp h
    rw [h0]
    exact if_neg (Nat.not_lt_zero _)
  · intro h
    exact (hI.2 fun h0 => h ((cond1_zero t).mpr h0)).symm
  · intro b s hb hs
    rw [coord0] at hb; rw [e] at hs
    exact if_neg (show ¬ (16 * b.val + (15 - s.val / 256) < t.val) by omega)

end Cert.KernelIdeal.Hand

end
-- ==== Proof.Launch.lean ====
/- The launch of `Cert.KernelIdeal`: what the body leaves in each window's buffer, the invariant between points, and the run. -/
module

public import proofs.«01_k».proof.Proof.Carry
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Ideal) ℕ (UR sig nD τ) ℕ

variable (m : (ℓ : Loc nD τ sig) → Buf (Elt Ideal) ℓ) (ρ : Dev nD → PrngReg)

/-- The invariant before point `t`: the kept buffers at contents that `Inv` describes, the other two at any, and the lengths. -/
def PhiV (c : Dev nD) (t : ℕ) : sProp 𝕄 :=
  iprop(((∃ xs0 xs1 xs4 xs5, ⌜Inv m c t xs0 xs1 xs4 xs5⌝ ∗ owns (c : Thread nD τ) scM0_0 fullShare xs0 ∗ owns (c : Thread nD τ) scM0_1 fullShare xs1
    ∗ (∃ d, owns (c : Thread nD τ) scM0_2 fullShare d) ∗ (∃ d, owns (c : Thread nD τ) scM0_3 fullShare d)
    ∗ owns (c : Thread nD τ) scM0_4 fullShare xs4 ∗ owns (c : Thread nD τ) scM0_5 fullShare xs5) ∗ (∃ r, prngReg c r)) ∗ tbPt0 c tbM0_0 (tbl m 0))

/-- The proof data: the arrays as the region finds them, each input's buffer at its block, the outputs described below. -/
def datsV (hO : Ok m) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
    | ⟨12, h⟩ => Pipeline.Dat.unnamed (cfg := (cfgM m hO)) ⟨12, h⟩ t
    | ⟨13, h⟩ => Pipeline.Dat.unnamed (cfg := (cfgM m hO)) ⟨13, h⟩ t
  Φ t := PhiV m c t.val
  q _ := fullShare
  owed _ := 0

/-- What the body leaves in the outputs' buffers at point `t`: nothing is said of the first three. -/
def ovr (hO : Ok m) (c : Dev nD) : (w : Fin (cfgM m hO).W) → Option (Fin (cfgM m hO).N → (Y X : ((cfgM m hO).win w).block.Idx → Elt Ideal ((cfgM m hO).win w).elt) → Prop) := fun w => match w with
    | ⟨0, _⟩ => none
    | ⟨1, _⟩ => none
    | ⟨2, _⟩ => none
    | ⟨3, _⟩ => none
    | ⟨4, _⟩ => none
    | ⟨5, _⟩ => none
    | ⟨6, _⟩ => none
    | ⟨7, _⟩ => some fun _ _ _ => True
    | ⟨8, _⟩ => some fun _ _ _ => True
    | ⟨9, _⟩ => some fun _ _ _ => True
    | ⟨10, _⟩ => some fun t _ X => RM (grid0.coords t) (Yt m c t.val) X
    | ⟨11, _⟩ => some fun t _ X => R11 (grid0.coords t) (Yt m c t.val) (ubase m c t.val) X
    | ⟨12, _⟩ => some fun t _ X => RC (grid0.coords t) (Tt m c t.val) X
    | ⟨13, _⟩ => some fun t _ X => RS (grid0.coords t) (Tt m c t.val) X

/-- The relational proof data. -/
def rdV (hO : Ok m) (c : Dev nD) : RDat τ (Elt Ideal) Unit ℕ (UR sig nD τ) ℕ (cfgM m hO) c := (datsV m hO c).toR.override (ovr m hO c)

theorem A_eqV (hO : Ok m) (c : Dev nD) (w : Fin (cfgM m hO).W) : (rdV m hO c).A w = V m c (Pipeline.arrRef spec0 w) := by
  dsimp only [rdV, datsV, RDat.override_A, Dat.toR_A]

theorem afterV_0 (hO : Ok m) (c : Dev nD) (t : Fin (cfgM m hO).N) : (datsV m hO c).after 0 t = iblk m hO c 0 t := by dsimp only [datsV]; try rfl
theorem findsV_0 (hO : Ok m) (c : Dev nD) (t : Fin (cfgM m hO).N) (X) (h : (rdV m hO c).Finds 0 t X) : X = iblk m hO c 0 t := by
  obtain ⟨d, e⟩ := (datsV m hO c).toR_finds 0 t X (((datsV m hO c).toR.override_finds (ovr := ovr m hO c) (w := 0) rfl t X).mp h)
  exact e.trans (before0_0_of m hO (datsV m hO c) rfl (afterV_0 m hO c) t d)
theorem leavesV_0 (hO : Ok m) (c : Dev nD) (t : Fin (cfgM m hO).N) (Y) : (rdV m hO c).after 0 t Y (iblk m hO c 0 t) := by
  show (datsV m hO c).Leaves 0 t (iblk m hO c 0 t)
  unfold Dat.Leaves
  rw [liveAt0_0 m hO t]
  exact (afterV_0 m hO c t).symm
theorem afterV_1 (hO : Ok m) (c : Dev nD) (t : Fin (cfgM m hO).N) : (datsV m hO c).after 1 t = iblk m hO c 1 t := by dsimp only [datsV]; try rfl
theorem findsV_1 (hO : Ok m) (c : Dev nD) (t : Fin (cfgM m hO).N) (X) (h : (rdV m hO c).Finds 1 t X) : X = iblk m hO c 1 t := by
  obtain ⟨d, e⟩ := (datsV m hO c).toR_finds 1 t X (((datsV m hO c).toR.override_finds (ovr := ovr m hO c) (w := 1) rfl t X).mp h)
  exact e.trans (before0_1_of m hO (datsV m hO c) rfl (afterV_1 m hO c) t d)
theorem leavesV_1 (hO : Ok m) (c : Dev nD) (t : Fin (cfgM m hO).N) (Y) : (rdV m hO c).after 1 t Y (iblk m hO c 1 t) := by
  show (datsV m hO c).Leaves 1 t (iblk m hO c 1 t)
  unfold Dat.Leaves
  rw [liveAt0_1 m hO t]
  exact (afterV_1 m hO c t).symm
theorem afterV_2 (hO : Ok m) (c : Dev nD) (t : Fin (cfgM m hO).N) : (datsV m hO c).after 2 t = iblk m hO c 2 t := by dsimp only [datsV]; try rfl
theorem findsV_2 (hO : Ok m) (c : Dev nD) (t : Fin (cfgM m hO).N) (X) (h : (rdV m hO c).Finds 2 t X) : X = iblk m hO c 2 t := by
  obtain ⟨d, e⟩ := (datsV m hO c).toR_finds 2 t X (((datsV m hO c).toR.override_finds (ovr := ovr m hO c) (w := 2) rfl t X).mp h)
  exact e.trans (before0_2_of m hO (datsV m hO c) rfl (afterV_2 m hO c) t d)
theorem leavesV_2 (hO : Ok m) (c : Dev nD) (t : Fin (cfgM m hO).N) (Y) : (rdV m hO c).after 2 t Y (iblk m hO c 2 t) := by
  show (datsV m hO c).Leaves 2 t (iblk m hO c 2 t)
  unfold Dat.Leaves
  rw [liveAt0_2 m hO t]
  exact (afterV_2 m hO c t).symm
theorem afterV_3 (hO : Ok m) (c : Dev nD) (t : Fin (cfgM m hO).N) : (datsV m hO c).after 3 t = iblk m hO c 3 t := by dsimp only [datsV]; try rfl
theorem findsV_3 (hO : Ok m) (c : Dev nD) (t : Fin (cfgM m hO).N) (X) (h : (rdV m hO c).Finds 3 t X) : X = iblk m hO c 3 t := by
  obtain ⟨d, e⟩ := (datsV m hO c).toR_finds 3 t X (((datsV m hO c).toR.override_finds (ovr := ovr m hO c) (w := 3) rfl t X).mp h)
  exact e.trans (before0_3_of m hO (datsV m hO c) rfl (afterV_3 m hO c) t d)
theorem leavesV_3 (hO : Ok m) (c : Dev nD) (t : Fin (cfgM m hO).N) (Y) : (rdV m hO c).after 3 t Y (iblk m hO c 3 t) := by
  show (datsV m hO c).Leaves 3 t (iblk m hO c 3 t)
  unfold Dat.Leaves
  rw [liveAt0_3 m hO t]
  exact (afterV_3 m hO c t).symm
theorem afterV_4 (hO : Ok m) (c : Dev nD) (t : Fin (cfgM m hO).N) : (datsV m hO c).after 4 t = iblk m hO c 4 t := by dsimp only [datsV]; try rfl
theorem findsV_4 (hO : Ok m) (c : Dev nD) (t : Fin (cfgM m hO).N) (X) (h : (rdV m hO c).Finds 4 t X) : X = iblk m hO c 4 t := by
  obtain ⟨d, e⟩ := (datsV m hO c).toR_finds 4 t X (((datsV m hO c).toR.override_finds (ovr := ovr m hO c) (w := 4) rfl t X).mp h)
  exact e.trans (before0_4_of m hO (datsV m hO c) rfl (afterV_4 m hO c) t d)
theorem leavesV_4 (hO : Ok m) (c : Dev nD) (t : Fin (cfgM m hO).N) (Y) : (rdV m hO c).after 4 t Y (iblk m hO c 4 t) := by
  show (datsV m hO c).Leaves 4 t (iblk m hO c 4 t)
  unfold Dat.Leaves
  rw [liveAt0_4 m hO t]
  exact (afterV_4 m hO c t).symm
theorem afterV_5 (hO : Ok m) (c : Dev nD) (t : Fin (cfgM m hO).N) : (datsV m hO c).after 5 t = iblk m hO c 5 t := by dsimp only [datsV]; try rfl
theorem findsV_5 (hO : Ok m) (c : Dev nD) (t : Fin (cfgM m hO).N) (X) (h : (rdV m hO c).Finds 5 t X) : X = iblk m hO c 5 t := by
  obtain ⟨d, e⟩ := (datsV m hO c).toR_finds 5 t X (((datsV m hO c).toR.override_finds (ovr := ovr m hO c) (w := 5) rfl t X).mp h)
  exact e.trans (before0_5_of m hO (datsV m hO c) rfl (afterV_5 m hO c) t d)
theorem leavesV_5 (hO : Ok m) (c : Dev nD) (t : Fin (cfgM m hO).N) (Y) : (rdV m hO c).after 5 t Y (iblk m hO c 5 t) := by
  show (datsV m hO c).Leaves 5 t (iblk m hO c 5 t)
  unfold Dat.Leaves
  rw [liveAt0_5 m hO t]
  exact (afterV_5 m hO c t).symm
theorem afterV_6 (hO : Ok m) (c : Dev nD) (t : Fin (cfgM m hO).N) : (datsV m hO c).after 6 t = iblk m hO c 6 t := by dsimp only [datsV]; try rfl
theorem findsV_6 (hO : Ok m) (c : Dev nD) (t : Fin (cfgM m hO).N) (X) (h : (rdV m hO c).Finds 6 t X) : X = iblk m hO c 6 t := by
  obtain ⟨d, e⟩ := (datsV m hO c).toR_finds 6 t X (((datsV m hO c).toR.override_finds (ovr := ovr m hO c) (w := 6) rfl t X).mp h)
  exact e.trans (before0_6_of m hO (datsV m hO c) rfl (afterV_6 m hO c) t d)
theorem leavesV_6 (hO : Ok m) (c : Dev nD) (t : Fin (cfgM m hO).N) (Y) : (rdV m hO c).after 6 t Y (iblk m hO c 6 t) := by
  show (datsV m hO c).Leaves 6 t (iblk m hO c 6 t)
  unfold Dat.Leaves
  rw [liveAt0_6 m hO t]
  exact (afterV_6 m hO c t).symm

/-- What the body is called with at point `t`, -/
def preV (hO : Ok m) (c : Dev nD) (t : Fin (cfgM m hO).N) (Y : (w : Fin (cfgM m hO).W) → ((cfgM m hO).win w).block.Idx → Elt Ideal ((cfgM m hO).win w).elt) : sProp 𝕄 :=
  iprop((rdV m hO c).Φ t.castSucc ∗ (rdV m hO c).owesAt () t.castSucc
    ∗ owns (c : Thread nD τ) (ms0_0 m hO t) fullShare (Y 0)
    ∗ owns (c : Thread nD τ) (ms0_1 m hO t) fullShare (Y 1)
    ∗ owns (c : Thread nD τ) (ms0_2 m hO t) fullShare (Y 2)
    ∗ owns (c : Thread nD τ) (ms0_3 m hO t) fullShare (Y 3)
    ∗ owns (c : Thread nD τ) (ms0_4 m hO t) fullShare (Y 4)
    ∗ owns (c : Thread nD τ) (ms0_5 m hO t) fullShare (Y 5)
    ∗ owns (c : Thread nD τ) (ms0_6 m hO t) fullShare (Y 6)
    ∗ owns (c : Thread nD τ) (ms0_7 m hO t) fullShare (Y 7)
    ∗ owns (c : Thread nD τ) (ms0_8 m hO t) fullShare (Y 8)
    ∗ owns (c : Thread nD τ) (ms0_9 m hO t) fullShare (Y 9)
    ∗ owns (c : Thread nD τ) (ms0_10 m hO t) fullShare (Y 10)
    ∗ owns (c : Thread nD τ) (ms0_11 m hO t) fullShare (Y 11)
    ∗ owns (c : Thread nD τ) (ms0_12 m hO t) fullShare (Y 12)
    ∗ owns (c : Thread nD τ) (ms0_13 m hO t) fullShare (Y 13))

/-- and what it returns. -/
def postV (hO : Ok m) (c : Dev nD) (t : Fin (cfgM m hO).N) (Y : (w : Fin (cfgM m hO).W) → ((cfgM m hO).win w).block.Idx → Elt Ideal ((cfgM m hO).win w).elt) : sProp 𝕄 :=
  iprop((rdV m hO c).Φ t.succ ∗ (rdV m hO c).owesAt () t.succ
    ∗ (∃ X, ⌜(rdV m hO c).after 0 t (Y 0) X⌝ ∗ owns (c : Thread nD τ) (ms0_0 m hO t) fullShare X)
    ∗ (∃ X, ⌜(rdV m hO c).after 1 t (Y 1) X⌝ ∗ owns (c : Thread nD τ) (ms0_1 m hO t) fullShare X)
    ∗ (∃ X, ⌜(rdV m hO c).after 2 t (Y 2) X⌝ ∗ owns (c : Thread nD τ) (ms0_2 m hO t) fullShare X)
    ∗ (∃ X, ⌜(rdV m hO c).after 3 t (Y 3) X⌝ ∗ owns (c : Thread nD τ) (ms0_3 m hO t) fullShare X)
    ∗ (∃ X, ⌜(rdV m hO c).after 4 t (Y 4) X⌝ ∗ owns (c : Thread nD τ) (ms0_4 m hO t) fullShare X)
    ∗ (∃ X, ⌜(rdV m hO c).after 5 t (Y 5) X⌝ ∗ owns (c : Thread nD τ) (ms0_5 m hO t) fullShare X)
    ∗ (∃ X, ⌜(rdV m hO c).after 6 t (Y 6) X⌝ ∗ owns (c : Thread nD τ) (ms0_6 m hO t) fullShare X)
    ∗ (∃ X, ⌜(rdV m hO c).after 7 t (Y 7) X⌝ ∗ owns (c : Thread nD τ) (ms0_7 m hO t) fullShare X)
    ∗ (∃ X, ⌜(rdV m hO c).after 8 t (Y 8) X⌝ ∗ owns (c : Thread nD τ) (ms0_8 m hO t) fullShare X)
    ∗ (∃ X, ⌜(rdV m hO c).after 9 t (Y 9) X⌝ ∗ owns (c : Thread nD τ) (ms0_9 m hO t) fullShare X)
    ∗ (∃ X, ⌜(rdV m hO c).after 10 t (Y 10) X⌝ ∗ owns (c : Thread nD τ) (ms0_10 m hO t) fullShare X)
    ∗ (∃ X, ⌜(rdV m hO c).after 11 t (Y 11) X⌝ ∗ owns (c : Thread nD τ) (ms0_11 m hO t) fullShare X)
    ∗ (∃ X, ⌜(rdV m hO c).after 12 t (Y 12) X⌝ ∗ owns (c : Thread nD τ) (ms0_12 m hO t) fullShare X)
    ∗ (∃ X, ⌜(rdV m hO c).after 13 t (Y 13) X⌝ ∗ owns (c : Thread nD τ) (ms0_13 m hO t) fullShare X))

set_option maxHeartbeats 4000000 in
/-- The body at any point. -/
theorem soundV (hO : Ok m) (c : Dev nD) (t : Fin (cfgM m hO).N) (Y) (hY : ∀ w, (rdV m hO c).Finds w t (Y w)) :
    preV m hO c t Y ⊢ wp frame (wpE (defs₀ (F := Ideal)) Variants.none c none) Set.univ (bodyAt0 (adm m hO) t) (fun _ => postV m hO c t Y) := by
  unfold preV postV bodyAt0
  rw [findsV_0 m hO c t (Y 0) (hY 0), findsV_1 m hO c t (Y 1) (hY 1), findsV_2 m hO c t (Y 2) (hY 2), findsV_3 m hO c t (Y 3) (hY 3), findsV_4 m hO c t (Y 4) (hY 4), findsV_5 m hO c t (Y 5) (hY 5), findsV_6 m hO c t (Y 6) (hY 6)]
  rw [show (rdV m hO c).owesAt () t.succ = (rdV m hO c).owesAt () t.castSucc from rfl]
  rw [show (rdV m hO c).Φ t.succ = PhiV m c (t.val + 1) from rfl, show (rdV m hO c).Φ t.castSucc = PhiV m c t.val from rfl]
  unfold PhiV
  iintro ⟨⟨⟨⟨%xs0, %xs1, %xs4, %xs5, %hI, HS0, HS1, HS2, HS3, HS4, HS5⟩, Hg⟩, HT⟩, Ho, H0, H1, H2, H3, H4, H5, H6, H7, H8, H9, H10, H11, H12, H13⟩
  have hP := point_at m hO c t (Y 7) (Y 8) (Y 9) xs0 xs1 xs4 xs5 hI
  unfold Tight tightPre tightPost at hP
  iapply (hP Set.univ _)
  isplitr [Hg Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    isplitl [HS4]; · iexact HS4
    isplitl [HS5]; · iexact HS5
    iexact HT
  iintro ⟨H0, H1, H2, H3, H4, H5, H6, ⟨%d7, H7⟩, ⟨%d8, H8⟩, ⟨%d9, H9⟩, ⟨%d10, %h10, H10⟩, ⟨%d11, %h11, H11⟩, ⟨%d12, %h12, H12⟩, ⟨%d13, %h13, H13⟩, ⟨%e0, %g0, HS0⟩, ⟨%e1, %g1, HS1⟩, HS2, HS3, ⟨%e4, %g4, HS4⟩, ⟨%e5, %g5, HS5⟩, HT⟩
  isplitl [HS0 HS1 HS2 HS3 HS4 HS5 Hg HT]
  · isplitl [HS0 HS1 HS2 HS3 HS4 HS5 Hg]
    · isplitl [HS0 HS1 HS2 HS3 HS4 HS5]
      · iexists e0; iexists e1; iexists e4; iexists e5
        isplitr; · ipureintro; exact inv_succ m c t e0 e1 e4 e5 g0 g1 g4 g5
        isplitl [HS0]; · iexact HS0
        isplitl [HS1]; · iexact HS1
        isplitl [HS2]; · iexact HS2
        isplitl [HS3]; · iexact HS3
        isplitl [HS4]; · iexact HS4
        iexact HS5
      iexact Hg
    iexact HT
  isplitl [Ho]; · iexact Ho
  isplitl [H0]
  · iexists _; isplitr; swap; · iexact H0
    ipureintro; exact leavesV_0 m hO c t _
  isplitl [H1]
  · iexists _; isplitr; swap; · iexact H1
    ipureintro; exact leavesV_1 m hO c t _
  isplitl [H2]
  · iexists _; isplitr; swap; · iexact H2
    ipureintro; exact leavesV_2 m hO c t _
  isplitl [H3]
  · iexists _; isplitr; swap; · iexact H3
    ipureintro; exact leavesV_3 m hO c t _
  isplitl [H4]
  · iexists _; isplitr; swap; · iexact H4
    ipureintro; exact leavesV_4 m hO c t _
  isplitl [H5]
  · iexists _; isplitr; swap; · iexact H5
    ipureintro; exact leavesV_5 m hO c t _
  isplitl [H6]
  · iexists _; isplitr; swap; · iexact H6
    ipureintro; exact leavesV_6 m hO c t _
  isplitl [H7]
  · iexists _; isplitr; swap; · iexact H7
    ipureintro; exact trivial
  isplitl [H8]
  · iexists _; isplitr; swap; · iexact H8
    ipureintro; exact trivial
  isplitl [H9]
  · iexists _; isplitr; swap; · iexact H9
    ipureintro; exact trivial
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  iexists _; isplitr; swap; · iexact H13
  ipureintro; exact h13

theorem rowV (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

/-- The library's body obligation, at every point. -/
theorem obligationV (hO : Ok m) (c : Dev nD) : (rdV m hO c).BodyObligation (defs₀ (F := Ideal)) Variants.none () Set.univ := fun t Y hY => by
  rw [bigSep_W0, bigSep_W0, rowV m hO]
  exact triple_restated (soundV m hO c t Y hY) rfl .rfl fun _ => .rfl

/-- What the launch hands the region is the invariant before the first point. -/
theorem hinV (hO : Ok m) (c : Dev nD) : iprop(Pipeline.ΦA spec0 c ∗ Pipeline.ΦT pre0 (tbl m) c) ⊢ (rdV m hO c).Φ 0 := by
  rw [show (rdV m hO c).Φ 0 = PhiV m c 0 from rfl, PhiT0_eq, PhiA0_eq]
  unfold PhiV
  iintro ⟨⟨⟨⟨%x0, HS0⟩, ⟨%x1, HS1⟩, HS2, HS3, ⟨%x4, HS4⟩, ⟨%x5, HS5⟩⟩, Hg⟩, HT⟩
  isplitl [HS0 HS1 HS2 HS3 HS4 HS5 Hg]
  · isplitl [HS0 HS1 HS2 HS3 HS4 HS5]
    · iexists x0; iexists x1; iexists x4; iexists x5
      isplitr; · ipureintro; exact inv_zero m c x0 x1 x4 x5
      isplitl [HS0]; · iexact HS0
      isplitl [HS1]; · iexact HS1
      isplitl [HS2]; · iexact HS2
      isplitl [HS3]; · iexact HS3
      isplitl [HS4]; · iexact HS4
      iexact HS5
    iexact Hg
  iexact HT

/-- After the last point the invariant gives the scoped rest back. -/
theorem houtV (hO : Ok m) (c : Dev nD) : (rdV m hO c).Φ (Fin.last (cfgM m hO).N) ⊢ Pipeline.ΦA spec0 c := by
  rw [show (rdV m hO c).Φ (Fin.last (cfgM m hO).N) = PhiV m c (cfgM m hO).N from rfl, PhiA0_eq]
  unfold PhiV
  iintro ⟨⟨⟨%x0, %x1, %x4, %x5, -, HS0, HS1, HS2, HS3, HS4, HS5⟩, Hg⟩, -⟩
  isplitl [HS0 HS1 HS2 HS3 HS4 HS5]
  · isplitl [HS0]; · iexists _; iexact HS0
    isplitl [HS1]; · iexists _; iexact HS1
    isplitl [HS2]; · iexact HS2
    isplitl [HS3]; · iexact HS3
    isplitl [HS4]; · iexists _; iexact HS4
    iexists _; iexact HS5
  iexact Hg

set_option backward.isDefEq.respectTransparency.types false in
/-- The launch: every execution terminates, the arrays as the proof data says, every semaphore counter at zero. -/
theorem runV (hO : Ok m) : θ_run defs (onTc (τ := τ) (main (F := Ideal))) (s₀ m ρ) (fun r => (Pipeline.RDat.FramePost ((Pipeline.pin pcfgs fun _ => adm m hO) 0) (fun c => rdV m hO c) (V m)) r ∧ r.2.sem = fun _ => 0) :=
  Pipeline.RDat.θ_run_frameP_track (Q' := _) pcfgs (fun _ => adm m hO) (0 : Fin 1) launch0 defs₀ Variants.none (fun c => rdV m hO c) m ρ main
    (hbody := obligationV m hO) (hshare := fun c w => by show (datsV m hO c).share w = fullShare; exact (datsV m hO c).share_full (fun _ => rfl) w)
    (howed := fun _ _ => rfl) (V := V m) (hmain := hmain m Variants.none) (hA := A_eqV m hO) (hpf := V_pre m) (hin := hinV m hO) (hout := houtV m hO)

end Cert.KernelIdeal.Hand

end
-- ==== Proof.Final.lean ====
/- What the result arrays of `Cert.KernelIdeal` hold at the end, element by element. -/
module

public import proofs.«01_k».proof.Proof.Launch
public import Idealize.ShloMosaic.Lib.Pipeline.Value
public import Idealize.ShloMosaic.Lib.Pipeline.ArrRel

@[expose] public section

set_option maxRecDepth 16384

noncomputable section

namespace Cert.KernelIdeal.Hand

open Cert.KernelIdeal.Gen
open Idealize.ShloMosaic Idealize.ShloMosaic.TcCoe
open Idealize.ShloMosaic.Pipeline (Dat RDat Cfg Window)

/-- An array's elements under a block that is written back once are elements of something the body may have left there. -/
theorem flushed_of {cfg : Cfg sig Λ₀} {c : Dev nD} {rd : RDat τ (Elt Ideal) Unit ℕ (UR sig nD τ) ℕ cfg c} (w : Fin cfg.W)
    (G : Buf (Elt Ideal) ((cfg.win w).arr.view.loc (c.tc : Thread nD τ))) (hG : rd.ArrAt w cfg.N G)
    (hk : (cfg.win w).kind = .blocked) (hinj : ∀ t t' : Fin cfg.N, (cfg.win w).index t = (cfg.win w).index t' → t = t') (t : Fin cfg.N) (hf : (cfg.win w).flush t = true) :
    ∃ X Y, rd.after w t Y X ∧ ∀ y : ((cfg.win w).xblock (cfg.grid.coords t)).Idx,
      G (((cfg.win w).blk t).view.emb y) = _root_.cast (congrArg (Elt Ideal) ((cfg.win w).blk t).view.elt_eq.symm) ((cfg.win w).cut (cfg.grid.coords t) X y) := by
  obtain ⟨X, hX, hA⟩ := hG.exists_exact
  obtain ⟨Y, -, hYX⟩ := hX t t.isLt hf
  refine ⟨X t, Y, hYX, fun y => ?_⟩
  have e := hA (Function.update (fun _ _ _ => Classical.arbitrary _) w X) fun u _ _ => by rw [Function.update_self]
  rw [e, Dat.arrAt_emb_eq_flushed _ w (fun t t' _ _ hne => (cfg.win w).disjoint_blk (hk := hk) fun h => hne (hinj t t' h)) t hf y]
  unfold Dat.flushed
  rw [RDat.withAfter_after, Function.update_self]

variable (m : (ℓ : Loc nD τ sig) → Buf (Elt Ideal) ℓ)

/-- The point whose tile holds token `s` of row `b`. -/
def pt (b s : ℕ) : ℕ := 16 * b + (15 - s / 256)

theorem inj10 (t t' : Fin grid0.N) (h : cc0_transform_10 (grid0.coords t) = cc0_transform_10 (grid0.coords t')) : t = t' := by
  have a := tr10 t
  have b := tr10 t'
  rw [h] at a
  have := t_lt t
  have := t_lt t'
  apply Fin.ext
  have e1 := a.1.symm.trans b.1
  have e2 := a.2.1.symm.trans b.2.1
  omega

theorem arr10 (hO : Ok m) (c : Dev nD) (G : Vec Ideal S6x4096x3072 .fp8e4m3) (hG : (rdV m hO c).ArrAt 10 (cfgM m hO).N G) (b : Fin 6) (s : Fin 4096) (hs : s.val < 4095) (d : Fin 3072) :
    G (ix3 b s d) = Spec.unitCode (yv m c b.val (s.val + 1)) d := by
  let t : Fin (cfgM m hO).N := (⟨pt b.val s.val, by unfold pt; exact (by omega : 16 * b.val + (15 - s.val / 256) < 96)⟩ : Fin grid0.N)
  have ht : t.val = 16 * b.val + (15 - s.val / 256) := rfl
  have hi := tr10 t
  have e0 : t.val / 16 = b.val := by omega
  have e1 : 15 - t.val % 16 = s.val / 256 := by omega
  rw [e0, e1] at hi
  obtain ⟨X, Y, hX, hy⟩ := flushed_of (rd := rdV m hO c) 10 G hG rfl (fun t t' h => inj10 t t' h) t (flush0_10 (adm m hO) t)
  have hX' : RM (grid0.coords t) (Yt m c t.val) X := hX
  have key := hX' (⟨s.val % 256, by omega⟩ : Fin 256) d (by rw [coord1]; show s.val % 256 < 255 ∨ _; omega)
  have hsz : ∀ a : Fin 3, ((ix3 (0 : Fin 1) (⟨s.val % 256, by omega⟩ : Fin 256) d : S1x256x3072.Idx) a).val < ((cfgM m hO).win 10).xsize (grid0.coords t) a := fun a => by
    match a with
    | ⟨0, _⟩ => exact (by omega : 0 < 1)
    | ⟨1, _⟩ => exact (by omega : s.val % 256 < 256)
    | ⟨2, _⟩ => exact d.isLt
  have h := hy (fun a => ⟨_, hsz a⟩)
  refine Eq.trans (congrArg G ?_) (h.trans (Eq.trans ?_ (key.trans ?_)))
  · funext a
    apply Fin.ext
    match a with
    | ⟨0, _⟩ => show b.val = cc0_transform_10 (grid0.coords t) 0 * 1 + 1 * 0; rw [hi.1]; omega
    | ⟨1, _⟩ => show s.val = cc0_transform_10 (grid0.coords t) 1 * 256 + 1 * (s.val % 256); rw [hi.2.1]; omega
    | ⟨2, _⟩ => show d.val = cc0_transform_10 (grid0.coords t) 2 * 3072 + 1 * d.val; rw [hi.2.2]; omega
  · rfl
  · unfold Yt
    rw [e0, e1, show 256 * (s.val / 256) + (s.val % 256 + 1) = s.val + 1 by omega]

theorem inj12 (t t' : Fin grid0.N) (h : cc0_transform_12 (grid0.coords t) = cc0_transform_12 (grid0.coords t')) : t = t' := by
  have a := tr12 t
  have b := tr12 t'
  rw [h] at a
  have := t_lt t
  have := t_lt t'
  apply Fin.ext
  have e1 := a.1.symm.trans b.1
  have e2 := a.2.1.symm.trans b.2.1
  omega

theorem arr12 (hO : Ok m) (c : Dev nD) (G : Vec Ideal S6x4096x3584 .fp8e4m3) (hG : (rdV m hO c).ArrAt 12 (cfgM m hO).N G) (b : Fin 6) (s : Fin 4096) (hs : s.val < 4095) (d : Fin 3584) :
    G (ix3 b s d) = Spec.rowCode (tok m c b.val (s.val + 1)) d := by
  let t : Fin (cfgM m hO).N := (⟨pt b.val s.val, by unfold pt; exact (by omega : 16 * b.val + (15 - s.val / 256) < 96)⟩ : Fin grid0.N)
  have ht : t.val = 16 * b.val + (15 - s.val / 256) := rfl
  have hi := tr12 t
  have e0 : t.val / 16 = b.val := by omega
  have e1 : 15 - t.val % 16 = s.val / 256 := by omega
  rw [e0, e1] at hi
  obtain ⟨X, Y, hX, hy⟩ := flushed_of (rd := rdV m hO c) 12 G hG rfl (fun t t' h => inj12 t t' h) t (flush0_12 (adm m hO) t)
  have hX' : RC (grid0.coords t) (Tt m c t.val) X := hX
  have key := hX' (⟨s.val % 256, by omega⟩ : Fin 256) d (by rw [coord1]; show s.val % 256 < 255 ∨ _; omega)
  have hsz : ∀ a : Fin 3, ((ix3 (0 : Fin 1) (⟨s.val % 256, by omega⟩ : Fin 256) d : S1x256x3584.Idx) a).val < ((cfgM m hO).win 12).xsize (grid0.coords t) a := fun a => by
    match a with
    | ⟨0, _⟩ => exact (by omega : 0 < 1)
    | ⟨1, _⟩ => exact (by omega : s.val % 256 < 256)
    | ⟨2, _⟩ => exact d.isLt
  have h := hy (fun a => ⟨_, hsz a⟩)
  refine Eq.trans (congrArg G ?_) (h.trans (Eq.trans ?_ (key.trans ?_)))
  · funext a
    apply Fin.ext
    match a with
    | ⟨0, _⟩ => show b.val = cc0_transform_12 (grid0.coords t) 0 * 1 + 1 * 0; rw [hi.1]; omega
    | ⟨1, _⟩ => show s.val = cc0_transform_12 (grid0.coords t) 1 * 256 + 1 * (s.val % 256); rw [hi.2.1]; omega
    | ⟨2, _⟩ => show d.val = cc0_transform_12 (grid0.coords t) 2 * 3584 + 1 * d.val; rw [hi.2.2]; omega
  · rfl
  · unfold Tt
    rw [e0, e1, show 256 * (s.val / 256) + (s.val % 256 + 1) = s.val + 1 by omega]

theorem inj13 (t t' : Fin grid0.N) (h : cc0_transform_13 (grid0.coords t) = cc0_transform_13 (grid0.coords t')) : t = t' := by
  have a := tr13 t
  have b := tr13 t'
  rw [h] at a
  have := t_lt t
  have := t_lt t'
  apply Fin.ext
  have e1 := a.1.symm.trans b.1
  have e2 := a.2.1.symm.trans b.2.1
  omega

theorem arr13 (hO : Ok m) (c : Dev nD) (G : Vec Ideal S6x4095x28 .f32) (hG : (rdV m hO c).ArrAt 13 (cfgM m hO).N G) (b : Fin 6) (s : Fin 4095) (hs : s.val < 4095) (d : Fin 28) :
    G (ix3 b s d) = Spec.rowScale (tok m c b.val (s.val + 1)) d := by
  let t : Fin (cfgM m hO).N := (⟨pt b.val s.val, by unfold pt; exact (by omega : 16 * b.val + (15 - s.val / 256) < 96)⟩ : Fin grid0.N)
  have ht : t.val = 16 * b.val + (15 - s.val / 256) := rfl
  have hi := tr13 t
  have e0 : t.val / 16 = b.val := by omega
  have e1 : 15 - t.val % 16 = s.val / 256 := by omega
  rw [e0, e1] at hi
  obtain ⟨X, Y, hX, hy⟩ := flushed_of (rd := rdV m hO c) 13 G hG rfl (fun t t' h => inj13 t t' h) t (flush0_13 (adm m hO) t)
  have hX' : RS (grid0.coords t) (Tt m c t.val) X := hX
  have key := hX' (⟨s.val % 256, by omega⟩ : Fin 256) d (by rw [coord1]; show s.val % 256 < 255 ∨ _; omega)
  have hsz : ∀ a : Fin 3, ((ix3 (0 : Fin 1) (⟨s.val % 256, by omega⟩ : Fin 256) d : S1x256x28.Idx) a).val < ((cfgM m hO).win 13).xsize (grid0.coords t) a := fun a => by
    match a with
    | ⟨0, _⟩ => show 0 < (Pipeline.Clip.of (cc0_transform_13 (grid0.coords t) 0) 1 6).extent 1; rw [hi.1]; unfold Pipeline.Clip.of; split <;> (simp only [Pipeline.Clip.extent]; omega)
    | ⟨1, _⟩ => show s.val % 256 < (Pipeline.Clip.of (cc0_transform_13 (grid0.coords t) 1) 256 4095).extent 256; rw [hi.2.1]; unfold Pipeline.Clip.of; split <;> (simp only [Pipeline.Clip.extent]; omega)
    | ⟨2, _⟩ => show d.val < (Pipeline.Clip.of (cc0_transform_13 (grid0.coords t) 2) 28 28).extent 28; rw [hi.2.2]; unfold Pipeline.Clip.of; split <;> (simp only [Pipeline.Clip.extent]; omega)
  have h := hy (fun a => ⟨_, hsz a⟩)
  refine Eq.trans (congrArg G ?_) (h.trans (Eq.trans ?_ (key.trans ?_)))
  · funext a
    apply Fin.ext
    match a with
    | ⟨0, _⟩ => show b.val = cc0_transform_13 (grid0.coords t) 0 * 1 + 1 * 0; rw [hi.1]; omega
    | ⟨1, _⟩ => show s.val = cc0_transform_13 (grid0.coords t) 1 * 256 + 1 * (s.val % 256); rw [hi.2.1]; omega
    | ⟨2, _⟩ => show d.val = cc0_transform_13 (grid0.coords t) 2 * 28 + 1 * d.val; rw [hi.2.2]; omega
  · rfl
  · unfold Tt
    rw [e0, e1, show 256 * (s.val / 256) + (s.val % 256 + 1) = s.val + 1 by omega]

theorem whole11 (hO : Ok m) : ((cfgM m hO).win 11).WholeAt (⟨95, by exact (by decide : 95 < 96)⟩ : Fin grid0.N) := by
  refine ⟨(flush0_11 (adm m hO) _).mpr rfl, fun t h => ?_, fun a => ?_⟩
  · have h' := (flush0_11 (adm m hO) t).mp h
    have := t_lt t
    exact Fin.ext (show t.val = 95 by omega)
  · match a with
    | ⟨0, _⟩ => exact ⟨rfl, rfl⟩
    | ⟨1, _⟩ => exact ⟨rfl, rfl⟩

theorem arr11 (hO : Ok m) (c : Dev nD) (G : Vec Ideal S6x4095 .f32) (hG : (rdV m hO c).ArrAt 11 (cfgM m hO).N G) (b : Fin 6) (s : Fin 4095) :
    G (ix2 b s) = Spec.unitScale (yv m c b.val (s.val + 1)) := by
  obtain ⟨X, ⟨Y, -, hX⟩, hy⟩ := hG.emb_eq_of_wholeAt (whole11 m hO)
  have hX' : R11 (grid0.coords (⟨95, by decide⟩ : Fin grid0.N)) (Yt m c 95) (ubase m c 95) X := hX
  have key := hX' (by decide +kernel) b s
  rw [coord0] at key
  have e : tn (grid0.coords (⟨95, by decide⟩ : Fin grid0.N)) = 0 := by unfold tn; rw [coord1]; rfl
  rw [e] at key
  refine Eq.trans (congrArg G ?_) ((hy (ix2 b s)).trans (Eq.trans (by rfl) (key.trans ?_)))
  · rfl
  · show (if b.val = 5 ∧ (s.val + 1) / 256 = 0 then _ else (if 16 * b.val + (15 - (s.val + 1) / 256) < 95 then Spec.unitScale (yv m c b.val (s.val + 1)) else 1)) = _
    by_cases h : b.val = 5 ∧ (s.val + 1) / 256 = 0
    · rw [if_pos h]
      unfold Yt
      rw [show 95 / 16 = b.val by omega, show 256 * (15 - 95 % 16) + (s.val + 1) % 256 = s.val + 1 by omega]
    · rw [if_neg h, if_pos (by omega)]

end Cert.KernelIdeal.Hand

end
-- ==== Proof.KerHost.lean ====
/- What the kernel is handed, in terms of the program's arguments. -/
module

public import proofs.«01_k».proof.Proof.Inputs
public import Idealize.ShloMosaic.Lib.Claim

@[expose] public section

set_option maxRecDepth 16384

noncomputable section

namespace Cert.KernelIdeal.Hand

open Cert Cert.KernelIdeal Cert.KernelIdeal.Gen
open Idealize.ShloMosaic Idealize.ShloMosaic.TcCoe

variable (m : (ℓ : Loc nD τ sig) → Buf (Elt Ideal) ℓ) (c : Dev nD)

theorem X0_eq : X0 m c = m ((c : Thread nD τ).loc main_arg0) := V_main_arg0 m c

theorem X4_eq : X4 m c = m ((c : Thread nD τ).loc main_arg5) := V_main_arg5 m c

theorem X5_eq : X5 m c = shapeCast S1x3072 (m ((c : Thread nD τ).loc main_arg6)) shapeCasts_S3072_S1x3072 := by
  show V m c main_v1 = _
  entry_read
  rfl

theorem X6_eq : X6 m c = shapeCast S1x3072 (m ((c : Thread nD τ).loc main_arg7)) shapeCasts_S3072_S1x3072 := by
  show V m c main_v2 = _
  entry_read
  rfl

end Cert.KernelIdeal.Hand
-- ==== Proof.RefRun.lean ====
/- The run of the reference with each result named: what the one grid point of its kernel writes back, read block by block. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v53_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v53_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v53_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v53_3) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 2 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 2).trans (((dats m 0 c).arrAt_in 2 rfl _).trans ((A_eq m c 2).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v53_0) = (dats m 0 c).arrAt 5 cfg0.N
      ∧ r.2.mem ((c : Thread nD τ).loc main_v53_1) = (dats m 0 c).arrAt 6 cfg0.N
      ∧ r.2.mem ((c : Thread nD τ).loc main_v53_2) = (dats m 0 c).arrAt 7 cfg0.N
      ∧ r.2.mem ((c : Thread nD τ).loc main_v53_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post5 m r h c,
      post6 m r h c,
      post7 m r h c,
      post8 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.ReferenceIdeal.Value

end
-- ==== Proof.RefRows.lean ====
/- The reference's kernel, read element by element at the extended reals: each token's row of codes and scales. -/
module

public import proofs.«01_k».proof.Proof.RefRun
public import proofs.«01_k».proof.Proof.Spec
public import Idealize.ShloMosaic.Lib.Pointwise
public import Idealize.ShloMosaic.Lib.WritesUnit

@[expose] public section

set_option maxRecDepth 16384

noncomputable section

namespace Cert.ReferenceIdeal.Rows

open Cert Cert.ReferenceIdeal Cert.ReferenceIdeal.Gen
open Idealize.ShloMosaic Idealize.ShloMosaic.TcCoe

/-- The row of a token among all tokens. -/
def row (b : Fin 6) (s : Fin 4096) : Fin 24576 := ⟨4096 * b.val + s.val, by omega⟩

/-! ## The steps over all tokens at once -/

theorem maxG (y : FVec Ideal S24576x28x128 .f32) (n : Fin 24576) (g : Fin 28) :
    multiReduction .maximumf [2] S24576x28 y 0xFF800000#32 reduces_S24576x28x128_S24576x28 (.inl rfl) rfl (ix2 n g)
      = Finset.univ.fold max (Ideal.ofBits .f32 0xFF800000#32) fun l : Fin 128 => y (ix3 n g l) := by
  simp only [pointwise]

theorem expoE (w : FVec Ideal S24576x28x1 .f32) (i : S24576x28x1.Idx) :
    select (cmpf .olt w (broadcast S24576x28x1 (Scalar.ofBits .f32 0x04E00000#32))) (broadcast S24576x28x1 (Scalar.ofBits .f32 0x00000000#32))
      (addf (floor (divf (log (mulf w (broadcast S24576x28x1 (Scalar.ofBits .f32 0x3B124925#32)))) (log (broadcast S24576x28x1 (Scalar.ofBits .f32 0x40000000#32)))))
        (broadcast S24576x28x1 (Scalar.ofBits .f32 0x3F800000#32))) i = Spec.xExp (w i) := by
  pointwise []
  rw [Spec.two, Spec.xExp, Spec.expo, EReal.coe_one]
  rfl

theorem castG (v : FVec Ideal S24576x28 .f32) (n : Fin 24576) (g : Fin 28) (z : Fin 1) :
    shapeCast S24576x28x1 v shapeCasts_S24576x28_S24576x28x1 (ix3 n g z) = v (ix2 n g) := by
  refine shapeCast_apply _ _ _ _ ?_
  rw [Shape.rowMajor_val_three, Shape.rowMajor_val_two]
  show n.val * 28 + g.val = (n.val * 28 + g.val) * 1 + z.val
  omega

theorem absE {t : Shape} (w : FVec Ideal t .f32) (i : t.Idx) : absf w i = Spec.mag (w i) := rfl

theorem extE (w : FVec Ideal S24576x28x128 .fp8e4m3) (i : S24576x28x128.Idx) : (extf .bf16 w bitsLt_fp8e4m3_bf16 : FVec Ideal _ .bf16) i = w i := rfl

theorem truncE (w : FVec Ideal S24576x28x1 .f32) (i : S24576x28x1.Idx) : (truncf .bf16 w bitsLt_bf16_f32 : FVec Ideal _ .bf16) i = w i := rfl

theorem spreadB (e : FVec Ideal S24576x28x1 .bf16) (n : Fin 24576) (g : Fin 28) (l : Fin 128) :
    broadcastTo S24576x28x128 e broadcasts_S24576x28x1_S24576x28x128 (ix3 n g l) = e (ix3 n g 0) := by
  pointwise []

theorem exp2E {t : Shape} (w : FVec Ideal t .f32) (i : t.Idx) : exp2 w i = Ideal.exp2 (w i) := rfl

theorem clipE (y : FVec Ideal S24576x28x128 .f32) (e : FVec Ideal S24576x28x1 .f32) (n : Fin 24576) (g : Fin 28) (l : Fin 128) :
    (truncf .fp8e4m3 (minimumf (broadcast S24576x28x128 (Scalar.ofBits .f32 0x43E00000#32)) (maximumf (broadcast S24576x28x128 (Scalar.ofBits .f32 0xC3E00000#32))
      (mulf y (broadcastTo S24576x28x128 (exp2 (subf (broadcast S24576x28x1 (Scalar.ofBits .f32 0x00000000#32)) e)) broadcasts_S24576x28x1_S24576x28x128)))) bitsLt_fp8e4m3_f32
        : FVec Ideal S24576x28x128 .fp8e4m3) (ix3 n g l) = Spec.clip (y (ix3 n g l) * Ideal.exp2 (0 - e (ix3 n g 0))) := by
  pointwise []
  rw [Spec.c448, Spec.cm448]
  rfl

theorem maxM (y : FVec Ideal S24576x3072 .f32) (n : Fin 24576) :
    multiReduction .maximumf [1] S24576 y 0xFF800000#32 reduces_S24576x3072_S24576 (.inl rfl) rfl (ix1 n)
      = Finset.univ.fold max (Ideal.ofBits .f32 0xFF800000#32) fun d : Fin 3072 => y (ix2 n d) := by
  simp only [pointwise]

theorem sumM (y : FVec Ideal S24576x3072 .f32) (n : Fin 24576) :
    multiReduction .add [1] S24576 y 0x00000000#32 reduces_S24576x3072_S24576 (.inl rfl) rfl (ix1 n) = ∑ d : Fin 3072, y (ix2 n d) := by
  simp only [pointwise]

theorem sqM (y : FVec Ideal S24576x3072 .f32) (n : Fin 24576) :
    multiReduction .add [1] S24576 (mulf y y) 0x00000000#32 reduces_S24576x3072_S24576 (.inl rfl) rfl (ix1 n)
      = ∑ d : Fin 3072, y (ix2 n d) * y (ix2 n d) := by
  rw [sumM]
  rfl

theorem castM (v : FVec Ideal S24576 .f32) (n : Fin 24576) (z : Fin 1) :
    shapeCast S24576x1 v shapeCasts_S24576_S24576x1 (ix2 n z) = v (ix1 n) := by
  refine shapeCast_apply _ _ _ _ ?_
  rw [Shape.rowMajor_val_two, Shape.rowMajor_val_one]
  show n.val = n.val * 1 + z.val
  omega

theorem spreadC (e : FVec Ideal S1x3072 .f32) (n : Fin 24576) (d : Fin 3072) :
    broadcastTo S24576x3072 e broadcasts_S1x3072_S24576x3072 (ix2 n d) = e (ix2 0 d) := by
  pointwise []

theorem prodM (u : FVec Ideal S24576x3584 .bf16) (w : FVec Ideal S3584x3072 .bf16) (n : Fin 24576) (d : Fin 3072) :
    matmul dot_S24576x3584_S3584x3072_S24576x3072_1_0_0_1_n_n none u w (constant S24576x3072 .f32 0x00000000#32) (ix2 n d)
      = ∑ k : Fin 3584, u (ix2 n k) * w (ix2 k d) := by
  pointwise []

theorem expoM (w : FVec Ideal S24576x1 .f32) (i : S24576x1.Idx) :
    k0_pay1 (cmpf .olt (mulf w (broadcast S24576x1 (Scalar.ofBits .f32 0x3B124925#32))) (broadcast S24576x1 (Scalar.ofBits .f32 0x00800000#32)))
      (log (mulf w (broadcast S24576x1 (Scalar.ofBits .f32 0x3B124925#32)))) k0_pay16 i = Spec.mExp (w i) := by
  unfold k0_pay1 k0_pay16
  pointwise []
  rw [Spec.two, Spec.mExp, Spec.expo, EReal.coe_one]
  rfl

theorem liveM (x1 : Vec Ideal S6x4096x1 .i32) (b : Fin 6) (s : Fin 4096) :
    shapeCast S24576x1 (shapeCast S6x4096x1 x1 shapeCasts_S6x4096x1_S6x4096x1) shapeCasts_S6x4096x1_S24576x1 (ix2 (row b s) 0) = x1 (ix3 b s 0) := by
  rw [shapeCast_self]
  refine shapeCast_apply _ _ _ _ ?_
  rw [Shape.rowMajor_val_two, Shape.rowMajor_val_three]
  show (b.val * 4096 + s.val) * 1 + 0 = (4096 * b.val + s.val) * 1 + 0
  omega

theorem clipM (y : FVec Ideal S24576x3072 .f32) (e : FVec Ideal S24576x1 .f32) (n : Fin 24576) (d : Fin 3072) :
    (truncf .fp8e4m3 (minimumf (broadcast S24576x3072 (Scalar.ofBits .f32 0x43E00000#32)) (maximumf (broadcast S24576x3072 (Scalar.ofBits .f32 0xC3E00000#32))
      (mulf y (broadcastTo S24576x3072 (exp2 (subf (broadcast S24576x1 (Scalar.ofBits .f32 0x00000000#32)) e)) broadcasts_S24576x1_S24576x3072)))) bitsLt_fp8e4m3_f32
        : FVec Ideal S24576x3072 .fp8e4m3) (ix2 n d) = Spec.clip (y (ix2 n d) * Ideal.exp2 (0 - e (ix2 n 0))) := by
  pointwise []
  rw [Spec.c448, Spec.cm448]
  rfl

/-! ## The input's groups -/

section groups

variable (x0 : Vec Ideal S6x4096x28x128 .bf16)

/-- The row of a token, lane by lane. -/
abbrev xr (b : Fin 6) (s : Fin 4096) : Fin 3584 → EReal := fun d =>
  x0 (ix4 b s (⟨d.val / 128, by omega⟩ : Fin 28) (⟨d.val % 128, by omega⟩ : Fin 128))

theorem pay4_at (b : Fin 6) (s : Fin 4096) (g : Fin 28) (l : Fin 128) :
    k0_pay4 x0 (ix3 (row b s) g l) = x0 (ix4 b s g l) := by
  show shapeCast S24576x28x128 (shapeCast S6x4096x28x128 x0 _) _ (ix3 (row b s) g l) = _
  rw [shapeCast_self]
  refine shapeCast_apply _ _ _ _ ?_
  rw [Shape.rowMajor_val_four, Shape.rowMajor_val_three]
  show ((b.val * 4096 + s.val) * 28 + g.val) * 128 + l.val = ((4096 * b.val + s.val) * 28 + g.val) * 128 + l.val
  omega

/-- The greatest magnitude of a group. -/
abbrev gmax (b : Fin 6) (s : Fin 4096) (g : Fin 28) : EReal := Spec.amax fun l : Fin 128 => x0 (ix4 b s g l)

theorem pay5_at (b : Fin 6) (s : Fin 4096) (g : Fin 28) (z : Fin 1) :
    k0_pay5 x0 (ix3 (row b s) g z) = Spec.xExp (gmax x0 b s g) := by
  refine (expoE _ _).trans ?_
  rw [castG, maxG, Spec.bot32]
  congr 1
  unfold gmax Spec.amax
  congr 1
  funext l
  have e : absf (k0_pay4 x0) (ix3 (row b s) g l) = Spec.mag (k0_pay4 x0 (ix3 (row b s) g l)) := absE _ _
  rw [e, pay4_at]

theorem pay6_at (b : Fin 6) (s : Fin 4096) (g : Fin 28) (z : Fin 1) :
    k0_pay6 x0 (ix3 (row b s) g z) = Spec.xScale (gmax x0 b s g) := by
  have e : k0_pay6 x0 (ix3 (row b s) g z) = Ideal.exp2 (k0_pay5 x0 (ix3 (row b s) g z)) := exp2E _ _
  rw [e, pay5_at, Spec.xScale]

theorem pay7_at (b : Fin 6) (s : Fin 4096) (g : Fin 28) (l : Fin 128) :
    k0_pay7 x0 (ix3 (row b s) g l) = Spec.clip (x0 (ix4 b s g l) * Spec.xInv (gmax x0 b s g)) := by
  refine (clipE (k0_pay4 x0) (k0_pay5 x0) (row b s) g l).trans ?_
  rw [pay5_at, pay4_at]
  rfl

theorem gmax_eq (b : Fin 6) (s : Fin 4096) (g : Fin 28) : gmax x0 b s g = Spec.rowMax (xr x0 b s) g := by
  unfold gmax Spec.rowMax xr
  congr 1
  funext l
  congr 1
  funext a
  apply Fin.ext
  have h1 : (Spec.lane g l).val / 128 = g.val := by show (128 * g.val + l.val) / 128 = g.val; omega
  have h2 : (Spec.lane g l).val % 128 = l.val := by show (128 * g.val + l.val) % 128 = l.val; omega
  match a with
  | 0 => rfl
  | 1 => rfl
  | 2 => exact h1.symm
  | 3 => exact h2.symm

theorem pay8_at (b : Fin 6) (s : Fin 4096) (d : Fin 3584) :
    k0_pay8 x0 (ix3 b s d) = Spec.rowCode (xr x0 b s) d := by
  have e : k0_pay8 x0 (ix3 b s d) = k0_pay7 x0 (ix3 (row b s) (⟨d.val / 128, by omega⟩ : Fin 28) (⟨d.val % 128, by omega⟩ : Fin 128)) := by
    unfold k0_pay8
    show shapeCast S6x4096x3584 (k0_pay7 x0) _ _ = _
    refine shapeCast_apply _ _ _ _ ?_
    rw [Shape.rowMajor_val_three, Shape.rowMajor_val_three]
    show ((4096 * b.val + s.val) * 28 + d.val / 128) * 128 + d.val % 128 = (b.val * 4096 + s.val) * 3584 + d.val
    omega
  rw [e, pay7_at, Spec.rowCode]
  congr 3
  exact gmax_eq x0 b s (Spec.grp d)

theorem pay9_at (b : Fin 6) (s : Fin 4095) (g : Fin 28) :
    k0_pay9 x0 (ix3 b s g) = Spec.rowScale (xr x0 b s.castSucc) g := by
  rw [Spec.rowScale, ← gmax_eq x0 b s.castSucc g, ← pay6_at x0 b s.castSucc g 0]
  unfold k0_pay9
  generalize k0_pay6 x0 = e
  show shapeCast S6x4096x28 e _ _ = _
  refine shapeCast_apply _ _ _ _ ?_
  rw [Shape.rowMajor_val_three, Shape.rowMajor_val_three]
  show ((4096 * b.val + s.val) * 28 + g.val) * 1 + 0 = ((0 + b.val) * 4096 + (0 + s.val)) * 28 + (0 + g.val)
  omega

end groups

section vectors

variable (u v : FVec Ideal S24576x28x128 .bf16) (x1 : Vec Ideal S6x4096x1 .i32) (x2 : Vec Ideal S3584x3072 .fp8e4m3) (x3 x4 : Vec Ideal S1x3072 .f32)

theorem flatM (w : FVec Ideal S24576x28x128 .bf16) (n : Fin 24576) (k : Fin 3584) :
    shapeCast S24576x3584 w shapeCasts_S24576x28x128_S24576x3584 (ix2 n k)
      = w (ix3 n (Spec.grp k) (⟨k.val % 128, by omega⟩ : Fin 128)) := by
  refine shapeCast_apply _ _ _ _ ?_
  rw [Shape.rowMajor_val_two, Shape.rowMajor_val_three]
  show (n.val * 28 + k.val / 128) * 128 + k.val % 128 = n.val * 3584 + k.val
  omega

/-- The colbert vectors before they are normed. -/
def yM : FVec Ideal S24576x3072 .f32 :=
  select (broadcastTo S24576x3072 (shapeCast S24576x1 (cmpi .eq (shapeCast S24576x1 (shapeCast S6x4096x1 x1 shapeCasts_S6x4096x1_S6x4096x1) shapeCasts_S6x4096x1_S24576x1)
      (broadcast S24576x1 1#32)) shapeCasts_S24576x1_S24576x1) broadcasts_S24576x1_S24576x3072)
    (addf (mulf (matmul dot_S24576x3584_S3584x3072_S24576x3072_1_0_0_1_n_n none (shapeCast S24576x3584 (mulf u v) shapeCasts_S24576x28x128_S24576x3584)
        (extf .bf16 x2 bitsLt_fp8e4m3_bf16) (constant S24576x3072 .f32 0x00000000#32))
      (broadcastTo S24576x3072 (shapeCast S1x3072 x3 shapeCasts_S1x3072_S1x3072) broadcasts_S1x3072_S24576x3072))
      (broadcastTo S24576x3072 (shapeCast S1x3072 x4 shapeCasts_S1x3072_S1x3072) broadcasts_S1x3072_S24576x3072))
    (broadcast S24576x3072 (Scalar.ofBits .f32 0x00000000#32))

theorem selM (c : IVec S24576x1 32) (p ws bc : FVec Ideal S24576x3072 .f32) (n : Fin 24576) (d : Fin 3072) :
    select (broadcastTo S24576x3072 (cmpi .eq c (broadcast S24576x1 1#32)) broadcasts_S24576x1_S24576x3072) (addf (mulf p ws) bc)
      (broadcast S24576x3072 (Scalar.ofBits .f32 0x00000000#32)) (ix2 n d)
      = if c (ix2 n 0) = 1#32 then p (ix2 n d) * ws (ix2 n d) + bc (ix2 n d) else 0 := by
  pointwise []
  rw [Scalar.select]
  exact if_congr (IntOp.cmpi_eq) rfl rfl

theorem yM_at (b : Fin 6) (s : Fin 4096) (d : Fin 3072) :
    yM u v x1 x2 x3 x4 (ix2 (row b s) d)
      = if x1 (ix3 b s 0) = 1#32 then
          (∑ k : Fin 3584, (u (ix3 (row b s) (Spec.grp k) (⟨k.val % 128, by omega⟩ : Fin 128))
            * v (ix3 (row b s) (Spec.grp k) (⟨k.val % 128, by omega⟩ : Fin 128))) * x2 (ix2 k d)) * x3 (ix2 0 d) + x4 (ix2 0 d)
        else 0 := by
  unfold yM
  rw [shapeCast_self (cmpi _ _ _), selM, liveM, prodM, spreadC, spreadC, shapeCast_self, shapeCast_self]
  simp only [flatM]
  rfl

theorem unitE (y : FVec Ideal S24576x3072 .f32) (w : FVec Ideal S24576x1 .f32) (n : Fin 24576) (d : Fin 3072) :
    divf y (broadcastTo S24576x3072 (maximumf (sqrt w) (broadcast S24576x1 (Scalar.ofBits .f32 0x2B8CBCCC#32))) broadcasts_S24576x1_S24576x3072) (ix2 n d)
      = Ideal.div (y (ix2 n d)) (Spec.nrm (w (ix2 n 0))) := by
  pointwise []
  rfl

theorem pay12_at (n : Fin 24576) (d : Fin 3072) :
    k0_pay12 u v x2 x3 x4 x1 (ix2 n d) = Spec.unit (fun d => yM u v x1 x2 x3 x4 (ix2 n d)) d := by
  have e : k0_pay12 u v x2 x3 x4 x1 = divf (yM u v x1 x2 x3 x4) (broadcastTo S24576x3072 (maximumf (sqrt
      (shapeCast S24576x1 (multiReduction .add [1] S24576 (mulf (yM u v x1 x2 x3 x4) (yM u v x1 x2 x3 x4)) 0x00000000#32 reduces_S24576x3072_S24576 (.inl rfl) rfl)
        shapeCasts_S24576_S24576x1)) (broadcast S24576x1 (Scalar.ofBits .f32 0x2B8CBCCC#32))) broadcasts_S24576x1_S24576x3072) := rfl
  refine (congrFun e _).trans ((unitE _ _ _ _).trans ?_)
  rw [castM, sqM]
  unfold Spec.unit
  exact rfl

theorem pay13_at (n : Fin 24576) (z : Fin 1) :
    k0_pay13 u v x2 x3 x4 x1 (ix2 n z) = Spec.amax (Spec.unit fun d => yM u v x1 x2 x3 x4 (ix2 n d)) := by
  have e : k0_pay13 u v x2 x3 x4 x1 (ix2 n z) = shapeCast S24576x1 (multiReduction .maximumf [1] S24576 (absf (k0_pay12 u v x2 x3 x4 x1)) 0xFF800000#32
      reduces_S24576x3072_S24576 (.inl rfl) rfl) shapeCasts_S24576_S24576x1 (ix2 n z) := rfl
  rw [e, castM, maxM, Spec.bot32]
  refine Finset.fold_congr fun d _ => ?_
  rw [absE, pay12_at]

/-- The exponent of a row's scale. -/
def expV : FVec Ideal S24576x1 .f32 := k0_pay1 (k0_pay14 u v x2 x3 x4 x1) (k0_pay15 u v x2 x3 x4 x1) k0_pay16

theorem expV_at (n : Fin 24576) (z : Fin 1) :
    expV u v x1 x2 x3 x4 (ix2 n z) = Spec.mExp (Spec.amax (Spec.unit fun d => yM u v x1 x2 x3 x4 (ix2 n d))) := by
  rw [← pay13_at u v x1 x2 x3 x4 n z]
  exact expoM _ _

theorem codes_at (b : Fin 6) (s : Fin 4096) (d : Fin 3072) :
    k0_pay2 (k0_pay12 u v x2 x3 x4 x1) (k0_pay14 u v x2 x3 x4 x1) (k0_pay15 u v x2 x3 x4 x1) k0_pay16 (ix3 b s d)
      = Spec.unitCode (fun d => yM u v x1 x2 x3 x4 (ix2 (row b s) d)) d := by
  unfold k0_pay2
  refine (shapeCast_apply _ _ _ (ix2 (row b s) d) ?_).trans ?_
  · rw [Shape.rowMajor_val_two, Shape.rowMajor_val_three]
    show (4096 * b.val + s.val) * 3072 + d.val = (b.val * 4096 + s.val) * 3072 + d.val
    omega
  · refine (clipM (k0_pay12 u v x2 x3 x4 x1) (expV u v x1 x2 x3 x4) (row b s) d).trans ?_
    rw [pay12_at, expV_at]
    rfl

theorem scales_at (b : Fin 6) (s : Fin 4095) :
    k0_pay3 (k0_pay14 u v x2 x3 x4 x1) (k0_pay15 u v x2 x3 x4 x1) k0_pay16 (ix2 b s)
      = Spec.unitScale (fun d => yM u v x1 x2 x3 x4 (ix2 (row b s.castSucc) d)) := by
  have e : k0_pay3 (k0_pay14 u v x2 x3 x4 x1) (k0_pay15 u v x2 x3 x4 x1) k0_pay16
      = extractStridedSlice S6x4095 ![0, 0] (shapeCast S6x4096 (exp2 (expV u v x1 x2 x3 x4)) shapeCasts_S24576x1_S6x4096) slices_S6x4096_o0_0_S6x4095 := rfl
  rw [e]
  show shapeCast S6x4096 (exp2 (expV u v x1 x2 x3 x4)) _ _ = _
  refine (shapeCast_apply _ _ _ (ix2 (row b s.castSucc) 0) ?_).trans ?_
  · rw [Shape.rowMajor_val_two, Shape.rowMajor_val_two]
    show (4096 * b.val + s.val) * 1 + 0 = (0 + b.val) * 4096 + (0 + s.val)
    omega
  · rw [exp2E, expV_at]
    rfl

end vectors

end Cert.ReferenceIdeal.Rows
-- ==== Proof.RefHost.lean ====
/- What the reference's kernel is handed, in terms of the program's arguments. -/
module

public import proofs.«01_k».proof.Proof.RefRows
public import Idealize.ShloMosaic.Lib.Claim

@[expose] public section

set_option maxRecDepth 16384

noncomputable section

namespace Cert.ReferenceIdeal.Rows

open Cert Cert.ReferenceIdeal Cert.ReferenceIdeal.Gen
open Idealize.ShloMosaic Idealize.ShloMosaic.TcCoe

variable (m : (ℓ : Loc nD τ sig) → Buf (Elt Ideal) ℓ) (c : Dev nD)

theorem entry49 : V m c main_v49 = shapeCast S6x4096x28x128
      (concatenate S6x4096x3584 1
        [⟨S6x4095x3584, extractStridedSlice S6x4095x3584 ![0, 1, 0] (m ((c : Thread nD τ).loc main_arg0)) slices_S6x4096x3584_S6x4095x3584_0_1_0⟩,
          ⟨S6x1x3584, extractStridedSlice S6x1x3584 ![0, 0, 0] (m ((c : Thread nD τ).loc main_arg0)) slices_S6x4096x3584_S6x1x3584_0_0_0⟩]
        concatenates_S6x4095x3584_S6x1x3584_S6x4096x3584_d1) shapeCasts_S6x4096x3584_S6x4096x28x128 := by
  unfold V
  simp only [hostOps0, hostOps0_1, hostOps0_2, hostOps0_3, hostOps0_4, List.flatten_cons, List.flatten_nil, List.append_nil, List.cons_append, List.nil_append]
  entry_read
  rfl

/-- Which tokens carry a colbert vector, as the host counts them. -/
def liveI (len : IVec S6 32) : IVec S6x4096 32 :=
  extui 32 (cmpi .slt
    (broadcastInDim S6x4096 ![0, 1] bcast_S1x4096_S6x4096_0_1
      (addi (broadcastInDim S1x4096 ![1] bcast_S4096_S1x4096_1 (iotaInDim S4096 32 0)) (broadcastInDim S1x4096 ![] bcast_S_S1x4096 (constantI S_ 32 1#32))))
    (broadcastInDim S6x4096 ![0, 1] bcast_S6x1_S6x4096_0_1 (broadcastInDim S6x1 ![0] bcast_S6_S6x1_0 len))) natLt_1_32

theorem entry50 : V m c main_v50 = shapeCast S6x4096x1 (liveI (m ((c : Thread nD τ).loc main_arg1))) shapeCasts_S6x4096_S6x4096x1 := by
  unfold V
  simp only [hostOps0, hostOps0_1, hostOps0_2, hostOps0_3, hostOps0_4, List.flatten_cons, List.flatten_nil, List.append_nil, List.cons_append, List.nil_append]
  entry_read
  rfl

theorem entry51 : V m c main_v51 = shapeCast S1x3072 (m ((c : Thread nD τ).loc main_arg6)) shapeCasts_S3072_S1x3072 := by
  unfold V
  simp only [hostOps0, hostOps0_1, hostOps0_2, hostOps0_3, hostOps0_4, List.flatten_cons, List.flatten_nil, List.append_nil, List.cons_append, List.nil_append]
  entry_read
  rfl

theorem entry52 : V m c main_v52 = shapeCast S1x3072 (m ((c : Thread nD τ).loc main_arg7)) shapeCasts_S3072_S1x3072 := by
  unfold V
  simp only [hostOps0, hostOps0_1, hostOps0_2, hostOps0_3, hostOps0_4, List.flatten_cons, List.flatten_nil, List.append_nil, List.cons_append, List.nil_append]
  entry_read
  rfl

theorem next_at (a : FVec Ideal S6x4096x3584 .bf16) (b : Fin 6) (s : Fin 4096) (hs : s.val < 4095) (d : Fin 3584) :
    concatenate S6x4096x3584 1
      [⟨S6x4095x3584, extractStridedSlice S6x4095x3584 ![0, 1, 0] a slices_S6x4096x3584_S6x4095x3584_0_1_0⟩,
        ⟨S6x1x3584, extractStridedSlice S6x1x3584 ![0, 0, 0] a slices_S6x4096x3584_S6x1x3584_0_0_0⟩]
      concatenates_S6x4095x3584_S6x1x3584_S6x4096x3584_d1 (ix3 b s d) = a (ix3 b (⟨s.val + 1, by omega⟩ : Fin 4096) d) := by
  pointwise []
  exact (dif_pos hs).trans (congrArg (fun q : Fin 4096 => a (ix3 b q d)) (Fin.ext (Nat.add_comm 1 s.val)))

theorem liveI_at (len : IVec S6 32) (b : Fin 6) (s : Fin 4096) :
    liveI len (ix2 b s) = 1#32 ↔ ((s.val + 1 : ℕ) : ℤ) < (len (ix1 b)).toInt := by
  unfold liveI
  pointwise []
  have h1 : ∀ w : BitVec 1, w.setWidth 32 = 1#32 ↔ w = 1#1 := by decide
  have h2 : IntOp.addi (BitVec.ofNat 32 s.val) 1#32 = BitVec.ofNat 32 (s.val + 1) := by
    rw [BitVec.ofNat_add]; rfl
  have h3 : (BitVec.ofNat 32 (s.val + 1)).toInt = ((s.val + 1 : ℕ) : ℤ) := by
    rw [BitVec.toInt_eq_toNat_of_lt (by rw [BitVec.toNat_ofNat]; omega), BitVec.toNat_ofNat, Nat.mod_eq_of_lt (by omega)]
  rw [h1, h2, IntOp.cmpi_slt, h3]

theorem v49_at (b : Fin 6) (s : Fin 4096) (hs : s.val < 4095) (g : Fin 28) (l : Fin 128) :
    (V m c main_v49 : Vec Ideal S6x4096x28x128 .bf16) (ix4 b s g l)
      = (m ((c : Thread nD τ).loc main_arg0) : Vec Ideal S6x4096x3584 .bf16) (ix3 b (⟨s.val + 1, by omega⟩ : Fin 4096) (⟨128 * g.val + l.val, by omega⟩ : Fin 3584)) := by
  rw [entry49]
  refine (shapeCast_apply _ _ _ (ix3 b s (⟨128 * g.val + l.val, by omega⟩ : Fin 3584)) ?_).trans (next_at _ b s hs _)
  rw [Shape.rowMajor_val_three, Shape.rowMajor_val_four]
  show (b.val * 4096 + s.val) * 3584 + (128 * g.val + l.val) = ((b.val * 4096 + s.val) * 28 + g.val) * 128 + l.val
  omega

theorem v50_at (b : Fin 6) (s : Fin 4096) (z : Fin 1) :
    (V m c main_v50 : Vec Ideal S6x4096x1 .i32) (ix3 b s z) = liveI (m ((c : Thread nD τ).loc main_arg1)) (ix2 b s) := by
  rw [entry50]
  refine shapeCast_apply _ _ _ _ ?_
  rw [Shape.rowMajor_val_three, Shape.rowMajor_val_two]
  show b.val * 4096 + s.val = (b.val * 4096 + s.val) * 1 + z.val
  omega

end Cert.ReferenceIdeal.Rows
-- ==== Proof.RefArr.lean ====
/- The reference's results, element by element. -/
module

public import proofs.«01_k».proof.Proof.RefHost
public import Idealize.ShloMosaic.Lib.Pipeline.ValueKit.Basic

@[expose] public section

set_option maxRecDepth 16384

noncomputable section

namespace Cert.ReferenceIdeal.Rows

open Cert Cert.ReferenceIdeal Cert.ReferenceIdeal.Gen Cert.ReferenceIdeal.Value
open Idealize.ShloMosaic Idealize.ShloMosaic.TcCoe

variable (m : (ℓ : Loc nD τ sig) → Buf (Elt Ideal) ℓ) (c : Dev nD)

/-- The one point of the grid. -/
abbrev t0 : Fin cfg0.N := ⟨0, by decide⟩

/-! ## What each window reads: the whole array -/

theorem emb0 (G : Vec Ideal S6x4096x28x128 .bf16) (i : S6x4096x28x128.Idx) : ((cfg0.win 0).blk t0).view.read (Elt Ideal) G i = G i := by
  refine (View.read_apply ..).trans ?_
  show G _ = G _
  congr 1
  funext a
  apply Fin.ext
  match a with
  | ⟨0, _⟩ => show 0 * 6 + 1 * (i 0).val = (i 0).val; omega
  | ⟨1, _⟩ => show 0 * 4096 + 1 * (i 1).val = (i 1).val; omega
  | ⟨2, _⟩ => show 0 * 28 + 1 * (i 2).val = (i 2).val; omega
  | ⟨3, _⟩ => show 0 * 128 + 1 * (i 3).val = (i 3).val; omega

theorem iblk0_eq : (iblk m c 0 t0 : Vec Ideal S6x4096x28x128 .bf16) = (V m c main_v49 : Vec Ideal S6x4096x28x128 .bf16) :=
  funext fun i => emb0 (V m c main_v49) i

theorem emb1 (G : Vec Ideal S6x4096x1 .i32) (i : S6x4096x1.Idx) : ((cfg0.win 1).blk t0).view.read (Elt Ideal) G i = G i := by
  refine (View.read_apply ..).trans ?_
  show G _ = G _
  congr 1
  funext a
  apply Fin.ext
  match a with
  | ⟨0, _⟩ => show 0 * 6 + 1 * (i 0).val = (i 0).val; omega
  | ⟨1, _⟩ => show 0 * 4096 + 1 * (i 1).val = (i 1).val; omega
  | ⟨2, _⟩ => show 0 * 1 + 1 * (i 2).val = (i 2).val; omega

theorem iblk1_eq : (iblk m c 1 t0 : Vec Ideal S6x4096x1 .i32) = (V m c main_v50 : Vec Ideal S6x4096x1 .i32) :=
  funext fun i => emb1 (V m c main_v50) i

theorem emb2 (G : Vec Ideal S3584x3072 .fp8e4m3) (i : S3584x3072.Idx) : ((cfg0.win 2).blk t0).view.read (Elt Ideal) G i = G i := by
  refine (View.read_apply ..).trans ?_
  show G _ = G _
  congr 1
  funext a
  apply Fin.ext
  match a with
  | ⟨0, _⟩ => show 0 * 3584 + 1 * (i 0).val = (i 0).val; omega
  | ⟨1, _⟩ => show 0 * 3072 + 1 * (i 1).val = (i 1).val; omega

theorem iblk2_eq : (iblk m c 2 t0 : Vec Ideal S3584x3072 .fp8e4m3) = (V m c main_arg5 : Vec Ideal S3584x3072 .fp8e4m3) :=
  funext fun i => emb2 (V m c main_arg5) i

theorem emb3 (G : Vec Ideal S1x3072 .f32) (i : S1x3072.Idx) : ((cfg0.win 3).blk t0).view.read (Elt Ideal) G i = G i := by
  refine (View.read_apply ..).trans ?_
  show G _ = G _
  congr 1
  funext a
  apply Fin.ext
  match a with
  | ⟨0, _⟩ => show 0 * 1 + 1 * (i 0).val = (i 0).val; omega
  | ⟨1, _⟩ => show 0 * 3072 + 1 * (i 1).val = (i 1).val; omega

theorem iblk3_eq : (iblk m c 3 t0 : Vec Ideal S1x3072 .f32) = (V m c main_v51 : Vec Ideal S1x3072 .f32) :=
  funext fun i => emb3 (V m c main_v51) i

theorem emb4 (G : Vec Ideal S1x3072 .f32) (i : S1x3072.Idx) : ((cfg0.win 4).blk t0).view.read (Elt Ideal) G i = G i := by
  refine (View.read_apply ..).trans ?_
  show G _ = G _
  congr 1
  funext a
  apply Fin.ext
  match a with
  | ⟨0, _⟩ => show 0 * 1 + 1 * (i 0).val = (i 0).val; omega
  | ⟨1, _⟩ => show 0 * 3072 + 1 * (i 1).val = (i 1).val; omega

theorem iblk4_eq : (iblk m c 4 t0 : Vec Ideal S1x3072 .f32) = (V m c main_v52 : Vec Ideal S1x3072 .f32) :=
  funext fun i => emb4 (V m c main_v52) i

theorem emb5 (G : Vec Ideal S6x4096x3072 .fp8e4m3) (i : S6x4096x3072.Idx) : ((cfg0.win 5).blk t0).view.read (Elt Ideal) G i = G i := by
  refine (View.read_apply ..).trans ?_
  show G _ = G _
  congr 1
  funext a
  apply Fin.ext
  match a with
  | ⟨0, _⟩ => show 0 * 6 + 1 * (i 0).val = (i 0).val; omega
  | ⟨1, _⟩ => show 0 * 4096 + 1 * (i 1).val = (i 1).val; omega
  | ⟨2, _⟩ => show 0 * 3072 + 1 * (i 2).val = (i 2).val; omega

theorem cut5 (Y : Vec Ideal S6x4096x3072 .fp8e4m3) (i : S6x4096x3072.Idx) : (cfg0.win 5).cut (grid0.coords t0) Y i = Y i := rfl

theorem out5_read (i : S6x4096x3072.Idx) :
    ((dats m 0 c).arrAt 5 cfg0.N : Vec Ideal S6x4096x3072 .fp8e4m3) i
      = out0_5 (V m c main_v49 : Vec Ideal S6x4096x28x128 .bf16) (V m c main_v50 : Vec Ideal S6x4096x1 .i32) (V m c main_arg5 : Vec Ideal S3584x3072 .fp8e4m3) (V m c main_v51 : Vec Ideal S1x3072 .f32) (V m c main_v52 : Vec Ideal S1x3072 .f32) i := by
  rw [← iblk0_eq, ← iblk1_eq, ← iblk2_eq, ← iblk3_eq, ← iblk4_eq]
  exact (emb5 ((dats m 0 c).arrAt 5 cfg0.N) i).symm.trans ((congrFun ((blocks5 m c t0 (by decide)).trans (flushed5 m c t0)) i).trans
    (cut5 (out0_5 (iblk m c 0 t0) (iblk m c 1 t0) (iblk m c 2 t0) (iblk m c 3 t0) (iblk m c 4 t0)) i))

theorem emb6 (G : Vec Ideal S6x4095 .f32) (i : S6x4095.Idx) : ((cfg0.win 6).blk t0).view.read (Elt Ideal) G i = G i := by
  refine (View.read_apply ..).trans ?_
  show G _ = G _
  congr 1
  funext a
  apply Fin.ext
  match a with
  | ⟨0, _⟩ => show 0 * 6 + 1 * (i 0).val = (i 0).val; omega
  | ⟨1, _⟩ => show 0 * 4095 + 1 * (i 1).val = (i 1).val; omega

theorem cut6 (Y : Vec Ideal S6x4095 .f32) (i : S6x4095.Idx) : (cfg0.win 6).cut (grid0.coords t0) Y i = Y i := rfl

theorem out6_read (i : S6x4095.Idx) :
    ((dats m 0 c).arrAt 6 cfg0.N : Vec Ideal S6x4095 .f32) i
      = out0_6 (V m c main_v49 : Vec Ideal S6x4096x28x128 .bf16) (V m c main_v50 : Vec Ideal S6x4096x1 .i32) (V m c main_arg5 : Vec Ideal S3584x3072 .fp8e4m3) (V m c main_v51 : Vec Ideal S1x3072 .f32) (V m c main_v52 : Vec Ideal S1x3072 .f32) i := by
  rw [← iblk0_eq, ← iblk1_eq, ← iblk2_eq, ← iblk3_eq, ← iblk4_eq]
  exact (emb6 ((dats m 0 c).arrAt 6 cfg0.N) i).symm.trans ((congrFun ((blocks6 m c t0 (by decide)).trans (flushed6 m c t0)) i).trans
    (cut6 (out0_6 (iblk m c 0 t0) (iblk m c 1 t0) (iblk m c 2 t0) (iblk m c 3 t0) (iblk m c 4 t0)) i))

theorem emb7 (G : Vec Ideal S6x4096x3584 .fp8e4m3) (i : S6x4096x3584.Idx) : ((cfg0.win 7).blk t0).view.read (Elt Ideal) G i = G i := by
  refine (View.read_apply ..).trans ?_
  show G _ = G _
  congr 1
  funext a
  apply Fin.ext
  match a with
  | ⟨0, _⟩ => show 0 * 6 + 1 * (i 0).val = (i 0).val; omega
  | ⟨1, _⟩ => show 0 * 4096 + 1 * (i 1).val = (i 1).val; omega
  | ⟨2, _⟩ => show 0 * 3584 + 1 * (i 2).val = (i 2).val; omega

theorem cut7 (Y : Vec Ideal S6x4096x3584 .fp8e4m3) (i : S6x4096x3584.Idx) : (cfg0.win 7).cut (grid0.coords t0) Y i = Y i := rfl

theorem out7_read (i : S6x4096x3584.Idx) :
    ((dats m 0 c).arrAt 7 cfg0.N : Vec Ideal S6x4096x3584 .fp8e4m3) i
      = out0_7 (V m c main_v49 : Vec Ideal S6x4096x28x128 .bf16) (V m c main_v50 : Vec Ideal S6x4096x1 .i32) (V m c main_arg5 : Vec Ideal S3584x3072 .fp8e4m3) (V m c main_v51 : Vec Ideal S1x3072 .f32) (V m c main_v52 : Vec Ideal S1x3072 .f32) i := by
  rw [← iblk0_eq, ← iblk1_eq, ← iblk2_eq, ← iblk3_eq, ← iblk4_eq]
  exact (emb7 ((dats m 0 c).arrAt 7 cfg0.N) i).symm.trans ((congrFun ((blocks7 m c t0 (by decide)).trans (flushed7 m c t0)) i).trans
    (cut7 (out0_7 (iblk m c 0 t0) (iblk m c 1 t0) (iblk m c 2 t0) (iblk m c 3 t0) (iblk m c 4 t0)) i))

theorem emb8 (G : Vec Ideal S6x4095x28 .f32) (i : S6x4095x28.Idx) : ((cfg0.win 8).blk t0).view.read (Elt Ideal) G i = G i := by
  refine (View.read_apply ..).trans ?_
  show G _ = G _
  congr 1
  funext a
  apply Fin.ext
  match a with
  | ⟨0, _⟩ => show 0 * 6 + 1 * (i 0).val = (i 0).val; omega
  | ⟨1, _⟩ => show 0 * 4095 + 1 * (i 1).val = (i 1).val; omega
  | ⟨2, _⟩ => show 0 * 28 + 1 * (i 2).val = (i 2).val; omega

theorem cut8 (Y : Vec Ideal S6x4095x28 .f32) (i : S6x4095x28.Idx) : (cfg0.win 8).cut (grid0.coords t0) Y i = Y i := rfl

theorem out8_read (i : S6x4095x28.Idx) :
    ((dats m 0 c).arrAt 8 cfg0.N : Vec Ideal S6x4095x28 .f32) i
      = out0_8 (V m c main_v49 : Vec Ideal S6x4096x28x128 .bf16) (V m c main_v50 : Vec Ideal S6x4096x1 .i32) (V m c main_arg5 : Vec Ideal S3584x3072 .fp8e4m3) (V m c main_v51 : Vec Ideal S1x3072 .f32) (V m c main_v52 : Vec Ideal S1x3072 .f32) i := by
  rw [← iblk0_eq, ← iblk1_eq, ← iblk2_eq, ← iblk3_eq, ← iblk4_eq]
  exact (emb8 ((dats m 0 c).arrAt 8 cfg0.N) i).symm.trans ((congrFun ((blocks8 m c t0 (by decide)).trans (flushed8 m c t0)) i).trans
    (cut8 (out0_8 (iblk m c 0 t0) (iblk m c 1 t0) (iblk m c 2 t0) (iblk m c 3 t0) (iblk m c 4 t0)) i))

end Cert.ReferenceIdeal.Rows
-- ==== Proof.RefOut.lean ====
/- What the reference's kernel stores, element by element, in terms of what it is handed. -/
module

public import proofs.«01_k».proof.Proof.RefRows
public import Idealize.ShloMosaic.Lib.Pipeline.ValueKit.Basic

@[expose] public section

set_option maxRecDepth 16384

noncomputable section

namespace Cert.ReferenceIdeal.Rows

open Cert Cert.ReferenceIdeal Cert.ReferenceIdeal.Gen
open Idealize.ShloMosaic Idealize.ShloMosaic.TcCoe

variable (x0 : Vec Ideal S6x4096x28x128 .bf16) (x1 : Vec Ideal S6x4096x1 .i32) (x2 : Vec Ideal S3584x3072 .fp8e4m3) (x3 x4 : Vec Ideal S1x3072 .f32)

theorem ld0 : View.ld x0 r0_0 = x0 := View.ld_unit_lit _ x0 (by decide)
theorem ld1 : View.ld x1 r0_5 = x1 := View.ld_unit_lit _ x1 (by decide)
theorem ld2 : View.ld x2 r0_3 = x2 := View.ld_unit_lit _ x2 (by decide)
theorem ld3 : View.ld x3 r0_4 = x3 := View.ld_unit_lit _ x3 (by decide)

theorem out7_at (b : Fin 6) (s : Fin 4096) (d : Fin 3584) : out0_7 x0 x1 x2 x3 x4 (ix3 b s d) = Spec.rowCode (xr x0 b s) d := by
  have e : out0_7 x0 x1 x2 x3 x4 = k0_pay8 (View.ld x0 r0_0) := View.canon_cons_unit_lit _ _ [] (by decide)
  rw [e, ld0, pay8_at]

theorem out8_at (b : Fin 6) (s : Fin 4095) (g : Fin 28) : out0_8 x0 x1 x2 x3 x4 (ix3 b s g) = Spec.rowScale (xr x0 b s.castSucc) g := by
  have e : out0_8 x0 x1 x2 x3 x4 = k0_pay9 (View.ld x0 r0_0) := View.canon_cons_unit_lit _ _ [] (by decide)
  rw [e, ld0, pay9_at]

/-- The colbert vector of a token before it is normed. -/
abbrev yr (b : Fin 6) (s : Fin 4096) : Fin 3072 → EReal :=
  Spec.rowY (xr x0 b s) (x1 (ix3 b s 0) = 1#32) (fun k d => x2 (ix2 k d)) (fun d => x3 (ix2 0 d)) (fun d => x4 (ix2 0 d))

theorem back_at (b : Fin 6) (s : Fin 4096) (k : Fin 3584) :
    k0_pay10 x0 (ix3 (row b s) (Spec.grp k) (⟨k.val % 128, by omega⟩ : Fin 128))
      * k0_pay11 x0 (ix3 (row b s) (Spec.grp k) (⟨k.val % 128, by omega⟩ : Fin 128)) = Spec.rowBack (xr x0 b s) k := by
  have e1 : k0_pay10 x0 (ix3 (row b s) (Spec.grp k) (⟨k.val % 128, by omega⟩ : Fin 128))
      = k0_pay7 x0 (ix3 (row b s) (Spec.grp k) (⟨k.val % 128, by omega⟩ : Fin 128)) := by
    unfold k0_pay10
    generalize k0_pay7 x0 = e
    exact extE _ _
  have e2 : k0_pay11 x0 (ix3 (row b s) (Spec.grp k) (⟨k.val % 128, by omega⟩ : Fin 128)) = k0_pay6 x0 (ix3 (row b s) (Spec.grp k) 0) := by
    unfold k0_pay11
    generalize k0_pay6 x0 = e
    exact (spreadB _ _ _ _).trans (truncE _ _)
  rw [e1, e2, pay7_at, pay6_at, gmax_eq]
  rfl

theorem yM_row (b : Fin 6) (s : Fin 4096) (d : Fin 3072) : yM (k0_pay10 x0) (k0_pay11 x0) x1 x2 x3 x4 (ix2 (row b s) d) = yr x0 x1 x2 x3 x4 b s d := by
  rw [yM_at]
  simp only [back_at]
  rfl

theorem out5_at (b : Fin 6) (s : Fin 4096) (d : Fin 3072) : out0_5 x0 x1 x2 x3 x4 (ix3 b s d) = Spec.unitCode (yr x0 x1 x2 x3 x4 b s) d := by
  have e : out0_5 x0 x1 x2 x3 x4 = k0_pay2 (k0_pay12 (k0_pay10 (View.ld x0 r0_0)) (k0_pay11 (View.ld x0 r0_0)) (View.ld x2 r0_3) (View.ld x3 r0_4) (View.ld x4 r0_4) (View.ld x1 r0_5))
      (k0_pay14 (k0_pay10 (View.ld x0 r0_0)) (k0_pay11 (View.ld x0 r0_0)) (View.ld x2 r0_3) (View.ld x3 r0_4) (View.ld x4 r0_4) (View.ld x1 r0_5))
      (k0_pay15 (k0_pay10 (View.ld x0 r0_0)) (k0_pay11 (View.ld x0 r0_0)) (View.ld x2 r0_3) (View.ld x3 r0_4) (View.ld x4 r0_4) (View.ld x1 r0_5)) k0_pay16 :=
    View.canon_cons_unit_lit _ _ [] (by decide)
  rw [e, ld0, ld1, ld2, ld3, ld3, codes_at]
  congr 1
  funext d
  exact yM_row x0 x1 x2 x3 x4 b s d

theorem out6_at (b : Fin 6) (s : Fin 4095) : out0_6 x0 x1 x2 x3 x4 (ix2 b s) = Spec.unitScale (yr x0 x1 x2 x3 x4 b s.castSucc) := by
  have e : out0_6 x0 x1 x2 x3 x4 = k0_pay3
      (k0_pay14 (k0_pay10 (View.ld x0 r0_0)) (k0_pay11 (View.ld x0 r0_0)) (View.ld x2 r0_3) (View.ld x3 r0_4) (View.ld x4 r0_4) (View.ld x1 r0_5))
      (k0_pay15 (k0_pay10 (View.ld x0 r0_0)) (k0_pay11 (View.ld x0 r0_0)) (View.ld x2 r0_3) (View.ld x3 r0_4) (View.ld x4 r0_4) (View.ld x1 r0_5)) k0_pay16 :=
    View.canon_cons_unit_lit _ _ [] (by decide)
  rw [e, ld0, ld1, ld2, ld3, ld3, scales_at]
  congr 1
  funext d
  exact yM_row x0 x1 x2 x3 x4 b s.castSucc d

end Cert.ReferenceIdeal.Rows
-- ==== Proof.Agree.lean ====
/- The two programs agree: each result of the kernel on the tokens' rows is the reference's, element by element. -/
module

public import proofs.«01_k».proof.Proof.Final
public import proofs.«01_k».proof.Proof.KerHost
public import proofs.«01_k».proof.Proof.RefArr
public import proofs.«01_k».proof.Proof.RefOut
public import proofs.«01_k».proof.Proof.Gen.On_rows_of_tokens

@[expose] public section

set_option maxRecDepth 16384

noncomputable section

namespace Cert.Agree

open Cert Idealize.ShloMosaic Idealize.ShloMosaic.TcCoe

/-! ## The rows the claim is about -/

section mask

variable (a0 : FVec Ideal On_rows_of_tokens.S6x4096x3584 .bf16) (a1 : IVec On_rows_of_tokens.S6 32) (a2 : IVec On_rows_of_tokens.S6x4096 32)
  (a3 : FVec Ideal On_rows_of_tokens.S3584 .f32) (a4 : FVec Ideal On_rows_of_tokens.S1 .f32) (a5 : FVec Ideal On_rows_of_tokens.S3584x3072 .fp8e4m3)
  (a6 a7 : FVec Ideal On_rows_of_tokens.S3072 .f32)

theorem slt_small (s : Fin 4096) : IntOp.cmpi .slt (BitVec.ofNat 32 s.val) 4095#32 = 1#1 → s.val < 4095 := by
  rw [IntOp.cmpi_slt]
  have h1 : (BitVec.ofNat 32 s.val).toInt = (s.val : ℤ) := by
    rw [BitVec.toInt_eq_toNat_of_lt (by rw [BitVec.toNat_ofNat]; omega), BitVec.toNat_ofNat, Nat.mod_eq_of_lt (by omega)]
  have h2 : (4095#32).toInt = 4095 := by decide
  rw [h1, h2]
  omega

theorem mask3 (b : Fin 6) (s : Fin 4096) (d : Fin 3072) :
    (On_rows_of_tokens.fn (F := Ideal) a0 a1 a2 a3 a4 a5 a6 a7).2.2.2.1 (ix3 b s d) = 1#1 → s.val < 4095 := by
  intro h
  apply slt_small s
  rw [← h]
  symm
  pointwise [On_rows_of_tokens.fn]

theorem mask5 (b : Fin 6) (s : Fin 4096) (d : Fin 3584) :
    (On_rows_of_tokens.fn (F := Ideal) a0 a1 a2 a3 a4 a5 a6 a7).2.2.2.2.2.1 (ix3 b s d) = 1#1 → s.val < 4095 := by
  intro h
  apply slt_small s
  rw [← h]
  symm
  pointwise [On_rows_of_tokens.fn]

theorem mask0 (i : On_rows_of_tokens.S6x3584.Idx) : (On_rows_of_tokens.fn (F := Ideal) a0 a1 a2 a3 a4 a5 a6 a7).1 i ≠ 1#1 := by
  have h : (On_rows_of_tokens.fn (F := Ideal) a0 a1 a2 a3 a4 a5 a6 a7).1 i = 0#1 := rfl
  rw [h]; decide

theorem mask1 (i : On_rows_of_tokens.S6x4096.Idx) : (On_rows_of_tokens.fn (F := Ideal) a0 a1 a2 a3 a4 a5 a6 a7).2.1 i ≠ 1#1 := by
  have h : (On_rows_of_tokens.fn (F := Ideal) a0 a1 a2 a3 a4 a5 a6 a7).2.1 i = 0#1 := rfl
  rw [h]; decide

theorem mask2 (i : On_rows_of_tokens.S6x4096.Idx) : (On_rows_of_tokens.fn (F := Ideal) a0 a1 a2 a3 a4 a5 a6 a7).2.2.1 i ≠ 1#1 := by
  have h : (On_rows_of_tokens.fn (F := Ideal) a0 a1 a2 a3 a4 a5 a6 a7).2.2.1 i = 0#1 := rfl
  rw [h]; decide

end mask

/-! ## The rows both programs work on -/

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

abbrev r49 : Vec Ideal ReferenceIdeal.S6x4096x28x128 .bf16 := ReferenceIdeal.Gen.V m' c ReferenceIdeal.main_v49
abbrev r50 : Vec Ideal ReferenceIdeal.S6x4096x1 .i32 := ReferenceIdeal.Gen.V m' c ReferenceIdeal.main_v50
abbrev rW : Vec Ideal ReferenceIdeal.S3584x3072 .fp8e4m3 := ReferenceIdeal.Gen.V m' c ReferenceIdeal.main_arg5
abbrev r51 : Vec Ideal ReferenceIdeal.S1x3072 .f32 := ReferenceIdeal.Gen.V m' c ReferenceIdeal.main_v51
abbrev r52 : Vec Ideal ReferenceIdeal.S1x3072 .f32 := ReferenceIdeal.Gen.V m' c ReferenceIdeal.main_v52

/-- The reference's row of a token, which the host has moved up by one, is the kernel's row of the next token. -/
theorem row_eq (h0 : m' ((c.tc : Thread ReferenceIdeal.nD ReferenceIdeal.τ).loc ReferenceIdeal.main_arg0) = m ((c.tc : Thread KernelIdeal.nD KernelIdeal.τ).loc KernelIdeal.main_arg0))
    (b : Fin 6) (s : Fin 4096) (hs : s.val < 4095) :
    ReferenceIdeal.Rows.xr (r49 m' c) b s = KernelIdeal.Hand.tok m c b.val (s.val + 1) := by
  funext d
  unfold KernelIdeal.Hand.tok
  rw [dif_pos ⟨b.isLt, by omega⟩]
  refine (ReferenceIdeal.Rows.v49_at m' c b s hs _ _).trans ?_
  rw [h0]
  rw [KernelIdeal.Hand.X0_eq]
  have e : (⟨128 * (d.val / 128) + d.val % 128, by omega⟩ : Fin 3584) = d := Fin.ext (by show 128 * (d.val / 128) + d.val % 128 = d.val; omega)
  exact congrArg (fun q : Fin 3584 => (m ((c.tc : Thread KernelIdeal.nD KernelIdeal.τ).loc KernelIdeal.main_arg0) : Vec Ideal KernelIdeal.S6x4096x3584 .bf16) (ix3 b (⟨s.val + 1, by omega⟩ : Fin 4096) q)) e

theorem len_eq (b : Fin 6) : KernelIdeal.Hand.len m c b.val = (m ((c.tc : Thread KernelIdeal.nD KernelIdeal.τ).loc KernelIdeal.main_arg1) : Vec Ideal KernelIdeal.S6 .i32) (ix1 b) := by
  unfold KernelIdeal.Hand.len
  refine (dif_pos b.isLt).trans ?_
  obtain rfl : c = 0 := Subsingleton.elim _ _
  exact congrFun (KernelIdeal.Hand.V_main_arg1 m 0) (ix1 b)

theorem live_iff (h1 : m' ((c.tc : Thread ReferenceIdeal.nD ReferenceIdeal.τ).loc ReferenceIdeal.main_arg1) = m ((c.tc : Thread KernelIdeal.nD KernelIdeal.τ).loc KernelIdeal.main_arg1))
    (b : Fin 6) (s : Fin 4096) : r50 m' c (ix3 b s 0) = 1#32 ↔ KernelIdeal.Hand.liveAt (KernelIdeal.Hand.len m c b.val) (s.val + 1) := by
  rw [r50, ReferenceIdeal.Rows.v50_at, ReferenceIdeal.Rows.liveI_at, h1, len_eq]
  unfold KernelIdeal.Hand.liveAt
  exact ⟨fun h => ⟨by omega, h⟩, fun h => h.2⟩

theorem rowY_congr {x x' : Fin 3584 → EReal} (hx : x = x') {l l' : Prop} [Decidable l] [Decidable l'] (hl : l ↔ l') {W W' : Fin 3584 → Fin 3072 → EReal}
    (hW : W = W') {ws ws' : Fin 3072 → EReal} (hs : ws = ws') {bc bc' : Fin 3072 → EReal} (hb : bc = bc') :
    Spec.rowY x l W ws bc = Spec.rowY x' l' W' ws' bc' := by
  subst hx hW hs hb
  funext d
  unfold Spec.rowY
  exact if_congr hl rfl rfl

/-- The two programs' vectors of a token before they are normed. -/
theorem vec_eq (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (b : Fin 6) (s : Fin 4096) (hs : s.val < 4095) :
    ReferenceIdeal.Rows.yr (r49 m' c) (r50 m' c) (rW m' c) (r51 m' c) (r52 m' c) b s = KernelIdeal.Hand.yv m c b.val (s.val + 1) := by
  unfold KernelIdeal.Hand.yv KernelIdeal.Hand.yRow
  refine rowY_congr (row_eq m m' c h0 b s hs) (live_iff m m' c h1 b s) ?_ ?_ ?_
  · funext k d
    rw [rW, ReferenceIdeal.Gen.V_main_arg5, h5, KernelIdeal.Hand.X4_eq]
  · funext d
    rw [r51, ReferenceIdeal.Rows.entry51, KernelIdeal.Hand.X5_eq, h6]
  · funext d
    rw [r52, ReferenceIdeal.Rows.entry52, KernelIdeal.Hand.X6_eq, h7]

end Cert.Agree
-- ==== Proof.Algebraic.lean ====
/- The value claim: on the tokens' rows the kernel's four arrays of vectors and tokens are the reference's. -/
module

public import proofs.«01_k».proof.Defs
public import proofs.«01_k».proof.Proof.Agree
public import proofs.«01_k».proof.Proof.RefRun

@[expose] public section

set_option maxRecDepth 16384

noncomputable section

namespace Cert.KernelIdeal.Hand

open Cert.KernelIdeal.Gen
open Idealize.ShloMosaic Idealize.ShloMosaic.TcCoe
open Idealize.SL.Sem

variable (m : (ℓ : Loc nD τ sig) → Buf (Elt Ideal) ℓ) (ρ : Dev nD → PrngReg)

/-- No index map of the program reads the table, so the pipeline's side condition of it is trivially true. -/
theorem ok : Ok m := by unfold Ok; trivial

theorem unchangedV : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (ok m) (fun c => rdV m (ok m) c) (A_eqV m (ok m)) ((θ_run defs _ _).mono (fun _ h => h.1) (runV m ρ (ok m)))

/-- The frame of the ideal program, from the run its values are read from. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchangedV m ρ) ((θ_run defs _ _).mono (fun _ h => h.2) (runV m ρ (ok m)))

/-- What the run leaves in the four arrays of vectors and tokens. -/
theorem leaves : θ_run defs (onTc (τ := τ) (main (F := Ideal))) ⟨m, fun _ => 0, ρ⟩ (fun r => ∀ c : Dev nD,
      (rdV m (ok m) c).ArrAt 10 (cfgM m (ok m)).N (r.2.mem ((c.tc : Thread nD τ).loc main_v3_3))
      ∧ (rdV m (ok m) c).ArrAt 11 (cfgM m (ok m)).N (r.2.mem ((c.tc : Thread nD τ).loc main_v3_4))
      ∧ (rdV m (ok m) c).ArrAt 12 (cfgM m (ok m)).N (r.2.mem ((c.tc : Thread nD τ).loc main_v3_5))
      ∧ (rdV m (ok m) c).ArrAt 13 (cfgM m (ok m)).N (r.2.mem ((c.tc : Thread nD τ).loc main_v3_6))) :=
  (θ_run defs _ _).mono (fun _ h c => ⟨(h.1 c).1 10, (h.1 c).1 11, (h.1 c).1 12, (h.1 c).1 13⟩) (runV m ρ (ok m))

end Cert.KernelIdeal.Hand

namespace Cert.Agree

open Cert Idealize.ShloMosaic Idealize.ShloMosaic.TcCoe
open Idealize.SL.Sem

/-- The programs are started on the same arguments. -/
abbrev Same (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg5) = m ((c.tc : Thread KernelIdeal.nD KernelIdeal.τ).loc KernelIdeal.main_arg5)
  ∧ m' ((c.tc : Thread ReferenceIdeal.nD ReferenceIdeal.τ).loc ReferenceIdeal.main_arg6) = m ((c.tc : Thread KernelIdeal.nD KernelIdeal.τ).loc KernelIdeal.main_arg6)
  ∧ m' ((c.tc : Thread ReferenceIdeal.nD ReferenceIdeal.τ).loc ReferenceIdeal.main_arg7) = m ((c.tc : Thread KernelIdeal.nD KernelIdeal.τ).loc KernelIdeal.main_arg7)

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The reference's four arrays at the end of its run. -/
abbrev ref3 : Vec Ideal KernelIdeal.S6x4096x3072 .fp8e4m3 := (ReferenceIdeal.Gen.dats m' 0 c).arrAt 5 ReferenceIdeal.cfg0.N
abbrev ref4 : Vec Ideal KernelIdeal.S6x4095 .f32 := (ReferenceIdeal.Gen.dats m' 0 c).arrAt 6 ReferenceIdeal.cfg0.N
abbrev ref5 : Vec Ideal KernelIdeal.S6x4096x3584 .fp8e4m3 := (ReferenceIdeal.Gen.dats m' 0 c).arrAt 7 ReferenceIdeal.cfg0.N
abbrev ref6 : Vec Ideal KernelIdeal.S6x4095x28 .f32 := (ReferenceIdeal.Gen.dats m' 0 c).arrAt 8 ReferenceIdeal.cfg0.N

theorem eta3 {a b e : ℕ} (i : (⟨3, ![a, b, e]⟩ : Shape).Idx) : ∃ (p : Fin a) (q : Fin b) (r : Fin e), i = ix3 p q r :=
  ⟨i 0, i 1, i 2, by funext k; match k with | 0 => rfl | 1 => rfl | 2 => rfl⟩

theorem eta2 {a b : ℕ} (i : (⟨2, ![a, b]⟩ : Shape).Idx) : ∃ (p : Fin a) (q : Fin b), i = ix2 p q :=
  ⟨i 0, i 1, by funext k; match k with | 0 => rfl | 1 => rfl⟩

variable (h : Same m m' c)
include h

theorem agree3 (G : Vec Ideal KernelIdeal.S6x4096x3072 .fp8e4m3)
    (hG : (KernelIdeal.Hand.rdV m (KernelIdeal.Hand.ok m) c).ArrAt 10 (KernelIdeal.Hand.cfgM m (KernelIdeal.Hand.ok m)).N G)
    (b : Fin 6) (s : Fin 4096) (hs : s.val < 4095) (d : Fin 3072) : G (ix3 b s d) = ref3 m' c (ix3 b s d) := by
  refine (KernelIdeal.Hand.arr10 m _ c G hG b s hs d).trans ?_
  rw [← vec_eq m m' c h.1 h.2.1 h.2.2.1 h.2.2.2.1 h.2.2.2.2 b s hs]
  exact ((ReferenceIdeal.Rows.out5_read m' c (ix3 b s d)).trans (ReferenceIdeal.Rows.out5_at _ _ _ _ _ b s d)).symm

theorem agree4 (G : Vec Ideal KernelIdeal.S6x4095 .f32)
    (hG : (KernelIdeal.Hand.rdV m (KernelIdeal.Hand.ok m) c).ArrAt 11 (KernelIdeal.Hand.cfgM m (KernelIdeal.Hand.ok m)).N G)
    (b : Fin 6) (s : Fin 4095) : G (ix2 b s) = ref4 m' c (ix2 b s) := by
  refine (KernelIdeal.Hand.arr11 m _ c G hG b s).trans ?_
  have e := vec_eq m m' c h.1 h.2.1 h.2.2.1 h.2.2.2.1 h.2.2.2.2 b s.castSucc s.isLt
  exact ((congrArg Spec.unitScale e).symm.trans
    ((ReferenceIdeal.Rows.out6_read m' c (ix2 b s)).trans (ReferenceIdeal.Rows.out6_at _ _ _ _ _ b s)).symm)

theorem agree5 (G : Vec Ideal KernelIdeal.S6x4096x3584 .fp8e4m3)
    (hG : (KernelIdeal.Hand.rdV m (KernelIdeal.Hand.ok m) c).ArrAt 12 (KernelIdeal.Hand.cfgM m (KernelIdeal.Hand.ok m)).N G)
    (b : Fin 6) (s : Fin 4096) (hs : s.val < 4095) (d : Fin 3584) : G (ix3 b s d) = ref5 m' c (ix3 b s d) := by
  refine (KernelIdeal.Hand.arr12 m _ c G hG b s hs d).trans ?_
  rw [← row_eq m m' c h.1 b s hs]
  exact ((ReferenceIdeal.Rows.out7_read m' c (ix3 b s d)).trans (ReferenceIdeal.Rows.out7_at _ _ _ _ _ b s d)).symm

theorem agree6 (G : Vec Ideal KernelIdeal.S6x4095x28 .f32)
    (hG : (KernelIdeal.Hand.rdV m (KernelIdeal.Hand.ok m) c).ArrAt 13 (KernelIdeal.Hand.cfgM m (KernelIdeal.Hand.ok m)).N G)
    (b : Fin 6) (s : Fin 4095) (g : Fin 28) : G (ix3 b s g) = ref6 m' c (ix3 b s g) := by
  refine (KernelIdeal.Hand.arr13 m _ c G hG b s s.isLt g).trans ?_
  have e := row_eq m m' c h.1 b s.castSucc s.isLt
  exact ((congrArg (fun x => Spec.rowScale x g) e).symm.trans
    ((ReferenceIdeal.Rows.out8_read m' c (ix3 b s g)).trans (ReferenceIdeal.Rows.out8_at _ _ _ _ _ b s g)).symm)

end Cert.Agree

namespace Cert.Agree

open Cert Idealize.ShloMosaic Idealize.ShloMosaic.TcCoe
open Idealize.SL.Sem

/-- The value claim on the tokens' rows. -/
theorem algebraic : Cert.algebraic_KernelIdeal_ReferenceIdeal_on_rows_of_tokens := by
  intro m g m' g' _ hargs
  have hs : ∀ c : Dev KernelIdeal.nD, Same m m' c := fun c =>
    ⟨(hargs c).1, (hargs c).2.1, (hargs c).2.2.2.2.2.1, (hargs c).2.2.2.2.2.2.1, (hargs c).2.2.2.2.2.2.2⟩
  refine ⟨fun c => m ((c.tc : Thread KernelIdeal.nD KernelIdeal.τ).loc KernelIdeal.main_v3_0), fun c => m ((c.tc : Thread KernelIdeal.nD KernelIdeal.τ).loc KernelIdeal.main_v3_1),
    fun c => m ((c.tc : Thread KernelIdeal.nD KernelIdeal.τ).loc KernelIdeal.main_v3_2), fun c => ref3 m' c, fun c => ref4 m' c, fun c => ref5 m' c, fun c => ref6 m' c, ?_, ?_⟩
  · refine (θ_run KernelIdeal.defs _ _).mono (fun r h c => ?_) (θ_run_and (KernelIdeal.Hand.leaves m g) (KernelIdeal.Hand.unchangedV m g))
    refine ⟨fun i hi => absurd hi (mask0 _ _ _ _ _ _ _ _ i), fun i hi => absurd hi (mask1 _ _ _ _ _ _ _ _ i), fun i hi => absurd hi (mask2 _ _ _ _ _ _ _ _ i),
      ?_, ?_, ?_, ?_, h.2 c⟩
    · intro i hi
      obtain ⟨b, s, d, rfl⟩ := eta3 i
      exact agree3 m m' c (hs c) _ (h.1 c).1 b s (mask3 _ _ _ _ _ _ _ _ b s d hi) d
    · intro i _
      obtain ⟨b, s, rfl⟩ := eta2 i
      exact agree4 m m' c (hs c) _ (h.1 c).2.1 b s
    · intro i hi
      obtain ⟨b, s, d, rfl⟩ := eta3 i
      exact agree5 m m' c (hs c) _ (h.1 c).2.2.1 b s (mask5 _ _ _ _ _ _ _ _ b s d hi) d
    · intro i _
      obtain ⟨b, s, d, rfl⟩ := eta3 i
      exact agree6 m m' c (hs c) _ (h.1 c).2.2.2 b s d
  · refine (θ_run ReferenceIdeal.defs _ _).mono (fun r h c => ?_) (ReferenceIdeal.Value.run_blocks m' g')
    refine ⟨fun i hi => absurd hi (mask0 _ _ _ _ _ _ _ _ i), fun i hi => absurd hi (mask1 _ _ _ _ _ _ _ _ i), fun i hi => absurd hi (mask2 _ _ _ _ _ _ _ _ i),
      fun i _ => congrFun (h c).1 i, fun i _ => congrFun (h c).2.1 i, fun i _ => congrFun (h c).2.2.1 i, fun i _ => congrFun (h c).2.2.2.1 i, (h c).2.2.2.2⟩

end Cert.Agree
-- ==== Proof.lean ====
module

public import proofs.«01_k».proof.Defs
public import proofs.«01_k».proof.Proof.Gen.ReferenceIdeal.Frame
public import proofs.«01_k».proof.Proof.Gen.On_rows_of_tokens
public import proofs.«01_k».proof.Proof.FrameHand
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.On_rows_of_tokens.Gen.facts,
  fun m ρ _ => Cert.Kernel.Hand.frame m ρ (Cert.Kernel.Hand.ok m),
  fun m ρ _ => Cert.KernelIdeal.Hand.frame m ρ,
  fun m ρ _ => Cert.ReferenceIdeal.Gen.frame m ρ,
  trivial,
  Cert.Agree.algebraic⟩

end Cert.Proof

end
